-- ==== Defs.lean ====
def Pre_Hy (m : (ℓ : Loc Cert.Hy.nD Cert.Hy.τ Cert.Hy.sig) → Buf (Elt Bits) ℓ) : Prop :=
  True

def Pre_HyIdeal (m : (ℓ : Loc Cert.HyIdeal.nD Cert.HyIdeal.τ Cert.HyIdeal.sig) → Buf (Elt Ideal) ℓ) : Prop :=
  True

def Pre_HyRefIdeal (m : (ℓ : Loc Cert.HyRefIdeal.nD Cert.HyRefIdeal.τ Cert.HyRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_InCtx (m : (ℓ : Loc Cert.InCtx.nD Cert.InCtx.τ Cert.InCtx.sig) → Buf (Elt Bits) ℓ) : Prop :=
  True

def Pre_InCtxIdeal (m : (ℓ : Loc Cert.InCtxIdeal.nD Cert.InCtxIdeal.τ Cert.InCtxIdeal.sig) → Buf (Elt Ideal) ℓ) : Prop :=
  True

def Pre_InCtxRefIdeal (m : (ℓ : Loc Cert.InCtxRefIdeal.nD Cert.InCtxRefIdeal.τ Cert.InCtxRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaIdeal_finite_modulation [hPre_finite_modulation : Cert.Pre_finite_modulation.Facts] (m : (ℓ : Loc Cert.AdaIdeal.nD Cert.AdaIdeal.τ Cert.AdaIdeal.sig) → Buf (Elt Ideal) ℓ) : Prop :=
  ∀ c : Dev Cert.AdaIdeal.nD,
    (Cert.Pre_finite_modulation.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)) (m ((c.tc : Thread Cert.AdaIdeal.nD Cert.AdaIdeal.τ).loc Cert.AdaIdeal.main_arg3))) = (fun _ => 1#1)

def Pre_AdaRefIdeal (m : (ℓ : Loc Cert.AdaRefIdeal.nD Cert.AdaRefIdeal.τ Cert.AdaRefIdeal.sig) → Buf (Elt Ideal) ℓ) : Prop :=
  True

def Pre_AdaRefIdeal_finite_modulation [hPre_finite_modulation : Cert.Pre_finite_modulation.Facts] (m : (ℓ : Loc Cert.AdaRefIdeal.nD Cert.AdaRefIdeal.τ Cert.AdaRefIdeal.sig) → Buf (Elt Ideal) ℓ) : Prop :=
  ∀ c : Dev Cert.AdaRefIdeal.nD,
    (Cert.Pre_finite_modulation.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2)) (m ((c.tc : Thread Cert.AdaRefIdeal.nD Cert.AdaRefIdeal.τ).loc Cert.AdaRefIdeal.main_arg3))) = (fun _ => 1#1)

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_Kspec (m : (ℓ : Loc Cert.Kspec.nD Cert.Kspec.τ Cert.Kspec.sig) → Buf (Elt Bits) ℓ) : Prop :=
  True

def Pre_KspecIdeal (m : (ℓ : Loc Cert.KspecIdeal.nD Cert.KspecIdeal.τ Cert.KspecIdeal.sig) → Buf (Elt Ideal) ℓ) : Prop :=
  True

def Pre_KspecIdeal_finite_filter [hPre_finite_filter : Cert.Pre_finite_filter.Facts] (m : (ℓ : Loc Cert.KspecIdeal.nD Cert.KspecIdeal.τ Cert.KspecIdeal.sig) → Buf (Elt Ideal) ℓ) : Prop :=
  ∀ c : Dev Cert.KspecIdeal.nD,
    (Cert.Pre_finite_filter.fn (F := Ideal) (m ((c.tc : Thread Cert.KspecIdeal.nD Cert.KspecIdeal.τ).loc Cert.KspecIdeal.main_arg0)) (m ((c.tc : Thread Cert.KspecIdeal.nD Cert.KspecIdeal.τ).loc Cert.KspecIdeal.main_arg1)) (m ((c.tc : Thread Cert.KspecIdeal.nD Cert.KspecIdeal.τ).loc Cert.KspecIdeal.main_arg2)) (m ((c.tc : Thread Cert.KspecIdeal.nD Cert.KspecIdeal.τ).loc Cert.KspecIdeal.main_arg3)) (m ((c.tc : Thread Cert.KspecIdeal.nD Cert.KspecIdeal.τ).loc Cert.KspecIdeal.main_arg4)) (m ((c.tc : Thread Cert.KspecIdeal.nD Cert.KspecIdeal.τ).loc Cert.KspecIdeal.main_arg5)) (m ((c.tc : Thread Cert.KspecIdeal.nD Cert.KspecIdeal.τ).loc Cert.KspecIdeal.main_arg6))) = (fun _ => 1#1)

def Pre_KspecRefIdeal (m : (ℓ : Loc Cert.KspecRefIdeal.nD Cert.KspecRefIdeal.τ Cert.KspecRefIdeal.sig) → Buf (Elt Ideal) ℓ) : Prop :=
  True

def Pre_KspecRefIdeal_finite_filter [hPre_finite_filter : Cert.Pre_finite_filter.Facts] (m : (ℓ : Loc Cert.KspecRefIdeal.nD Cert.KspecRefIdeal.τ Cert.KspecRefIdeal.sig) → Buf (Elt Ideal) ℓ) : Prop :=
  ∀ c : Dev Cert.KspecRefIdeal.nD,
    (Cert.Pre_finite_filter.fn (F := Ideal) (m ((c.tc : Thread Cert.KspecRefIdeal.nD Cert.KspecRefIdeal.τ).loc Cert.KspecRefIdeal.main_arg0)) (m ((c.tc : Thread Cert.KspecRefIdeal.nD Cert.KspecRefIdeal.τ).loc Cert.KspecRefIdeal.main_arg1)) (m ((c.tc : Thread Cert.KspecRefIdeal.nD Cert.KspecRefIdeal.τ).loc Cert.KspecRefIdeal.main_arg2)) (m ((c.tc : Thread Cert.KspecRefIdeal.nD Cert.KspecRefIdeal.τ).loc Cert.KspecRefIdeal.main_arg3)) (m ((c.tc : Thread Cert.KspecRefIdeal.nD Cert.KspecRefIdeal.τ).loc Cert.KspecRefIdeal.main_arg4)) (m ((c.tc : Thread Cert.KspecRefIdeal.nD Cert.KspecRefIdeal.τ).loc Cert.KspecRefIdeal.main_arg5)) (m ((c.tc : Thread Cert.KspecRefIdeal.nD Cert.KspecRefIdeal.τ).loc Cert.KspecRefIdeal.main_arg6))) = (fun _ => 1#1)

def quiescent_Hy [hHy : Cert.Hy.Facts] : Prop :=
  ∀ (m : (ℓ : Loc Cert.Hy.nD Cert.Hy.τ Cert.Hy.sig) → Buf (Elt Bits) ℓ) (g : Dev Cert.Hy.nD → PrngReg), Pre_Hy m →
    θ_run (Cert.Hy.defs (F := Bits)) (onTc (τ := Cert.Hy.τ) (Cert.Hy.main (F := Bits))) ⟨m, fun _ => 0, g⟩ (fun r => (∀ c : Dev Cert.Hy.nD,
      r.2.mem ((c.tc : Thread Cert.Hy.nD Cert.Hy.τ).loc Cert.Hy.main_arg0) = m ((c.tc : Thread Cert.Hy.nD Cert.Hy.τ).loc Cert.Hy.main_arg0)
      ∧ r.2.mem ((c.tc : Thread Cert.Hy.nD Cert.Hy.τ).loc Cert.Hy.main_arg1) = m ((c.tc : Thread Cert.Hy.nD Cert.Hy.τ).loc Cert.Hy.main_arg1)
      ∧ r.2.mem ((c.tc : Thread Cert.Hy.nD Cert.Hy.τ).loc Cert.Hy.main_arg2) = m ((c.tc : Thread Cert.Hy.nD Cert.Hy.τ).loc Cert.Hy.main_arg2)
      ∧ r.2.mem ((c.tc : Thread Cert.Hy.nD Cert.Hy.τ).loc Cert.Hy.main_arg3) = m ((c.tc : Thread Cert.Hy.nD Cert.Hy.τ).loc Cert.Hy.main_arg3)
      ∧ r.2.mem ((c.tc : Thread Cert.Hy.nD Cert.Hy.τ).loc Cert.Hy.main_arg4) = m ((c.tc : Thread Cert.Hy.nD Cert.Hy.τ).loc Cert.Hy.main_arg4)
      ∧ r.2.mem ((c.tc : Thread Cert.Hy.nD Cert.Hy.τ).loc Cert.Hy.main_arg5) = m ((c.tc : Thread Cert.Hy.nD Cert.Hy.τ).loc Cert.Hy.main_arg5))
      ∧ r.2.sem = fun _ => 0)

def quiescent_HyIdeal [hHyIdeal : Cert.HyIdeal.Facts] : Prop :=
  ∀ (m : (ℓ : Loc Cert.HyIdeal.nD Cert.HyIdeal.τ Cert.HyIdeal.sig) → Buf (Elt Ideal) ℓ) (g : Dev Cert.HyIdeal.nD → PrngReg), Pre_HyIdeal m →
    θ_run (Cert.HyIdeal.defs (F := Ideal)) (onTc (τ := Cert.HyIdeal.τ) (Cert.HyIdeal.main (F := Ideal))) ⟨m, fun _ => 0, g⟩ (fun r => (∀ c : Dev Cert.HyIdeal.nD,
      r.2.mem ((c.tc : Thread Cert.HyIdeal.nD Cert.HyIdeal.τ).loc Cert.HyIdeal.main_arg0) = m ((c.tc : Thread Cert.HyIdeal.nD Cert.HyIdeal.τ).loc Cert.HyIdeal.main_arg0)
      ∧ r.2.mem ((c.tc : Thread Cert.HyIdeal.nD Cert.HyIdeal.τ).loc Cert.HyIdeal.main_arg1) = m ((c.tc : Thread Cert.HyIdeal.nD Cert.HyIdeal.τ).loc Cert.HyIdeal.main_arg1)
      ∧ r.2.mem ((c.tc : Thread Cert.HyIdeal.nD Cert.HyIdeal.τ).loc Cert.HyIdeal.main_arg2) = m ((c.tc : Thread Cert.HyIdeal.nD Cert.HyIdeal.τ).loc Cert.HyIdeal.main_arg2)
      ∧ r.2.mem ((c.tc : Thread Cert.HyIdeal.nD Cert.HyIdeal.τ).loc Cert.HyIdeal.main_arg3) = m ((c.tc : Thread Cert.HyIdeal.nD Cert.HyIdeal.τ).loc Cert.HyIdeal.main_arg3)
      ∧ r.2.mem ((c.tc : Thread Cert.HyIdeal.nD Cert.HyIdeal.τ).loc Cert.HyIdeal.main_arg4) = m ((c.tc : Thread Cert.HyIdeal.nD Cert.HyIdeal.τ).loc Cert.HyIdeal.main_arg4)
      ∧ r.2.mem ((c.tc : Thread Cert.HyIdeal.nD Cert.HyIdeal.τ).loc Cert.HyIdeal.main_arg5) = m ((c.tc : Thread Cert.HyIdeal.nD Cert.HyIdeal.τ).loc Cert.HyIdeal.main_arg5))
      ∧ r.2.sem = fun _ => 0)

def quiescent_HyRefIdeal [hHyRefIdeal : Cert.HyRefIdeal.Facts] : Prop :=
  ∀ (m : (ℓ : Loc Cert.HyRefIdeal.nD Cert.HyRefIdeal.τ Cert.HyRefIdeal.sig) → Buf (Elt Ideal) ℓ) (g : Dev Cert.HyRefIdeal.nD → PrngReg), Pre_HyRefIdeal m →
    θ_run (Cert.HyRefIdeal.defs (F := Ideal)) (onTc (τ := Cert.HyRefIdeal.τ) (Cert.HyRefIdeal.main (F := Ideal))) ⟨m, fun _ => 0, g⟩ (fun r => (∀ c : Dev Cert.HyRefIdeal.nD,
      r.2.mem ((c.tc : Thread Cert.HyRefIdeal.nD Cert.HyRefIdeal.τ).loc Cert.HyRefIdeal.main_arg0) = m ((c.tc : Thread Cert.HyRefIdeal.nD Cert.HyRefIdeal.τ).loc Cert.HyRefIdeal.main_arg0)
      ∧ r.2.mem ((c.tc : Thread Cert.HyRefIdeal.nD Cert.HyRefIdeal.τ).loc Cert.HyRefIdeal.main_arg1) = m ((c.tc : Thread Cert.HyRefIdeal.nD Cert.HyRefIdeal.τ).loc Cert.HyRefIdeal.main_arg1)
      ∧ r.2.mem ((c.tc : Thread Cert.HyRefIdeal.nD Cert.HyRefIdeal.τ).loc Cert.HyRefIdeal.main_arg2) = m ((c.tc : Thread Cert.HyRefIdeal.nD Cert.HyRefIdeal.τ).loc Cert.HyRefIdeal.main_arg2)
      ∧ r.2.mem ((c.tc : Thread Cert.HyRefIdeal.nD Cert.HyRefIdeal.τ).loc Cert.HyRefIdeal.main_arg3) = m ((c.tc : Thread Cert.HyRefIdeal.nD Cert.HyRefIdeal.τ).loc Cert.HyRefIdeal.main_arg3)
      ∧ r.2.mem ((c.tc : Thread Cert.HyRefIdeal.nD Cert.HyRefIdeal.τ).loc Cert.HyRefIdeal.main_arg4) = m ((c.tc : Thread Cert.HyRefIdeal.nD Cert.HyRefIdeal.τ).loc Cert.HyRefIdeal.main_arg4)
      ∧ r.2.mem ((c.tc : Thread Cert.HyRefIdeal.nD Cert.HyRefIdeal.τ).loc Cert.HyRefIdeal.main_arg5) = m ((c.tc : Thread Cert.HyRefIdeal.nD Cert.HyRefIdeal.τ).loc Cert.HyRefIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1)
      ∧ r.2.mem ((c.tc : Thread Cert.Wout.nD Cert.Wout.τ).loc Cert.Wout.main_arg2) = m ((c.tc : Thread Cert.Wout.nD Cert.Wout.τ).loc Cert.Wout.main_arg2)
      ∧ r.2.mem ((c.tc : Thread Cert.Wout.nD Cert.Wout.τ).loc Cert.Wout.main_arg3) = m ((c.tc : Thread Cert.Wout.nD Cert.Wout.τ).loc Cert.Wout.main_arg3)
      ∧ r.2.mem ((c.tc : Thread Cert.Wout.nD Cert.Wout.τ).loc Cert.Wout.main_arg4) = m ((c.tc : Thread Cert.Wout.nD Cert.Wout.τ).loc Cert.Wout.main_arg4)
      ∧ r.2.mem ((c.tc : Thread Cert.Wout.nD Cert.Wout.τ).loc Cert.Wout.main_arg5) = m ((c.tc : Thread Cert.Wout.nD Cert.Wout.τ).loc Cert.Wout.main_arg5))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
      ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
      ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3)
      ∧ r.2.mem ((c.tc : Thread Cert.WoutIdeal.nD Cert.WoutIdeal.τ).loc Cert.WoutIdeal.main_arg4) = m ((c.tc : Thread Cert.WoutIdeal.nD Cert.WoutIdeal.τ).loc Cert.WoutIdeal.main_arg4)
      ∧ r.2.mem ((c.tc : Thread Cert.WoutIdeal.nD Cert.WoutIdeal.τ).loc Cert.WoutIdeal.main_arg5) = m ((c.tc : Thread Cert.WoutIdeal.nD Cert.WoutIdeal.τ).loc Cert.WoutIdeal.main_arg5))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1)
      ∧ r.2.mem ((c.tc : Thread Cert.WoutRefIdeal.nD Cert.WoutRefIdeal.τ).loc Cert.WoutRefIdeal.main_arg2) = m ((c.tc : Thread Cert.WoutRefIdeal.nD Cert.WoutRefIdeal.τ).loc Cert.WoutRefIdeal.main_arg2)
      ∧ r.2.mem ((c.tc : Thread Cert.WoutRefIdeal.nD Cert.WoutRefIdeal.τ).loc Cert.WoutRefIdeal.main_arg3) = m ((c.tc : Thread Cert.WoutRefIdeal.nD Cert.WoutRefIdeal.τ).loc Cert.WoutRefIdeal.main_arg3)
      ∧ r.2.mem ((c.tc : Thread Cert.WoutRefIdeal.nD Cert.WoutRefIdeal.τ).loc Cert.WoutRefIdeal.main_arg4) = m ((c.tc : Thread Cert.WoutRefIdeal.nD Cert.WoutRefIdeal.τ).loc Cert.WoutRefIdeal.main_arg4)
      ∧ r.2.mem ((c.tc : Thread Cert.WoutRefIdeal.nD Cert.WoutRefIdeal.τ).loc Cert.WoutRefIdeal.main_arg5) = m ((c.tc : Thread Cert.WoutRefIdeal.nD Cert.WoutRefIdeal.τ).loc Cert.WoutRefIdeal.main_arg5))
      ∧ r.2.sem = fun _ => 0)

def quiescent_InCtx [hInCtx : Cert.InCtx.Facts] : Prop :=
  ∀ (m : (ℓ : Loc Cert.InCtx.nD Cert.InCtx.τ Cert.InCtx.sig) → Buf (Elt Bits) ℓ) (g : Dev Cert.InCtx.nD → PrngReg), Pre_InCtx m →
    θ_run (Cert.InCtx.defs (F := Bits)) (onTc (τ := Cert.InCtx.τ) (Cert.InCtx.main (F := Bits))) ⟨m, fun _ => 0, g⟩ (fun r => (∀ c : Dev Cert.InCtx.nD,
      r.2.mem ((c.tc : Thread Cert.InCtx.nD Cert.InCtx.τ).loc Cert.InCtx.main_arg0) = m ((c.tc : Thread Cert.InCtx.nD Cert.InCtx.τ).loc Cert.InCtx.main_arg0)
      ∧ r.2.mem ((c.tc : Thread Cert.InCtx.nD Cert.InCtx.τ).loc Cert.InCtx.main_arg1) = m ((c.tc : Thread Cert.InCtx.nD Cert.InCtx.τ).loc Cert.InCtx.main_arg1)
      ∧ r.2.mem ((c.tc : Thread Cert.InCtx.nD Cert.InCtx.τ).loc Cert.InCtx.main_arg2) = m ((c.tc : Thread Cert.InCtx.nD Cert.InCtx.τ).loc Cert.InCtx.main_arg2)
      ∧ r.2.mem ((c.tc : Thread Cert.InCtx.nD Cert.InCtx.τ).loc Cert.InCtx.main_arg3) = m ((c.tc : Thread Cert.InCtx.nD Cert.InCtx.τ).loc Cert.InCtx.main_arg3)
      ∧ r.2.mem ((c.tc : Thread Cert.InCtx.nD Cert.InCtx.τ).loc Cert.InCtx.main_arg4) = m ((c.tc : Thread Cert.InCtx.nD Cert.InCtx.τ).loc Cert.InCtx.main_arg4))
      ∧ r.2.sem = fun _ => 0)

def quiescent_InCtxIdeal [hInCtxIdeal : Cert.InCtxIdeal.Facts] : Prop :=
  ∀ (m : (ℓ : Loc Cert.InCtxIdeal.nD Cert.InCtxIdeal.τ Cert.InCtxIdeal.sig) → Buf (Elt Ideal) ℓ) (g : Dev Cert.InCtxIdeal.nD → PrngReg), Pre_InCtxIdeal m →
    θ_run (Cert.InCtxIdeal.defs (F := Ideal)) (onTc (τ := Cert.InCtxIdeal.τ) (Cert.InCtxIdeal.main (F := Ideal))) ⟨m, fun _ => 0, g⟩ (fun r => (∀ c : Dev Cert.InCtxIdeal.nD,
      r.2.mem ((c.tc : Thread Cert.InCtxIdeal.nD Cert.InCtxIdeal.τ).loc Cert.InCtxIdeal.main_arg0) = m ((c.tc : Thread Cert.InCtxIdeal.nD Cert.InCtxIdeal.τ).loc Cert.InCtxIdeal.main_arg0)
      ∧ r.2.mem ((c.tc : Thread Cert.InCtxIdeal.nD Cert.InCtxIdeal.τ).loc Cert.InCtxIdeal.main_arg1) = m ((c.tc : Thread Cert.InCtxIdeal.nD Cert.InCtxIdeal.τ).loc Cert.InCtxIdeal.main_arg1)
      ∧ r.2.mem ((c.tc : Thread Cert.InCtxIdeal.nD Cert.InCtxIdeal.τ).loc Cert.InCtxIdeal.main_arg2) = m ((c.tc : Thread Cert.InCtxIdeal.nD Cert.InCtxIdeal.τ).loc Cert.InCtxIdeal.main_arg2)
      ∧ r.2.mem ((c.tc : Thread Cert.InCtxIdeal.nD Cert.InCtxIdeal.τ).loc Cert.InCtxIdeal.main_arg3) = m ((c.tc : Thread Cert.InCtxIdeal.nD Cert.InCtxIdeal.τ).loc Cert.InCtxIdeal.main_arg3)
      ∧ r.2.mem ((c.tc : Thread Cert.InCtxIdeal.nD Cert.InCtxIdeal.τ).loc Cert.InCtxIdeal.main_arg4) = m ((c.tc : Thread Cert.InCtxIdeal.nD Cert.InCtxIdeal.τ).loc Cert.InCtxIdeal.main_arg4))
      ∧ r.2.sem = fun _ => 0)

def quiescent_InCtxRefIdeal [hInCtxRefIdeal : Cert.InCtxRefIdeal.Facts] : Prop :=
  ∀ (m : (ℓ : Loc Cert.InCtxRefIdeal.nD Cert.InCtxRefIdeal.τ Cert.InCtxRefIdeal.sig) → Buf (Elt Ideal) ℓ) (g : Dev Cert.InCtxRefIdeal.nD → PrngReg), Pre_InCtxRefIdeal m →
    θ_run (Cert.InCtxRefIdeal.defs (F := Ideal)) (onTc (τ := Cert.InCtxRefIdeal.τ) (Cert.InCtxRefIdeal.main (F := Ideal))) ⟨m, fun _ => 0, g⟩ (fun r => (∀ c : Dev Cert.InCtxRefIdeal.nD,
      r.2.mem ((c.tc : Thread Cert.InCtxRefIdeal.nD Cert.InCtxRefIdeal.τ).loc Cert.InCtxRefIdeal.main_arg0) = m ((c.tc : Thread Cert.InCtxRefIdeal.nD Cert.InCtxRefIdeal.τ).loc Cert.InCtxRefIdeal.main_arg0)
      ∧ r.2.mem ((c.tc : Thread Cert.InCtxRefIdeal.nD Cert.InCtxRefIdeal.τ).loc Cert.InCtxRefIdeal.main_arg1) = m ((c.tc : Thread Cert.InCtxRefIdeal.nD Cert.InCtxRefIdeal.τ).loc Cert.InCtxRefIdeal.main_arg1)
      ∧ r.2.mem ((c.tc : Thread Cert.InCtxRefIdeal.nD Cert.InCtxRefIdeal.τ).loc Cert.InCtxRefIdeal.main_arg2) = m ((c.tc : Thread Cert.InCtxRefIdeal.nD Cert.InCtxRefIdeal.τ).loc Cert.InCtxRefIdeal.main_arg2)
      ∧ r.2.mem ((c.tc : Thread Cert.InCtxRefIdeal.nD Cert.InCtxRefIdeal.τ).loc Cert.InCtxRefIdeal.main_arg3) = m ((c.tc : Thread Cert.InCtxRefIdeal.nD Cert.InCtxRefIdeal.τ).loc Cert.InCtxRefIdeal.main_arg3)
      ∧ r.2.mem ((c.tc : Thread Cert.InCtxRefIdeal.nD Cert.InCtxRefIdeal.τ).loc Cert.InCtxRefIdeal.main_arg4) = m ((c.tc : Thread Cert.InCtxRefIdeal.nD Cert.InCtxRefIdeal.τ).loc Cert.InCtxRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaIdeal_pre_finite_modulation [hAdaIdeal : Cert.AdaIdeal.Facts] [hPre_finite_modulation : Cert.Pre_finite_modulation.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal_finite_modulation m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_AdaRefIdeal_pre_finite_modulation [hAdaRefIdeal : Cert.AdaRefIdeal.Facts] [hPre_finite_modulation : Cert.Pre_finite_modulation.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal_finite_modulation m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_Kspec [hKspec : Cert.Kspec.Facts] : Prop :=
  ∀ (m : (ℓ : Loc Cert.Kspec.nD Cert.Kspec.τ Cert.Kspec.sig) → Buf (Elt Bits) ℓ) (g : Dev Cert.Kspec.nD → PrngReg), Pre_Kspec m →
    θ_run (Cert.Kspec.defs (F := Bits)) (onTc (τ := Cert.Kspec.τ) (Cert.Kspec.main (F := Bits))) ⟨m, fun _ => 0, g⟩ (fun r => (∀ c : Dev Cert.Kspec.nD,
      r.2.mem ((c.tc : Thread Cert.Kspec.nD Cert.Kspec.τ).loc Cert.Kspec.main_arg0) = m ((c.tc : Thread Cert.Kspec.nD Cert.Kspec.τ).loc Cert.Kspec.main_arg0)
      ∧ r.2.mem ((c.tc : Thread Cert.Kspec.nD Cert.Kspec.τ).loc Cert.Kspec.main_arg1) = m ((c.tc : Thread Cert.Kspec.nD Cert.Kspec.τ).loc Cert.Kspec.main_arg1)
      ∧ r.2.mem ((c.tc : Thread Cert.Kspec.nD Cert.Kspec.τ).loc Cert.Kspec.main_arg2) = m ((c.tc : Thread Cert.Kspec.nD Cert.Kspec.τ).loc Cert.Kspec.main_arg2)
      ∧ r.2.mem ((c.tc : Thread Cert.Kspec.nD Cert.Kspec.τ).loc Cert.Kspec.main_arg3) = m ((c.tc : Thread Cert.Kspec.nD Cert.Kspec.τ).loc Cert.Kspec.main_arg3)
      ∧ r.2.mem ((c.tc : Thread Cert.Kspec.nD Cert.Kspec.τ).loc Cert.Kspec.main_arg4) = m ((c.tc : Thread Cert.Kspec.nD Cert.Kspec.τ).loc Cert.Kspec.main_arg4)
      ∧ r.2.mem ((c.tc : Thread Cert.Kspec.nD Cert.Kspec.τ).loc Cert.Kspec.main_arg5) = m ((c.tc : Thread Cert.Kspec.nD Cert.Kspec.τ).loc Cert.Kspec.main_arg5)
      ∧ r.2.mem ((c.tc : Thread Cert.Kspec.nD Cert.Kspec.τ).loc Cert.Kspec.main_arg6) = m ((c.tc : Thread Cert.Kspec.nD Cert.Kspec.τ).loc Cert.Kspec.main_arg6))
      ∧ r.2.sem = fun _ => 0)

def quiescent_KspecIdeal [hKspecIdeal : Cert.KspecIdeal.Facts] : Prop :=
  ∀ (m : (ℓ : Loc Cert.KspecIdeal.nD Cert.KspecIdeal.τ Cert.KspecIdeal.sig) → Buf (Elt Ideal) ℓ) (g : Dev Cert.KspecIdeal.nD → PrngReg), Pre_KspecIdeal m →
    θ_run (Cert.KspecIdeal.defs (F := Ideal)) (onTc (τ := Cert.KspecIdeal.τ) (Cert.KspecIdeal.main (F := Ideal))) ⟨m, fun _ => 0, g⟩ (fun r => (∀ c : Dev Cert.KspecIdeal.nD,
      r.2.mem ((c.tc : Thread Cert.KspecIdeal.nD Cert.KspecIdeal.τ).loc Cert.KspecIdeal.main_arg0) = m ((c.tc : Thread Cert.KspecIdeal.nD Cert.KspecIdeal.τ).loc Cert.KspecIdeal.main_arg0)
      ∧ r.2.mem ((c.tc : Thread Cert.KspecIdeal.nD Cert.KspecIdeal.τ).loc Cert.KspecIdeal.main_arg1) = m ((c.tc : Thread Cert.KspecIdeal.nD Cert.KspecIdeal.τ).loc Cert.KspecIdeal.main_arg1)
      ∧ r.2.mem ((c.tc : Thread Cert.KspecIdeal.nD Cert.KspecIdeal.τ).loc Cert.KspecIdeal.main_arg2) = m ((c.tc : Thread Cert.KspecIdeal.nD Cert.KspecIdeal.τ).loc Cert.KspecIdeal.main_arg2)
      ∧ r.2.mem ((c.tc : Thread Cert.KspecIdeal.nD Cert.KspecIdeal.τ).loc Cert.KspecIdeal.main_arg3) = m ((c.tc : Thread Cert.KspecIdeal.nD Cert.KspecIdeal.τ).loc Cert.KspecIdeal.main_arg3)
      ∧ r.2.mem ((c.tc : Thread Cert.KspecIdeal.nD Cert.KspecIdeal.τ).loc Cert.KspecIdeal.main_arg4) = m ((c.tc : Thread Cert.KspecIdeal.nD Cert.KspecIdeal.τ).loc Cert.KspecIdeal.main_arg4)
      ∧ r.2.mem ((c.tc : Thread Cert.KspecIdeal.nD Cert.KspecIdeal.τ).loc Cert.KspecIdeal.main_arg5) = m ((c.tc : Thread Cert.KspecIdeal.nD Cert.KspecIdeal.τ).loc Cert.KspecIdeal.main_arg5)
      ∧ r.2.mem ((c.tc : Thread Cert.KspecIdeal.nD Cert.KspecIdeal.τ).loc Cert.KspecIdeal.main_arg6) = m ((c.tc : Thread Cert.KspecIdeal.nD Cert.KspecIdeal.τ).loc Cert.KspecIdeal.main_arg6))
      ∧ r.2.sem = fun _ => 0)

def quiescent_KspecIdeal_pre_finite_filter [hKspecIdeal : Cert.KspecIdeal.Facts] [hPre_finite_filter : Cert.Pre_finite_filter.Facts] : Prop :=
  ∀ (m : (ℓ : Loc Cert.KspecIdeal.nD Cert.KspecIdeal.τ Cert.KspecIdeal.sig) → Buf (Elt Ideal) ℓ) (g : Dev Cert.KspecIdeal.nD → PrngReg), Pre_KspecIdeal_finite_filter m →
    θ_run (Cert.KspecIdeal.defs (F := Ideal)) (onTc (τ := Cert.KspecIdeal.τ) (Cert.KspecIdeal.main (F := Ideal))) ⟨m, fun _ => 0, g⟩ (fun r => (∀ c : Dev Cert.KspecIdeal.nD,
      r.2.mem ((c.tc : Thread Cert.KspecIdeal.nD Cert.KspecIdeal.τ).loc Cert.KspecIdeal.main_arg0) = m ((c.tc : Thread Cert.KspecIdeal.nD Cert.KspecIdeal.τ).loc Cert.KspecIdeal.main_arg0)
      ∧ r.2.mem ((c.tc : Thread Cert.KspecIdeal.nD Cert.KspecIdeal.τ).loc Cert.KspecIdeal.main_arg1) = m ((c.tc : Thread Cert.KspecIdeal.nD Cert.KspecIdeal.τ).loc Cert.KspecIdeal.main_arg1)
      ∧ r.2.mem ((c.tc : Thread Cert.KspecIdeal.nD Cert.KspecIdeal.τ).loc Cert.KspecIdeal.main_arg2) = m ((c.tc : Thread Cert.KspecIdeal.nD Cert.KspecIdeal.τ).loc Cert.KspecIdeal.main_arg2)
      ∧ r.2.mem ((c.tc : Thread Cert.KspecIdeal.nD Cert.KspecIdeal.τ).loc Cert.KspecIdeal.main_arg3) = m ((c.tc : Thread Cert.KspecIdeal.nD Cert.KspecIdeal.τ).loc Cert.KspecIdeal.main_arg3)
      ∧ r.2.mem ((c.tc : Thread Cert.KspecIdeal.nD Cert.KspecIdeal.τ).loc Cert.KspecIdeal.main_arg4) = m ((c.tc : Thread Cert.KspecIdeal.nD Cert.KspecIdeal.τ).loc Cert.KspecIdeal.main_arg4)
      ∧ r.2.mem ((c.tc : Thread Cert.KspecIdeal.nD Cert.KspecIdeal.τ).loc Cert.KspecIdeal.main_arg5) = m ((c.tc : Thread Cert.KspecIdeal.nD Cert.KspecIdeal.τ).loc Cert.KspecIdeal.main_arg5)
      ∧ r.2.mem ((c.tc : Thread Cert.KspecIdeal.nD Cert.KspecIdeal.τ).loc Cert.KspecIdeal.main_arg6) = m ((c.tc : Thread Cert.KspecIdeal.nD Cert.KspecIdeal.τ).loc Cert.KspecIdeal.main_arg6))
      ∧ r.2.sem = fun _ => 0)

def quiescent_KspecRefIdeal [hKspecRefIdeal : Cert.KspecRefIdeal.Facts] : Prop :=
  ∀ (m : (ℓ : Loc Cert.KspecRefIdeal.nD Cert.KspecRefIdeal.τ Cert.KspecRefIdeal.sig) → Buf (Elt Ideal) ℓ) (g : Dev Cert.KspecRefIdeal.nD → PrngReg), Pre_KspecRefIdeal m →
    θ_run (Cert.KspecRefIdeal.defs (F := Ideal)) (onTc (τ := Cert.KspecRefIdeal.τ) (Cert.KspecRefIdeal.main (F := Ideal))) ⟨m, fun _ => 0, g⟩ (fun r => (∀ c : Dev Cert.KspecRefIdeal.nD,
      r.2.mem ((c.tc : Thread Cert.KspecRefIdeal.nD Cert.KspecRefIdeal.τ).loc Cert.KspecRefIdeal.main_arg0) = m ((c.tc : Thread Cert.KspecRefIdeal.nD Cert.KspecRefIdeal.τ).loc Cert.KspecRefIdeal.main_arg0)
      ∧ r.2.mem ((c.tc : Thread Cert.KspecRefIdeal.nD Cert.KspecRefIdeal.τ).loc Cert.KspecRefIdeal.main_arg1) = m ((c.tc : Thread Cert.KspecRefIdeal.nD Cert.KspecRefIdeal.τ).loc Cert.KspecRefIdeal.main_arg1)
      ∧ r.2.mem ((c.tc : Thread Cert.KspecRefIdeal.nD Cert.KspecRefIdeal.τ).loc Cert.KspecRefIdeal.main_arg2) = m ((c.tc : Thread Cert.KspecRefIdeal.nD Cert.KspecRefIdeal.τ).loc Cert.KspecRefIdeal.main_arg2)
      ∧ r.2.mem ((c.tc : Thread Cert.KspecRefIdeal.nD Cert.KspecRefIdeal.τ).loc Cert.KspecRefIdeal.main_arg3) = m ((c.tc : Thread Cert.KspecRefIdeal.nD Cert.KspecRefIdeal.τ).loc Cert.KspecRefIdeal.main_arg3)
      ∧ r.2.mem ((c.tc : Thread Cert.KspecRefIdeal.nD Cert.KspecRefIdeal.τ).loc Cert.KspecRefIdeal.main_arg4) = m ((c.tc : Thread Cert.KspecRefIdeal.nD Cert.KspecRefIdeal.τ).loc Cert.KspecRefIdeal.main_arg4)
      ∧ r.2.mem ((c.tc : Thread Cert.KspecRefIdeal.nD Cert.KspecRefIdeal.τ).loc Cert.KspecRefIdeal.main_arg5) = m ((c.tc : Thread Cert.KspecRefIdeal.nD Cert.KspecRefIdeal.τ).loc Cert.KspecRefIdeal.main_arg5)
      ∧ r.2.mem ((c.tc : Thread Cert.KspecRefIdeal.nD Cert.KspecRefIdeal.τ).loc Cert.KspecRefIdeal.main_arg6) = m ((c.tc : Thread Cert.KspecRefIdeal.nD Cert.KspecRefIdeal.τ).loc Cert.KspecRefIdeal.main_arg6))
      ∧ r.2.sem = fun _ => 0)

def quiescent_KspecRefIdeal_pre_finite_filter [hKspecRefIdeal : Cert.KspecRefIdeal.Facts] [hPre_finite_filter : Cert.Pre_finite_filter.Facts] : Prop :=
  ∀ (m : (ℓ : Loc Cert.KspecRefIdeal.nD Cert.KspecRefIdeal.τ Cert.KspecRefIdeal.sig) → Buf (Elt Ideal) ℓ) (g : Dev Cert.KspecRefIdeal.nD → PrngReg), Pre_KspecRefIdeal_finite_filter m →
    θ_run (Cert.KspecRefIdeal.defs (F := Ideal)) (onTc (τ := Cert.KspecRefIdeal.τ) (Cert.KspecRefIdeal.main (F := Ideal))) ⟨m, fun _ => 0, g⟩ (fun r => (∀ c : Dev Cert.KspecRefIdeal.nD,
      r.2.mem ((c.tc : Thread Cert.KspecRefIdeal.nD Cert.KspecRefIdeal.τ).loc Cert.KspecRefIdeal.main_arg0) = m ((c.tc : Thread Cert.KspecRefIdeal.nD Cert.KspecRefIdeal.τ).loc Cert.KspecRefIdeal.main_arg0)
      ∧ r.2.mem ((c.tc : Thread Cert.KspecRefIdeal.nD Cert.KspecRefIdeal.τ).loc Cert.KspecRefIdeal.main_arg1) = m ((c.tc : Thread Cert.KspecRefIdeal.nD Cert.KspecRefIdeal.τ).loc Cert.KspecRefIdeal.main_arg1)
      ∧ r.2.mem ((c.tc : Thread Cert.KspecRefIdeal.nD Cert.KspecRefIdeal.τ).loc Cert.KspecRefIdeal.main_arg2) = m ((c.tc : Thread Cert.KspecRefIdeal.nD Cert.KspecRefIdeal.τ).loc Cert.KspecRefIdeal.main_arg2)
      ∧ r.2.mem ((c.tc : Thread Cert.KspecRefIdeal.nD Cert.KspecRefIdeal.τ).loc Cert.KspecRefIdeal.main_arg3) = m ((c.tc : Thread Cert.KspecRefIdeal.nD Cert.KspecRefIdeal.τ).loc Cert.KspecRefIdeal.main_arg3)
      ∧ r.2.mem ((c.tc : Thread Cert.KspecRefIdeal.nD Cert.KspecRefIdeal.τ).loc Cert.KspecRefIdeal.main_arg4) = m ((c.tc : Thread Cert.KspecRefIdeal.nD Cert.KspecRefIdeal.τ).loc Cert.KspecRefIdeal.main_arg4)
      ∧ r.2.mem ((c.tc : Thread Cert.KspecRefIdeal.nD Cert.KspecRefIdeal.τ).loc Cert.KspecRefIdeal.main_arg5) = m ((c.tc : Thread Cert.KspecRefIdeal.nD Cert.KspecRefIdeal.τ).loc Cert.KspecRefIdeal.main_arg5)
      ∧ r.2.mem ((c.tc : Thread Cert.KspecRefIdeal.nD Cert.KspecRefIdeal.τ).loc Cert.KspecRefIdeal.main_arg6) = m ((c.tc : Thread Cert.KspecRefIdeal.nD Cert.KspecRefIdeal.τ).loc Cert.KspecRefIdeal.main_arg6))
      ∧ r.2.sem = fun _ => 0)

def preserves_Hy_HyIdeal : Prop :=
  True

def algebraic_HyIdeal_HyRefIdeal [hHyIdeal : Cert.HyIdeal.Facts] [hHyRefIdeal : Cert.HyRefIdeal.Facts] : Prop :=
  ∀ (m : (ℓ : Loc Cert.HyIdeal.nD Cert.HyIdeal.τ Cert.HyIdeal.sig) → Buf (Elt Ideal) ℓ) (g : Dev Cert.HyIdeal.nD → PrngReg)
    (m' : (ℓ : Loc Cert.HyRefIdeal.nD Cert.HyRefIdeal.τ Cert.HyRefIdeal.sig) → Buf (Elt Ideal) ℓ) (g' : Dev Cert.HyRefIdeal.nD → PrngReg), Pre_HyIdeal m →
    (∀ c : Dev Cert.HyIdeal.nD,
      m' ((c.tc : Thread Cert.HyRefIdeal.nD Cert.HyRefIdeal.τ).loc Cert.HyRefIdeal.main_arg0) = m ((c.tc : Thread Cert.HyIdeal.nD Cert.HyIdeal.τ).loc Cert.HyIdeal.main_arg0)
      ∧ m' ((c.tc : Thread Cert.HyRefIdeal.nD Cert.HyRefIdeal.τ).loc Cert.HyRefIdeal.main_arg1) = m ((c.tc : Thread Cert.HyIdeal.nD Cert.HyIdeal.τ).loc Cert.HyIdeal.main_arg1)
      ∧ m' ((c.tc : Thread Cert.HyRefIdeal.nD Cert.HyRefIdeal.τ).loc Cert.HyRefIdeal.main_arg2) = m ((c.tc : Thread Cert.HyIdeal.nD Cert.HyIdeal.τ).loc Cert.HyIdeal.main_arg2)
      ∧ m' ((c.tc : Thread Cert.HyRefIdeal.nD Cert.HyRefIdeal.τ).loc Cert.HyRefIdeal.main_arg3) = m ((c.tc : Thread Cert.HyIdeal.nD Cert.HyIdeal.τ).loc Cert.HyIdeal.main_arg3)
      ∧ m' ((c.tc : Thread Cert.HyRefIdeal.nD Cert.HyRefIdeal.τ).loc Cert.HyRefIdeal.main_arg4) = m ((c.tc : Thread Cert.HyIdeal.nD Cert.HyIdeal.τ).loc Cert.HyIdeal.main_arg4)
      ∧ m' ((c.tc : Thread Cert.HyRefIdeal.nD Cert.HyRefIdeal.τ).loc Cert.HyRefIdeal.main_arg5) = m ((c.tc : Thread Cert.HyIdeal.nD Cert.HyIdeal.τ).loc Cert.HyIdeal.main_arg5)) →
    ∃ (v0 : (c : Dev Cert.HyIdeal.nD) → Buf (Elt Ideal) ((c.tc : Thread Cert.HyIdeal.nD Cert.HyIdeal.τ).loc Cert.HyIdeal.main_v7)),
      θ_run (Cert.HyIdeal.defs (F := Ideal)) (onTc (τ := Cert.HyIdeal.τ) (Cert.HyIdeal.main (F := Ideal))) ⟨m, fun _ => 0, g⟩ (fun r => ∀ c : Dev Cert.HyIdeal.nD,
          r.2.mem ((c.tc : Thread Cert.HyIdeal.nD Cert.HyIdeal.τ).loc Cert.HyIdeal.main_v7) = v0 c
          ∧ r.2.mem ((c.tc : Thread Cert.HyIdeal.nD Cert.HyIdeal.τ).loc Cert.HyIdeal.main_arg0) = m ((c.tc : Thread Cert.HyIdeal.nD Cert.HyIdeal.τ).loc Cert.HyIdeal.main_arg0)
          ∧ r.2.mem ((c.tc : Thread Cert.HyIdeal.nD Cert.HyIdeal.τ).loc Cert.HyIdeal.main_arg1) = m ((c.tc : Thread Cert.HyIdeal.nD Cert.HyIdeal.τ).loc Cert.HyIdeal.main_arg1)
          ∧ r.2.mem ((c.tc : Thread Cert.HyIdeal.nD Cert.HyIdeal.τ).loc Cert.HyIdeal.main_arg2) = m ((c.tc : Thread Cert.HyIdeal.nD Cert.HyIdeal.τ).loc Cert.HyIdeal.main_arg2)
          ∧ r.2.mem ((c.tc : Thread Cert.HyIdeal.nD Cert.HyIdeal.τ).loc Cert.HyIdeal.main_arg3) = m ((c.tc : Thread Cert.HyIdeal.nD Cert.HyIdeal.τ).loc Cert.HyIdeal.main_arg3)
          ∧ r.2.mem ((c.tc : Thread Cert.HyIdeal.nD Cert.HyIdeal.τ).loc Cert.HyIdeal.main_arg4) = m ((c.tc : Thread Cert.HyIdeal.nD Cert.HyIdeal.τ).loc Cert.HyIdeal.main_arg4)
          ∧ r.2.mem ((c.tc : Thread Cert.HyIdeal.nD Cert.HyIdeal.τ).loc Cert.HyIdeal.main_arg5) = m ((c.tc : Thread Cert.HyIdeal.nD Cert.HyIdeal.τ).loc Cert.HyIdeal.main_arg5))
      ∧ θ_run (Cert.HyRefIdeal.defs (F := Ideal)) (onTc (τ := Cert.HyRefIdeal.τ) (Cert.HyRefIdeal.main (F := Ideal))) ⟨m', fun _ => 0, g'⟩ (fun r => ∀ c : Dev Cert.HyRefIdeal.nD,
          r.2.mem ((c.tc : Thread Cert.HyRefIdeal.nD Cert.HyRefIdeal.τ).loc Cert.HyRefIdeal.main_v85) = v0 c
          ∧ r.2.mem ((c.tc : Thread Cert.HyRefIdeal.nD Cert.HyRefIdeal.τ).loc Cert.HyRefIdeal.main_arg0) = m' ((c.tc : Thread Cert.HyRefIdeal.nD Cert.HyRefIdeal.τ).loc Cert.HyRefIdeal.main_arg0)
          ∧ r.2.mem ((c.tc : Thread Cert.HyRefIdeal.nD Cert.HyRefIdeal.τ).loc Cert.HyRefIdeal.main_arg1) = m' ((c.tc : Thread Cert.HyRefIdeal.nD Cert.HyRefIdeal.τ).loc Cert.HyRefIdeal.main_arg1)
          ∧ r.2.mem ((c.tc : Thread Cert.HyRefIdeal.nD Cert.HyRefIdeal.τ).loc Cert.HyRefIdeal.main_arg2) = m' ((c.tc : Thread Cert.HyRefIdeal.nD Cert.HyRefIdeal.τ).loc Cert.HyRefIdeal.main_arg2)
          ∧ r.2.mem ((c.tc : Thread Cert.HyRefIdeal.nD Cert.HyRefIdeal.τ).loc Cert.HyRefIdeal.main_arg3) = m' ((c.tc : Thread Cert.HyRefIdeal.nD Cert.HyRefIdeal.τ).loc Cert.HyRefIdeal.main_arg3)
          ∧ r.2.mem ((c.tc : Thread Cert.HyRefIdeal.nD Cert.HyRefIdeal.τ).loc Cert.HyRefIdeal.main_arg4) = m' ((c.tc : Thread Cert.HyRefIdeal.nD Cert.HyRefIdeal.τ).loc Cert.HyRefIdeal.main_arg4)
          ∧ r.2.mem ((c.tc : Thread Cert.HyRefIdeal.nD Cert.HyRefIdeal.τ).loc Cert.HyRefIdeal.main_arg5) = m' ((c.tc : Thread Cert.HyRefIdeal.nD Cert.HyRefIdeal.τ).loc Cert.HyRefIdeal.main_arg5))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v11)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v11) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v45) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)) →
    ∃ (v0 : (c : Dev Cert.InProjIdeal.nD) → Buf (Elt Ideal) ((c.tc : Thread Cert.InProjIdeal.nD Cert.InProjIdeal.τ).loc Cert.InProjIdeal.main_v10_0)) (v1 : (c : Dev Cert.InProjIdeal.nD) → Buf (Elt Ideal) ((c.tc : Thread Cert.InProjIdeal.nD Cert.InProjIdeal.τ).loc Cert.InProjIdeal.main_v10_1)) (v2 : (c : Dev Cert.InProjIdeal.nD) → Buf (Elt Ideal) ((c.tc : Thread Cert.InProjIdeal.nD Cert.InProjIdeal.τ).loc Cert.InProjIdeal.main_v10_2)) (v3 : (c : Dev Cert.InProjIdeal.nD) → Buf (Elt Ideal) ((c.tc : Thread Cert.InProjIdeal.nD Cert.InProjIdeal.τ).loc Cert.InProjIdeal.main_v10_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v10_0) = v0 c
          ∧ r.2.mem ((c.tc : Thread Cert.InProjIdeal.nD Cert.InProjIdeal.τ).loc Cert.InProjIdeal.main_v10_1) = v1 c
          ∧ r.2.mem ((c.tc : Thread Cert.InProjIdeal.nD Cert.InProjIdeal.τ).loc Cert.InProjIdeal.main_v10_2) = v2 c
          ∧ r.2.mem ((c.tc : Thread Cert.InProjIdeal.nD Cert.InProjIdeal.τ).loc Cert.InProjIdeal.main_v10_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v24) = v0 c
          ∧ r.2.mem ((c.tc : Thread Cert.InProjRefIdeal.nD Cert.InProjRefIdeal.τ).loc Cert.InProjRefIdeal.main_v26) = v1 c
          ∧ r.2.mem ((c.tc : Thread Cert.InProjRefIdeal.nD Cert.InProjRefIdeal.τ).loc Cert.InProjRefIdeal.main_v28) = v2 c
          ∧ r.2.mem ((c.tc : Thread Cert.InProjRefIdeal.nD Cert.InProjRefIdeal.τ).loc Cert.InProjRefIdeal.main_v30) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)
      ∧ m' ((c.tc : Thread Cert.WoutRefIdeal.nD Cert.WoutRefIdeal.τ).loc Cert.WoutRefIdeal.main_arg2) = m ((c.tc : Thread Cert.WoutIdeal.nD Cert.WoutIdeal.τ).loc Cert.WoutIdeal.main_arg2)
      ∧ m' ((c.tc : Thread Cert.WoutRefIdeal.nD Cert.WoutRefIdeal.τ).loc Cert.WoutRefIdeal.main_arg3) = m ((c.tc : Thread Cert.WoutIdeal.nD Cert.WoutIdeal.τ).loc Cert.WoutIdeal.main_arg3)
      ∧ m' ((c.tc : Thread Cert.WoutRefIdeal.nD Cert.WoutRefIdeal.τ).loc Cert.WoutRefIdeal.main_arg4) = m ((c.tc : Thread Cert.WoutIdeal.nD Cert.WoutIdeal.τ).loc Cert.WoutIdeal.main_arg4)
      ∧ m' ((c.tc : Thread Cert.WoutRefIdeal.nD Cert.WoutRefIdeal.τ).loc Cert.WoutRefIdeal.main_arg5) = m ((c.tc : Thread Cert.WoutIdeal.nD Cert.WoutIdeal.τ).loc Cert.WoutIdeal.main_arg5)) →
    ∃ (v0 : (c : Dev Cert.WoutIdeal.nD) → Buf (Elt Ideal) ((c.tc : Thread Cert.WoutIdeal.nD Cert.WoutIdeal.τ).loc Cert.WoutIdeal.main_v7)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v7) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
          ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
          ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3)
          ∧ r.2.mem ((c.tc : Thread Cert.WoutIdeal.nD Cert.WoutIdeal.τ).loc Cert.WoutIdeal.main_arg4) = m ((c.tc : Thread Cert.WoutIdeal.nD Cert.WoutIdeal.τ).loc Cert.WoutIdeal.main_arg4)
          ∧ r.2.mem ((c.tc : Thread Cert.WoutIdeal.nD Cert.WoutIdeal.τ).loc Cert.WoutIdeal.main_arg5) = m ((c.tc : Thread Cert.WoutIdeal.nD Cert.WoutIdeal.τ).loc Cert.WoutIdeal.main_arg5))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v9) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1)
          ∧ r.2.mem ((c.tc : Thread Cert.WoutRefIdeal.nD Cert.WoutRefIdeal.τ).loc Cert.WoutRefIdeal.main_arg2) = m' ((c.tc : Thread Cert.WoutRefIdeal.nD Cert.WoutRefIdeal.τ).loc Cert.WoutRefIdeal.main_arg2)
          ∧ r.2.mem ((c.tc : Thread Cert.WoutRefIdeal.nD Cert.WoutRefIdeal.τ).loc Cert.WoutRefIdeal.main_arg3) = m' ((c.tc : Thread Cert.WoutRefIdeal.nD Cert.WoutRefIdeal.τ).loc Cert.WoutRefIdeal.main_arg3)
          ∧ r.2.mem ((c.tc : Thread Cert.WoutRefIdeal.nD Cert.WoutRefIdeal.τ).loc Cert.WoutRefIdeal.main_arg4) = m' ((c.tc : Thread Cert.WoutRefIdeal.nD Cert.WoutRefIdeal.τ).loc Cert.WoutRefIdeal.main_arg4)
          ∧ r.2.mem ((c.tc : Thread Cert.WoutRefIdeal.nD Cert.WoutRefIdeal.τ).loc Cert.WoutRefIdeal.main_arg5) = m' ((c.tc : Thread Cert.WoutRefIdeal.nD Cert.WoutRefIdeal.τ).loc Cert.WoutRefIdeal.main_arg5))

def preserves_InCtx_InCtxIdeal : Prop :=
  True

def algebraic_InCtxIdeal_InCtxRefIdeal [hInCtxIdeal : Cert.InCtxIdeal.Facts] [hInCtxRefIdeal : Cert.InCtxRefIdeal.Facts] : Prop :=
  ∀ (m : (ℓ : Loc Cert.InCtxIdeal.nD Cert.InCtxIdeal.τ Cert.InCtxIdeal.sig) → Buf (Elt Ideal) ℓ) (g : Dev Cert.InCtxIdeal.nD → PrngReg)
    (m' : (ℓ : Loc Cert.InCtxRefIdeal.nD Cert.InCtxRefIdeal.τ Cert.InCtxRefIdeal.sig) → Buf (Elt Ideal) ℓ) (g' : Dev Cert.InCtxRefIdeal.nD → PrngReg), Pre_InCtxIdeal m →
    (∀ c : Dev Cert.InCtxIdeal.nD,
      m' ((c.tc : Thread Cert.InCtxRefIdeal.nD Cert.InCtxRefIdeal.τ).loc Cert.InCtxRefIdeal.main_arg0) = m ((c.tc : Thread Cert.InCtxIdeal.nD Cert.InCtxIdeal.τ).loc Cert.InCtxIdeal.main_arg0)
      ∧ m' ((c.tc : Thread Cert.InCtxRefIdeal.nD Cert.InCtxRefIdeal.τ).loc Cert.InCtxRefIdeal.main_arg1) = m ((c.tc : Thread Cert.InCtxIdeal.nD Cert.InCtxIdeal.τ).loc Cert.InCtxIdeal.main_arg1)
      ∧ m' ((c.tc : Thread Cert.InCtxRefIdeal.nD Cert.InCtxRefIdeal.τ).loc Cert.InCtxRefIdeal.main_arg2) = m ((c.tc : Thread Cert.InCtxIdeal.nD Cert.InCtxIdeal.τ).loc Cert.InCtxIdeal.main_arg2)
      ∧ m' ((c.tc : Thread Cert.InCtxRefIdeal.nD Cert.InCtxRefIdeal.τ).loc Cert.InCtxRefIdeal.main_arg3) = m ((c.tc : Thread Cert.InCtxIdeal.nD Cert.InCtxIdeal.τ).loc Cert.InCtxIdeal.main_arg3)
      ∧ m' ((c.tc : Thread Cert.InCtxRefIdeal.nD Cert.InCtxRefIdeal.τ).loc Cert.InCtxRefIdeal.main_arg4) = m ((c.tc : Thread Cert.InCtxIdeal.nD Cert.InCtxIdeal.τ).loc Cert.InCtxIdeal.main_arg4)) →
    ∃ (v0 : (c : Dev Cert.InCtxIdeal.nD) → Buf (Elt Ideal) ((c.tc : Thread Cert.InCtxIdeal.nD Cert.InCtxIdeal.τ).loc Cert.InCtxIdeal.main_v8)),
      θ_run (Cert.InCtxIdeal.defs (F := Ideal)) (onTc (τ := Cert.InCtxIdeal.τ) (Cert.InCtxIdeal.main (F := Ideal))) ⟨m, fun _ => 0, g⟩ (fun r => ∀ c : Dev Cert.InCtxIdeal.nD,
          r.2.mem ((c.tc : Thread Cert.InCtxIdeal.nD Cert.InCtxIdeal.τ).loc Cert.InCtxIdeal.main_v8) = v0 c
          ∧ r.2.mem ((c.tc : Thread Cert.InCtxIdeal.nD Cert.InCtxIdeal.τ).loc Cert.InCtxIdeal.main_arg0) = m ((c.tc : Thread Cert.InCtxIdeal.nD Cert.InCtxIdeal.τ).loc Cert.InCtxIdeal.main_arg0)
          ∧ r.2.mem ((c.tc : Thread Cert.InCtxIdeal.nD Cert.InCtxIdeal.τ).loc Cert.InCtxIdeal.main_arg1) = m ((c.tc : Thread Cert.InCtxIdeal.nD Cert.InCtxIdeal.τ).loc Cert.InCtxIdeal.main_arg1)
          ∧ r.2.mem ((c.tc : Thread Cert.InCtxIdeal.nD Cert.InCtxIdeal.τ).loc Cert.InCtxIdeal.main_arg2) = m ((c.tc : Thread Cert.InCtxIdeal.nD Cert.InCtxIdeal.τ).loc Cert.InCtxIdeal.main_arg2)
          ∧ r.2.mem ((c.tc : Thread Cert.InCtxIdeal.nD Cert.InCtxIdeal.τ).loc Cert.InCtxIdeal.main_arg3) = m ((c.tc : Thread Cert.InCtxIdeal.nD Cert.InCtxIdeal.τ).loc Cert.InCtxIdeal.main_arg3)
          ∧ r.2.mem ((c.tc : Thread Cert.InCtxIdeal.nD Cert.InCtxIdeal.τ).loc Cert.InCtxIdeal.main_arg4) = m ((c.tc : Thread Cert.InCtxIdeal.nD Cert.InCtxIdeal.τ).loc Cert.InCtxIdeal.main_arg4))
      ∧ θ_run (Cert.InCtxRefIdeal.defs (F := Ideal)) (onTc (τ := Cert.InCtxRefIdeal.τ) (Cert.InCtxRefIdeal.main (F := Ideal))) ⟨m', fun _ => 0, g'⟩ (fun r => ∀ c : Dev Cert.InCtxRefIdeal.nD,
          r.2.mem ((c.tc : Thread Cert.InCtxRefIdeal.nD Cert.InCtxRefIdeal.τ).loc Cert.InCtxRefIdeal.main_v27) = v0 c
          ∧ r.2.mem ((c.tc : Thread Cert.InCtxRefIdeal.nD Cert.InCtxRefIdeal.τ).loc Cert.InCtxRefIdeal.main_arg0) = m' ((c.tc : Thread Cert.InCtxRefIdeal.nD Cert.InCtxRefIdeal.τ).loc Cert.InCtxRefIdeal.main_arg0)
          ∧ r.2.mem ((c.tc : Thread Cert.InCtxRefIdeal.nD Cert.InCtxRefIdeal.τ).loc Cert.InCtxRefIdeal.main_arg1) = m' ((c.tc : Thread Cert.InCtxRefIdeal.nD Cert.InCtxRefIdeal.τ).loc Cert.InCtxRefIdeal.main_arg1)
          ∧ r.2.mem ((c.tc : Thread Cert.InCtxRefIdeal.nD Cert.InCtxRefIdeal.τ).loc Cert.InCtxRefIdeal.main_arg2) = m' ((c.tc : Thread Cert.InCtxRefIdeal.nD Cert.InCtxRefIdeal.τ).loc Cert.InCtxRefIdeal.main_arg2)
          ∧ r.2.mem ((c.tc : Thread Cert.InCtxRefIdeal.nD Cert.InCtxRefIdeal.τ).loc Cert.InCtxRefIdeal.main_arg3) = m' ((c.tc : Thread Cert.InCtxRefIdeal.nD Cert.InCtxRefIdeal.τ).loc Cert.InCtxRefIdeal.main_arg3)
          ∧ r.2.mem ((c.tc : Thread Cert.InCtxRefIdeal.nD Cert.InCtxRefIdeal.τ).loc Cert.InCtxRefIdeal.main_arg4) = m' ((c.tc : Thread Cert.InCtxRefIdeal.nD Cert.InCtxRefIdeal.τ).loc Cert.InCtxRefIdeal.main_arg4))

def preserves_Ada_AdaIdeal : Prop :=
  True

def algebraic_AdaIdeal_AdaRefIdeal_pre_finite_modulation [hAdaIdeal : Cert.AdaIdeal.Facts] [hAdaRefIdeal : Cert.AdaRefIdeal.Facts] [hPre_finite_modulation : Cert.Pre_finite_modulation.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal_finite_modulation m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v6)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v6) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v15) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Hgrn_HgrnIdeal : Prop :=
  True

def preserves_Kspec_KspecIdeal : Prop :=
  True

def algebraic_KspecIdeal_KspecRefIdeal_pre_finite_filter [hKspecIdeal : Cert.KspecIdeal.Facts] [hKspecRefIdeal : Cert.KspecRefIdeal.Facts] [hPre_finite_filter : Cert.Pre_finite_filter.Facts] : Prop :=
  ∀ (m : (ℓ : Loc Cert.KspecIdeal.nD Cert.KspecIdeal.τ Cert.KspecIdeal.sig) → Buf (Elt Ideal) ℓ) (g : Dev Cert.KspecIdeal.nD → PrngReg)
    (m' : (ℓ : Loc Cert.KspecRefIdeal.nD Cert.KspecRefIdeal.τ Cert.KspecRefIdeal.sig) → Buf (Elt Ideal) ℓ) (g' : Dev Cert.KspecRefIdeal.nD → PrngReg), Pre_KspecIdeal_finite_filter m →
    (∀ c : Dev Cert.KspecIdeal.nD,
      m' ((c.tc : Thread Cert.KspecRefIdeal.nD Cert.KspecRefIdeal.τ).loc Cert.KspecRefIdeal.main_arg0) = m ((c.tc : Thread Cert.KspecIdeal.nD Cert.KspecIdeal.τ).loc Cert.KspecIdeal.main_arg0)
      ∧ m' ((c.tc : Thread Cert.KspecRefIdeal.nD Cert.KspecRefIdeal.τ).loc Cert.KspecRefIdeal.main_arg1) = m ((c.tc : Thread Cert.KspecIdeal.nD Cert.KspecIdeal.τ).loc Cert.KspecIdeal.main_arg1)
      ∧ m' ((c.tc : Thread Cert.KspecRefIdeal.nD Cert.KspecRefIdeal.τ).loc Cert.KspecRefIdeal.main_arg2) = m ((c.tc : Thread Cert.KspecIdeal.nD Cert.KspecIdeal.τ).loc Cert.KspecIdeal.main_arg2)
      ∧ m' ((c.tc : Thread Cert.KspecRefIdeal.nD Cert.KspecRefIdeal.τ).loc Cert.KspecRefIdeal.main_arg3) = m ((c.tc : Thread Cert.KspecIdeal.nD Cert.KspecIdeal.τ).loc Cert.KspecIdeal.main_arg3)
      ∧ m' ((c.tc : Thread Cert.KspecRefIdeal.nD Cert.KspecRefIdeal.τ).loc Cert.KspecRefIdeal.main_arg4) = m ((c.tc : Thread Cert.KspecIdeal.nD Cert.KspecIdeal.τ).loc Cert.KspecIdeal.main_arg4)
      ∧ m' ((c.tc : Thread Cert.KspecRefIdeal.nD Cert.KspecRefIdeal.τ).loc Cert.KspecRefIdeal.main_arg5) = m ((c.tc : Thread Cert.KspecIdeal.nD Cert.KspecIdeal.τ).loc Cert.KspecIdeal.main_arg5)
      ∧ m' ((c.tc : Thread Cert.KspecRefIdeal.nD Cert.KspecRefIdeal.τ).loc Cert.KspecRefIdeal.main_arg6) = m ((c.tc : Thread Cert.KspecIdeal.nD Cert.KspecIdeal.τ).loc Cert.KspecIdeal.main_arg6)) →
    ∃ (v0 : (c : Dev Cert.KspecIdeal.nD) → Buf (Elt Ideal) ((c.tc : Thread Cert.KspecIdeal.nD Cert.KspecIdeal.τ).loc Cert.KspecIdeal.main_v31)),
      θ_run (Cert.KspecIdeal.defs (F := Ideal)) (onTc (τ := Cert.KspecIdeal.τ) (Cert.KspecIdeal.main (F := Ideal))) ⟨m, fun _ => 0, g⟩ (fun r => ∀ c : Dev Cert.KspecIdeal.nD,
          r.2.mem ((c.tc : Thread Cert.KspecIdeal.nD Cert.KspecIdeal.τ).loc Cert.KspecIdeal.main_v31) = v0 c
          ∧ r.2.mem ((c.tc : Thread Cert.KspecIdeal.nD Cert.KspecIdeal.τ).loc Cert.KspecIdeal.main_arg0) = m ((c.tc : Thread Cert.KspecIdeal.nD Cert.KspecIdeal.τ).loc Cert.KspecIdeal.main_arg0)
          ∧ r.2.mem ((c.tc : Thread Cert.KspecIdeal.nD Cert.KspecIdeal.τ).loc Cert.KspecIdeal.main_arg1) = m ((c.tc : Thread Cert.KspecIdeal.nD Cert.KspecIdeal.τ).loc Cert.KspecIdeal.main_arg1)
          ∧ r.2.mem ((c.tc : Thread Cert.KspecIdeal.nD Cert.KspecIdeal.τ).loc Cert.KspecIdeal.main_arg2) = m ((c.tc : Thread Cert.KspecIdeal.nD Cert.KspecIdeal.τ).loc Cert.KspecIdeal.main_arg2)
          ∧ r.2.mem ((c.tc : Thread Cert.KspecIdeal.nD Cert.KspecIdeal.τ).loc Cert.KspecIdeal.main_arg3) = m ((c.tc : Thread Cert.KspecIdeal.nD Cert.KspecIdeal.τ).loc Cert.KspecIdeal.main_arg3)
          ∧ r.2.mem ((c.tc : Thread Cert.KspecIdeal.nD Cert.KspecIdeal.τ).loc Cert.KspecIdeal.main_arg4) = m ((c.tc : Thread Cert.KspecIdeal.nD Cert.KspecIdeal.τ).loc Cert.KspecIdeal.main_arg4)
          ∧ r.2.mem ((c.tc : Thread Cert.KspecIdeal.nD Cert.KspecIdeal.τ).loc Cert.KspecIdeal.main_arg5) = m ((c.tc : Thread Cert.KspecIdeal.nD Cert.KspecIdeal.τ).loc Cert.KspecIdeal.main_arg5)
          ∧ r.2.mem ((c.tc : Thread Cert.KspecIdeal.nD Cert.KspecIdeal.τ).loc Cert.KspecIdeal.main_arg6) = m ((c.tc : Thread Cert.KspecIdeal.nD Cert.KspecIdeal.τ).loc Cert.KspecIdeal.main_arg6))
      ∧ θ_run (Cert.KspecRefIdeal.defs (F := Ideal)) (onTc (τ := Cert.KspecRefIdeal.τ) (Cert.KspecRefIdeal.main (F := Ideal))) ⟨m', fun _ => 0, g'⟩ (fun r => ∀ c : Dev Cert.KspecRefIdeal.nD,
          r.2.mem ((c.tc : Thread Cert.KspecRefIdeal.nD Cert.KspecRefIdeal.τ).loc Cert.KspecRefIdeal.main_v81) = v0 c
          ∧ r.2.mem ((c.tc : Thread Cert.KspecRefIdeal.nD Cert.KspecRefIdeal.τ).loc Cert.KspecRefIdeal.main_arg0) = m' ((c.tc : Thread Cert.KspecRefIdeal.nD Cert.KspecRefIdeal.τ).loc Cert.KspecRefIdeal.main_arg0)
          ∧ r.2.mem ((c.tc : Thread Cert.KspecRefIdeal.nD Cert.KspecRefIdeal.τ).loc Cert.KspecRefIdeal.main_arg1) = m' ((c.tc : Thread Cert.KspecRefIdeal.nD Cert.KspecRefIdeal.τ).loc Cert.KspecRefIdeal.main_arg1)
          ∧ r.2.mem ((c.tc : Thread Cert.KspecRefIdeal.nD Cert.KspecRefIdeal.τ).loc Cert.KspecRefIdeal.main_arg2) = m' ((c.tc : Thread Cert.KspecRefIdeal.nD Cert.KspecRefIdeal.τ).loc Cert.KspecRefIdeal.main_arg2)
          ∧ r.2.mem ((c.tc : Thread Cert.KspecRefIdeal.nD Cert.KspecRefIdeal.τ).loc Cert.KspecRefIdeal.main_arg3) = m' ((c.tc : Thread Cert.KspecRefIdeal.nD Cert.KspecRefIdeal.τ).loc Cert.KspecRefIdeal.main_arg3)
          ∧ r.2.mem ((c.tc : Thread Cert.KspecRefIdeal.nD Cert.KspecRefIdeal.τ).loc Cert.KspecRefIdeal.main_arg4) = m' ((c.tc : Thread Cert.KspecRefIdeal.nD Cert.KspecRefIdeal.τ).loc Cert.KspecRefIdeal.main_arg4)
          ∧ r.2.mem ((c.tc : Thread Cert.KspecRefIdeal.nD Cert.KspecRefIdeal.τ).loc Cert.KspecRefIdeal.main_arg5) = m' ((c.tc : Thread Cert.KspecRefIdeal.nD Cert.KspecRefIdeal.τ).loc Cert.KspecRefIdeal.main_arg5)
          ∧ r.2.mem ((c.tc : Thread Cert.KspecRefIdeal.nD Cert.KspecRefIdeal.τ).loc Cert.KspecRefIdeal.main_arg6) = m' ((c.tc : Thread Cert.KspecRefIdeal.nD Cert.KspecRefIdeal.τ).loc Cert.KspecRefIdeal.main_arg6))

def Claim : Prop :=
  ∃ (hHy : Cert.Hy.Facts) (hHyIdeal : Cert.HyIdeal.Facts) (hHyRefIdeal : Cert.HyRefIdeal.Facts) (hMlp : Cert.Mlp.Facts) (hMlpIdeal : Cert.MlpIdeal.Facts) (hMlpRefIdeal : Cert.MlpRefIdeal.Facts) (hInProj : Cert.InProj.Facts) (hInProjIdeal : Cert.InProjIdeal.Facts) (hInProjRefIdeal : Cert.InProjRefIdeal.Facts) (hWout : Cert.Wout.Facts) (hWoutIdeal : Cert.WoutIdeal.Facts) (hWoutRefIdeal : Cert.WoutRefIdeal.Facts) (hInCtx : Cert.InCtx.Facts) (hInCtxIdeal : Cert.InCtxIdeal.Facts) (hInCtxRefIdeal : Cert.InCtxRefIdeal.Facts) (hAda : Cert.Ada.Facts) (hAdaIdeal : Cert.AdaIdeal.Facts) (hAdaRefIdeal : Cert.AdaRefIdeal.Facts) (hHgrn : Cert.Hgrn.Facts) (hHgrnIdeal : Cert.HgrnIdeal.Facts) (hKspec : Cert.Kspec.Facts) (hKspecIdeal : Cert.KspecIdeal.Facts) (hKspecRefIdeal : Cert.KspecRefIdeal.Facts) (hPre_finite_modulation : Cert.Pre_finite_modulation.Facts) (hPre_finite_filter : Cert.Pre_finite_filter.Facts),
    quiescent_Hy (hHy := hHy)
    ∧ quiescent_HyIdeal (hHyIdeal := hHyIdeal)
    ∧ quiescent_HyRefIdeal (hHyRefIdeal := hHyRefIdeal)
    ∧ quiescent_Mlp (hMlp := hMlp)
    ∧ quiescent_MlpIdeal (hMlpIdeal := hMlpIdeal)
    ∧ quiescent_MlpRefIdeal (hMlpRefIdeal := hMlpRefIdeal)
    ∧ quiescent_InProj (hInProj := hInProj)
    ∧ quiescent_InProjIdeal (hInProjIdeal := hInProjIdeal)
    ∧ quiescent_InProjRefIdeal (hInProjRefIdeal := hInProjRefIdeal)
    ∧ quiescent_Wout (hWout := hWout)
    ∧ quiescent_WoutIdeal (hWoutIdeal := hWoutIdeal)
    ∧ quiescent_WoutRefIdeal (hWoutRefIdeal := hWoutRefIdeal)
    ∧ quiescent_InCtx (hInCtx := hInCtx)
    ∧ quiescent_InCtxIdeal (hInCtxIdeal := hInCtxIdeal)
    ∧ quiescent_InCtxRefIdeal (hInCtxRefIdeal := hInCtxRefIdeal)
    ∧ quiescent_Ada (hAda := hAda)
    ∧ quiescent_AdaIdeal (hAdaIdeal := hAdaIdeal)
    ∧ quiescent_AdaIdeal_pre_finite_modulation (hAdaIdeal := hAdaIdeal) (hPre_finite_modulation := hPre_finite_modulation)
    ∧ quiescent_AdaRefIdeal (hAdaRefIdeal := hAdaRefIdeal)
    ∧ quiescent_AdaRefIdeal_pre_finite_modulation (hAdaRefIdeal := hAdaRefIdeal) (hPre_finite_modulation := hPre_finite_modulation)
    ∧ quiescent_Hgrn (hHgrn := hHgrn)
    ∧ quiescent_HgrnIdeal (hHgrnIdeal := hHgrnIdeal)
    ∧ quiescent_Kspec (hKspec := hKspec)
    ∧ quiescent_KspecIdeal (hKspecIdeal := hKspecIdeal)
    ∧ quiescent_KspecIdeal_pre_finite_filter (hKspecIdeal := hKspecIdeal) (hPre_finite_filter := hPre_finite_filter)
    ∧ quiescent_KspecRefIdeal (hKspecRefIdeal := hKspecRefIdeal)
    ∧ quiescent_KspecRefIdeal_pre_finite_filter (hKspecRefIdeal := hKspecRefIdeal) (hPre_finite_filter := hPre_finite_filter)
    ∧ preserves_Hy_HyIdeal
    ∧ algebraic_HyIdeal_HyRefIdeal (hHyIdeal := hHyIdeal) (hHyRefIdeal := hHyRefIdeal)
    ∧ preserves_Mlp_MlpIdeal
    ∧ algebraic_MlpIdeal_MlpRefIdeal (hMlpIdeal := hMlpIdeal) (hMlpRefIdeal := hMlpRefIdeal)
    ∧ preserves_InProj_InProjIdeal
    ∧ algebraic_InProjIdeal_InProjRefIdeal (hInProjIdeal := hInProjIdeal) (hInProjRefIdeal := hInProjRefIdeal)
    ∧ preserves_Wout_WoutIdeal
    ∧ algebraic_WoutIdeal_WoutRefIdeal (hWoutIdeal := hWoutIdeal) (hWoutRefIdeal := hWoutRefIdeal)
    ∧ preserves_InCtx_InCtxIdeal
    ∧ algebraic_InCtxIdeal_InCtxRefIdeal (hInCtxIdeal := hInCtxIdeal) (hInCtxRefIdeal := hInCtxRefIdeal)
    ∧ preserves_Ada_AdaIdeal
    ∧ algebraic_AdaIdeal_AdaRefIdeal_pre_finite_modulation (hAdaIdeal := hAdaIdeal) (hAdaRefIdeal := hAdaRefIdeal) (hPre_finite_modulation := hPre_finite_modulation)
    ∧ preserves_Hgrn_HgrnIdeal
    ∧ preserves_Kspec_KspecIdeal
    ∧ algebraic_KspecIdeal_KspecRefIdeal_pre_finite_filter (hKspecIdeal := hKspecIdeal) (hKspecRefIdeal := hKspecRefIdeal) (hPre_finite_filter := hPre_finite_filter)
-- ==== Pre_finite_filter.lean ====
abbrev S1x33x64 : Shape := ⟨3, ![1, 33, 64]⟩
abbrev S1x64 : Shape := ⟨2, ![1, 64]⟩
abbrev S1x64x64 : Shape := ⟨3, ![1, 64, 64]⟩
abbrev S1x64x2048 : Shape := ⟨3, ![1, 64, 2048]⟩
abbrev S4096x2048 : Shape := ⟨2, ![4096, 2048]⟩
abbrev S_ : Shape := ⟨0, ![]⟩

class Facts : Prop where
  bcast_S_S1x33x64 : S_.BroadcastsInDim S1x33x64 (![] : Fin 0 → Fin S1x33x64.rank)
  reducesTo_S1x33x64_S_d0_1_2 : S1x33x64.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_
  bcast_S_S1x64x64 : S_.BroadcastsInDim S1x64x64 (![] : Fin 0 → Fin S1x64x64.rank)
  reducesTo_S1x64x64_S_d0_1_2 : S1x64x64.ReducesTo [0, 1, 2] S_
  bcast_S_S1x64x2048 : S_.BroadcastsInDim S1x64x2048 (![] : Fin 0 → Fin S1x64x2048.rank)
  reducesTo_S1x64x2048_S_d0_1_2 : S1x64x2048.ReducesTo [0, 1, 2] S_

variable [Facts]

def fn_part1 {F : FTy → Type} [FloatOps F] (main_arg4 : FVec F S1x64 .f32) (main_arg5 : FVec F S1x64x2048 .f32) (main_v13 : IVec S_ 1) (main_v16 : IVec S1x64x64 1) : IVec S_ 1 :=
  let main_c_5 : IVec S_ 1 := constantI S_ 1 1#1
  let main_v17 : IVec S_ 1 := (fun x v => Host.reduce IntOp.andi x v reducesTo_S1x64x64_S_d0_1_2 h_S_) main_v16 main_c_5
  let main_v18 : IVec S_ 1 := andi main_v13 main_v17
  let main_v19 : FVec F S1x64 .f32 := Host.absf main_arg4
  let main_cst_6 : FVec F S_ .f32 := constant S_ .f32 0x7F7FFFFF#32
  let main_v20 : FVec F S1x64 .f32 := broadcastInDim S1x64 ![] bcast_S_S1x64 main_cst_6
  let main_v21 : IVec S1x64 1 := cmpf .ole main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64x2048 .f32 := Host.absf main_arg5
  let main_cst_8 : FVec F S_ .f32 := constant S_ .f32 0x7F7FFFFF#32
  let main_v25 : FVec F S1x64x2048 .f32 := broadcastInDim S1x64x2048 ![] bcast_S_S1x64x2048 main_cst_8
  let main_v26 : IVec S1x64x2048 1 := cmpf .ole main_v24 main_v25
  let main_c_9 : IVec S_ 1 := constantI S_ 1 1#1
  let main_v27 : IVec S_ 1 := (fun x v => Host.reduce IntOp.andi x v reducesTo_S1x64x2048_S_d0_1_2 h_S_) main_v26 main_c_9
  let main_v28 : IVec S_ 1 := andi main_v23 main_v27
  main_v28

def fn {F : FTy → Type} [FloatOps F] (main_arg0 : FVec F S1x33x64 .f32) (main_arg1 : FVec F S1x64 .f32) (main_arg2 : FVec F S1x64 .f32) (main_arg3 : FVec F S1x64x64 .f32) (main_arg4 : FVec F S1x64 .f32) (main_arg5 : FVec F S1x64x2048 .f32) (main_arg6 : FVec F S4096x2048 .bf16) : IVec S_ 1 :=
  let main_v0 : FVec F S1x33x64 .f32 := Host.absf main_arg0
  let main_cst : FVec F S_ .f32 := constant S_ .f32 0x7F7FFFFF#32
  let main_v1 : FVec F S1x33x64 .f32 := broadcastInDim S1x33x64 ![] bcast_S_S1x33x64 main_cst
  let main_v2 : IVec S1x33x64 1 := cmpf .ole main_v0 main_v1
  let main_c : IVec S_ 1 := constantI S_ 1 1#1
  let main_v3 : IVec S_ 1 := (fun x v => Host.reduce IntOp.andi x v reducesTo_S1x33x64_S_d0_1_2 h_S_) main_v2 main_c
  let main_v4 : FVec F S1x64 .f32 := Host.absf main_arg1
  let main_cst_0 : FVec F S_ .f32 := constant S_ .f32 0x7F7FFFFF#32
  let main_v5 : FVec F S1x64 .f32 := broadcastInDim S1x64 ![] bcast_S_S1x64 main_cst_0
  let main_v6 : IVec S1x64 1 := cmpf .ole main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg2
  let main_cst_2 : FVec F S_ .f32 := constant S_ .f32 0x7F7FFFFF#32
  let main_v10 : FVec F S1x64 .f32 := broadcastInDim S1x64 ![] bcast_S_S1x64 main_cst_2
  let main_v11 : IVec S1x64 1 := cmpf .ole main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x64x64 .f32 := Host.absf main_arg3
  let main_cst_4 : FVec F S_ .f32 := constant S_ .f32 0x7F7FFFFF#32
  let main_v15 : FVec F S1x64x64 .f32 := broadcastInDim S1x64x64 ![] bcast_S_S1x64x64 main_cst_4
  let main_v16 : IVec S1x64x64 1 := cmpf .ole main_v14 main_v15
  fn_part1 (F := F) main_arg4 main_arg5 main_v13 main_v16
-- ==== Pre_finite_modulation.lean ====
abbrev S16x2048 : Shape := ⟨2, ![16, 2048]⟩
abbrev S2048 : Shape := ⟨1, ![2048]⟩
abbrev S1x2048x12288 : Shape := ⟨3, ![1, 2048, 12288]⟩
abbrev S1x12288 : Shape := ⟨2, ![1, 12288]⟩
abbrev S_ : Shape := ⟨0, ![]⟩

class Facts : Prop where
  bcast_S_S16x2048 : S_.BroadcastsInDim S16x2048 (![] : Fin 0 → Fin S16x2048.rank)
  reducesTo_S16x2048_S_d0_1 : S16x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S1x2048x12288 : S_.BroadcastsInDim S1x2048x12288 (![] : Fin 0 → Fin S1x2048x12288.rank)
  reducesTo_S1x2048x12288_S_d0_1_2 : S1x2048x12288.ReducesTo [0, 1, 2] S_

variable [Facts]

def fn {F : FTy → Type} [FloatOps F] (main_arg0 : FVec F S16x2048 .f32) (main_arg1 : FVec F S2048 .f32) (main_arg2 : FVec F S1x2048x12288 .f32) (main_arg3 : FVec F S1x12288 .f32) : IVec S_ 1 :=
  let main_v0 : FVec F S16x2048 .f32 := Host.absf main_arg0
  let main_cst : FVec F S_ .f32 := constant S_ .f32 0x7F7FFFFF#32
  let main_v1 : FVec F S16x2048 .f32 := broadcastInDim S16x2048 ![] bcast_S_S16x2048 main_cst
  let main_v2 : IVec S16x2048 1 := cmpf .ole main_v0 main_v1
  let main_c : IVec S_ 1 := constantI S_ 1 1#1
  let main_v3 : IVec S_ 1 := (fun x v => Host.reduce IntOp.andi x v reducesTo_S16x2048_S_d0_1 h_S_) main_v2 main_c
  let main_v4 : FVec F S2048 .f32 := Host.absf main_arg1
  let main_cst_0 : FVec F S_ .f32 := constant S_ .f32 0x7F7FFFFF#32
  let main_v5 : FVec F S2048 .f32 := broadcastInDim S2048 ![] bcast_S_S2048 main_cst_0
  let main_v6 : IVec S2048 1 := cmpf .ole main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S1x2048x12288 .f32 := Host.absf main_arg2
  let main_cst_2 : FVec F S_ .f32 := constant S_ .f32 0x7F7FFFFF#32
  let main_v10 : FVec F S1x2048x12288 .f32 := broadcastInDim S1x2048x12288 ![] bcast_S_S1x2048x12288 main_cst_2
  let main_v11 : IVec S1x2048x12288 1 := cmpf .ole main_v9 main_v10
  let main_c_3 : IVec S_ 1 := constantI S_ 1 1#1
  let main_v12 : IVec S_ 1 := (fun x v => Host.reduce IntOp.andi x v reducesTo_S1x2048x12288_S_d0_1_2 h_S_) main_v11 main_c_3
  let main_v13 : IVec S_ 1 := andi main_v8 main_v12
  main_v13
-- ==== Hy.lean ====
abbrev S16x2048x8192 : Shape := ⟨3, ![16, 2048, 8192]⟩
abbrev S1x3x3072 : Shape := ⟨3, ![1, 3, 3072]⟩
abbrev S1x3072 : Shape := ⟨2, ![1, 3072]⟩
abbrev S4096x1024 : Shape := ⟨2, ![4096, 1024]⟩
abbrev S4096x2048 : Shape := ⟨2, ![4096, 2048]⟩
abbrev S1x1024 : Shape := ⟨2, ![1, 1024]⟩
abbrev S3x3072 : Shape := ⟨2, ![3, 3072]⟩
abbrev S3072 : Shape := ⟨1, ![3072]⟩
abbrev S1024 : Shape := ⟨1, ![1024]⟩
abbrev S2048x4096 : Shape := ⟨2, ![2048, 4096]⟩
abbrev S16x4096x1024 : Shape := ⟨3, ![16, 4096, 1024]⟩
abbrev S16x2048x1024 : Shape := ⟨3, ![16, 2048, 1024]⟩
abbrev S1x2048x256 : Shape := ⟨3, ![1, 2048, 256]⟩
abbrev S3x256 : Shape := ⟨2, ![3, 256]⟩
abbrev S1x256 : Shape := ⟨2, ![1, 256]⟩
abbrev S4096x256 : Shape := ⟨2, ![4096, 256]⟩
abbrev S1x4096x256 : Shape := ⟨3, ![1, 4096, 256]⟩
abbrev S2048x256 : Shape := ⟨2, ![2048, 256]⟩
abbrev S1024x2048 : Shape := ⟨2, ![1024, 2048]⟩
abbrev S1024x256 : Shape := ⟨2, ![1024, 256]⟩
abbrev S1x1024x256 : Shape := ⟨3, ![1, 1024, 256]⟩
abbrev S1024x4096 : Shape := ⟨2, ![1024, 4096]⟩

abbrev nBuf : Space → Nat
  | .hbm => 15
  | .vmem => 34
  | .smem => 0
  | _ => 0

abbrev bufTy : (tb : Table) → Fin (tcTables nBuf tb) → BufTy
  | .hbm, ⟨0, _⟩ => ⟨S16x2048x8192, .f32⟩
  | .hbm, ⟨1, _⟩ => ⟨S1x3x3072, .f32⟩
  | .hbm, ⟨2, _⟩ => ⟨S1x3072, .f32⟩
  | .hbm, ⟨3, _⟩ => ⟨S4096x1024, .f32⟩
  | .hbm, ⟨4, _⟩ => ⟨S4096x2048, .bf16⟩
  | .hbm, ⟨5, _⟩ => ⟨S1x1024, .f32⟩
  | .hbm, ⟨6, _⟩ => ⟨S3x3072, .f32⟩
  | .hbm, ⟨7, _⟩ => ⟨S3072, .f32⟩
  | .hbm, ⟨8, _⟩ => ⟨S1x3072, .f32⟩
  | .hbm, ⟨9, _⟩ => ⟨S1024, .f32⟩
  | .hbm, ⟨10, _⟩ => ⟨S1x1024, .f32⟩
  | .hbm, ⟨11, _⟩ => ⟨S2048x4096, .bf16⟩
  | .hbm, ⟨12, _⟩ => ⟨S16x4096x1024, .bf16⟩
  | .hbm, ⟨13, _⟩ => ⟨S16x2048x1024, .bf16⟩
  | .hbm, ⟨14, _⟩ => ⟨S16x2048x1024, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S4096x2048, .bf16⟩
  | .local _ .vmem, ⟨13, _⟩ => ⟨S4096x256, .f32⟩
  | .local _ .vmem, ⟨14, _⟩ => ⟨S4096x256, .f32⟩
  | .local _ .vmem, ⟨15, _⟩ => ⟨S1x4096x256, .bf16⟩
  | .local _ .vmem, ⟨16, _⟩ => ⟨S1x4096x256, .bf16⟩
  | .local _ .vmem, ⟨17, _⟩ => ⟨S1x2048x256, .bf16⟩
  | .local _ .vmem, ⟨18, _⟩ => ⟨S1x2048x256, .bf16⟩
  | .local _ .vmem, ⟨19, _⟩ => ⟨S1x4096x256, .bf16⟩
  | .local _ .vmem, ⟨20, _⟩ => ⟨S1x4096x256, .bf16⟩
  | .local _ .vmem, ⟨21, _⟩ => ⟨S2048x4096, .bf16⟩
  | .local _ .vmem, ⟨22, _⟩ => ⟨S1x2048x256, .bf16⟩
  | .local _ .vmem, ⟨23, _⟩ => ⟨S1x2048x256, .bf16⟩
  | .local _ .vmem, ⟨24, _⟩ => ⟨S1x2048x256, .f32⟩
  | .local _ .vmem, ⟨25, _⟩ => ⟨S1x2048x256, .f32⟩
  | .local _ .vmem, ⟨26, _⟩ => ⟨S3x256, .f32⟩
  | .local _ .vmem, ⟨27, _⟩ => ⟨S3x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x2048x256, .bf16⟩
  | .local _ .vmem, ⟨33, _⟩ => ⟨S1x2048x256, .bf16⟩
  | _, _ => ⟨S16x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![arg1.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![arg1.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4096x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_3 (i : grid1.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![arg1.toNat, c0_i32.toNat, v0.toNat]

def cc1_transform_4 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage1_0 : Fin 2 → Memref sig .tc .vmem S1x4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2048x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S3x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x2048x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== HyRefIdeal.lean ====
abbrev S16x2048x8192 : Shape := ⟨3, ![16, 2048, 8192]⟩
abbrev S1x3x3072 : Shape := ⟨3, ![1, 3, 3072]⟩
abbrev S1x3072 : Shape := ⟨2, ![1, 3072]⟩
abbrev S4096x1024 : Shape := ⟨2, ![4096, 1024]⟩
abbrev S4096x2048 : Shape := ⟨2, ![4096, 2048]⟩
abbrev S1x1024 : Shape := ⟨2, ![1, 1024]⟩
abbrev S16x2048x3072 : Shape := ⟨3, ![16, 2048, 3072]⟩
abbrev S3x3072 : Shape := ⟨2, ![3, 3072]⟩
abbrev S3072 : Shape := ⟨1, ![3072]⟩
abbrev S_ : Shape := ⟨0, ![]⟩
abbrev S16x2050x3072 : Shape := ⟨3, ![16, 2050, 3072]⟩
abbrev S1x1x3072 : Shape := ⟨3, ![1, 1, 3072]⟩
abbrev S16x2048x1024 : Shape := ⟨3, ![16, 2048, 1024]⟩
abbrev S16x1024x4096 : Shape := ⟨3, ![16, 1024, 4096]⟩
abbrev S16x4096x1024 : Shape := ⟨3, ![16, 4096, 1024]⟩
abbrev S16x2049x1024 : Shape := ⟨3, ![16, 2049, 1024]⟩
abbrev S16x2047x1024 : Shape := ⟨3, ![16, 2047, 1024]⟩
abbrev S16x1x1024 : Shape := ⟨3, ![16, 1, 1024]⟩
abbrev S2049x1024 : Shape := ⟨2, ![2049, 1024]⟩
abbrev S2047x1024 : Shape := ⟨2, ![2047, 1024]⟩
abbrev S2049 : Shape := ⟨1, ![2049]⟩
abbrev S2049x1 : Shape := ⟨2, ![2049, 1]⟩
abbrev S1x2049x1024 : Shape := ⟨3, ![1, 2049, 1024]⟩
abbrev S1x2049x1 : Shape := ⟨3, ![1, 2049, 1]⟩
abbrev S16x1024x2048 : Shape := ⟨3, ![16, 1024, 2048]⟩
abbrev S1024 : Shape := ⟨1, ![1024]⟩
abbrev S1x1x1024 : Shape := ⟨3, ![1, 1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S16x2048x8192, .f32⟩
  | .hbm, ⟨1, _⟩ => ⟨S1x3x3072, .f32⟩
  | .hbm, ⟨2, _⟩ => ⟨S1x3072, .f32⟩
  | .hbm, ⟨3, _⟩ => ⟨S4096x1024, .f32⟩
  | .hbm, ⟨4, _⟩ => ⟨S4096x2048, .bf16⟩
  | .hbm, ⟨5, _⟩ => ⟨S1x1024, .f32⟩
  | .hbm, ⟨6, _⟩ => ⟨S16x2048x3072, .f32⟩
  | .hbm, ⟨7, _⟩ => ⟨S3x3072, .f32⟩
  | .hbm, ⟨8, _⟩ => ⟨S3072, .f32⟩
  | .hbm, ⟨9, _⟩ => ⟨S_, .i32⟩
  | .hbm, ⟨10, _⟩ => ⟨S_, .f32⟩
  | .hbm, ⟨11, _⟩ => ⟨S16x2050x3072, .f32⟩
  | .hbm, ⟨12, _⟩ => ⟨S16x2048x3072, .f32⟩
  | .hbm, ⟨13, _⟩ => ⟨S1x3072, .f32⟩
  | .hbm, ⟨14, _⟩ => ⟨S3072, .f32⟩
  | .hbm, ⟨15, _⟩ => ⟨S1x1x3072, .f32⟩
  | .hbm, ⟨16, _⟩ => ⟨S16x2048x3072, .f32⟩
  | .hbm, ⟨17, _⟩ => ⟨S16x2048x3072, .f32⟩
  | .hbm, ⟨18, _⟩ => ⟨S_, .f32⟩
  | .hbm, ⟨19, _⟩ => ⟨S16x2048x3072, .f32⟩
  | .hbm, ⟨20, _⟩ => ⟨S16x2048x3072, .f32⟩
  | .hbm, ⟨21, _⟩ => ⟨S16x2048x3072, .f32⟩
  | .hbm, ⟨22, _⟩ => ⟨S1x3072, .f32⟩
  | .hbm, ⟨23, _⟩ => ⟨S3072, .f32⟩
  | .hbm, ⟨24, _⟩ => ⟨S1x1x3072, .f32⟩
  | .hbm, ⟨25, _⟩ => ⟨S16x2048x3072, .f32⟩
  | .hbm, ⟨26, _⟩ => ⟨S16x2048x3072, .f32⟩
  | .hbm, ⟨27, _⟩ => ⟨S16x2048x3072, .f32⟩
  | .hbm, ⟨28, _⟩ => ⟨S16x2048x3072, .f32⟩
  | .hbm, ⟨29, _⟩ => ⟨S1x3072, .f32⟩
  | .hbm, ⟨30, _⟩ => ⟨S3072, .f32⟩
  | .hbm, ⟨31, _⟩ => ⟨S1x1x3072, .f32⟩
  | .hbm, ⟨32, _⟩ => ⟨S16x2048x3072, .f32⟩
  | .hbm, ⟨33, _⟩ => ⟨S16x2048x3072, .f32⟩
  | .hbm, ⟨34, _⟩ => ⟨S16x2048x3072, .f32⟩
  | .hbm, ⟨35, _⟩ => ⟨S1x1x3072, .f32⟩
  | .hbm, ⟨36, _⟩ => ⟨S16x2048x3072, .f32⟩
  | .hbm, ⟨37, _⟩ => ⟨S16x2048x3072, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S16x1024x4096, .f32⟩
  | .hbm, ⟨43, _⟩ => ⟨S16x4096x1024, .f32⟩
  | .hbm, ⟨44, _⟩ => ⟨S16x2049x1024, .f32⟩
  | .hbm, ⟨45, _⟩ => ⟨S16x2047x1024, .f32⟩
  | .hbm, ⟨46, _⟩ => ⟨S16x1x1024, .f32⟩
  | .hbm, ⟨47, _⟩ => ⟨S_, .f32⟩
  | .hbm, ⟨48, _⟩ => ⟨S16x1x1024, .f32⟩
  | .hbm, ⟨49, _⟩ => ⟨S16x2049x1024, .f32⟩
  | .hbm, ⟨50, _⟩ => ⟨S2049x1024, .f32⟩
  | .hbm, ⟨51, _⟩ => ⟨S2047x1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S2049x1024, .f32⟩
  | .hbm, ⟨56, _⟩ => ⟨S2049, .i32⟩
  | .hbm, ⟨57, _⟩ => ⟨S2049x1, .i32⟩
  | .hbm, ⟨58, _⟩ => ⟨S_, .i32⟩
  | .hbm, ⟨59, _⟩ => ⟨S2049x1, .i32⟩
  | .hbm, ⟨60, _⟩ => ⟨S2049x1, .i1⟩
  | .hbm, ⟨61, _⟩ => ⟨S_, .i32⟩
  | .hbm, ⟨62, _⟩ => ⟨S2049x1, .i32⟩
  | .hbm, ⟨63, _⟩ => ⟨S2049x1, .i1⟩
  | .hbm, ⟨64, _⟩ => ⟨S2049x1, .i1⟩
  | .hbm, ⟨65, _⟩ => ⟨S_, .f32⟩
  | .hbm, ⟨66, _⟩ => ⟨S_, .f32⟩
  | .hbm, ⟨67, _⟩ => ⟨S2049x1, .f32⟩
  | .hbm, ⟨68, _⟩ => ⟨S2049x1, .f32⟩
  | .hbm, ⟨69, _⟩ => ⟨S2049x1, .f32⟩
  | .hbm, ⟨70, _⟩ => ⟨S1x2049x1024, .f32⟩
  | .hbm, ⟨71, _⟩ => ⟨S16x2049x1024, .f32⟩
  | .hbm, ⟨72, _⟩ => ⟨S16x2049x1024, .f32⟩
  | .hbm, ⟨73, _⟩ => ⟨S1x2049x1024, .f32⟩
  | .hbm, ⟨74, _⟩ => ⟨S16x2049x1024, .f32⟩
  | .hbm, ⟨75, _⟩ => ⟨S16x2049x1024, .f32⟩
  | .hbm, ⟨76, _⟩ => ⟨S16x2049x1024, .f32⟩
  | .hbm, ⟨77, _⟩ => ⟨S2049x1, .f32⟩
  | .hbm, ⟨78, _⟩ => ⟨S1x2049x1, .f32⟩
  | .hbm, ⟨79, _⟩ => ⟨S16x2049x1024, .f32⟩
  | .hbm, ⟨80, _⟩ => ⟨S16x2049x1024, .f32⟩
  | .hbm, ⟨81, _⟩ => ⟨S1x2049x1024, .f32⟩
  | .hbm, ⟨82, _⟩ => ⟨S16x2049x1024, .f32⟩
  | .hbm, ⟨83, _⟩ => ⟨S16x2049x1024, .f32⟩
  | .hbm, ⟨84, _⟩ => ⟨S1x2049x1024, .f32⟩
  | .hbm, ⟨85, _⟩ => ⟨S16x2049x1024, .f32⟩
  | .hbm, ⟨86, _⟩ => ⟨S16x2049x1024, .f32⟩
  | .hbm, ⟨87, _⟩ => ⟨S16x2049x1024, .f32⟩
  | .hbm, ⟨88, _⟩ => ⟨S2049x1, .f32⟩
  | .hbm, ⟨89, _⟩ => ⟨S1x2049x1, .f32⟩
  | .hbm, ⟨90, _⟩ => ⟨S16x2049x1024, .f32⟩
  | .hbm, ⟨91, _⟩ => ⟨S16x2049x1024, .f32⟩
  | .hbm, ⟨92, _⟩ => ⟨S16x2047x1024, .f32⟩
  | .hbm, ⟨93, _⟩ => ⟨S16x4096x1024, .f32⟩
  | .hbm, ⟨94, _⟩ => ⟨S16x1024x2048, .f32⟩
  | .hbm, ⟨95, _⟩ => ⟨S16x2048x1024, .f32⟩
  | .hbm, ⟨96, _⟩ => ⟨S1024, .f32⟩
  | .hbm, ⟨97, _⟩ => ⟨S1x1x1024, .f32⟩
  | .hbm, ⟨98, _⟩ => ⟨S16x2048x1024, .f32⟩
  | .hbm, ⟨99, _⟩ => ⟨S16x2048x1024, .f32⟩
  | .hbm, ⟨100, _⟩ => ⟨S16x2048x1024, .f32⟩
  | .hbm, ⟨101, _⟩ => ⟨S16x2048x1024, .f32⟩
  | .hbm, ⟨102, _⟩ => ⟨S16x2048x1024, .bf16⟩
  | _, _ => ⟨S16x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_0 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_1 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c_2 : Ref sig .tc := ⟨.hbm, 58, rfl⟩
abbrev main_v47 : Ref sig .tc := ⟨.hbm, 59, rfl⟩
abbrev main_v48 : Ref sig .tc := ⟨.hbm, 60, rfl⟩
abbrev main_c_3 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_cst_5 : Ref sig .tc := ⟨.hbm, 66, rfl⟩
abbrev main_call1_v0 : Ref sig .tc := ⟨.hbm, 67, rfl⟩
abbrev main_call1_v1 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩

abbrev nD : Nat := 1
abbrev τ : Topo := Topo.v7x

variable {F : FTy → Type} [FloatOps F]
-- ==== Mlp.lean ====
abbrev S16x2048x2048 : Shape := ⟨3, ![16, 2048, 2048]⟩
abbrev S1x2048 : Shape := ⟨2, ![1, 2048]⟩
abbrev S16x2048 : Shape := ⟨2, ![16, 2048]⟩
abbrev S1x2048x8192 : Shape := ⟨3, ![1, 2048, 8192]⟩
abbrev S1x8192x2048 : Shape := ⟨3, ![1, 8192, 2048]⟩
abbrev S2048 : Shape := ⟨1, ![2048]⟩
abbrev S32768x2048 : Shape := ⟨2, ![32768, 2048]⟩
abbrev S2048x8192 : Shape := ⟨2, ![2048, 8192]⟩
abbrev S8192x2048 : Shape := ⟨2, ![8192, 2048]⟩
abbrev S16x1x2048 : Shape := ⟨3, ![16, 1, 2048]⟩
abbrev S512x2048 : Shape := ⟨2, ![512, 2048]⟩
abbrev S1x1x2048 : Shape := ⟨3, ![1, 1, 2048]⟩
abbrev S2048x1024 : Shape := ⟨2, ![2048, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩

abbrev nBuf : Space → Nat
  | .hbm => 20
  | .vmem => 18
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S16x2048, .f32⟩
  | .hbm, ⟨3, _⟩ => ⟨S16x2048, .f32⟩
  | .hbm, ⟨4, _⟩ => ⟨S16x2048, .f32⟩
  | .hbm, ⟨5, _⟩ => ⟨S1x2048x8192, .f32⟩
  | .hbm, ⟨6, _⟩ => ⟨S1x8192x2048, .f32⟩
  | .hbm, ⟨7, _⟩ => ⟨S2048, .f32⟩
  | .hbm, ⟨8, _⟩ => ⟨S32768x2048, .f32⟩
  | .hbm, ⟨9, _⟩ => ⟨S2048, .f32⟩
  | .hbm, ⟨10, _⟩ => ⟨S2048x8192, .f32⟩
  | .hbm, ⟨11, _⟩ => ⟨S2048x8192, .bf16⟩
  | .hbm, ⟨12, _⟩ => ⟨S8192x2048, .f32⟩
  | .hbm, ⟨13, _⟩ => ⟨S8192x2048, .bf16⟩
  | .hbm, ⟨14, _⟩ => ⟨S1x2048, .f32⟩
  | .hbm, ⟨15, _⟩ => ⟨S16x1x2048, .f32⟩
  | .hbm, ⟨16, _⟩ => ⟨S16x1x2048, .f32⟩
  | .hbm, ⟨17, _⟩ => ⟨S16x1x2048, .f32⟩
  | .hbm, ⟨18, _⟩ => ⟨S1x2048, .f32⟩
  | .hbm, ⟨19, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x1024, .bf16⟩
  | .local _ .vmem, ⟨10, _⟩ => ⟨S2048x1024, .bf16⟩
  | .local _ .vmem, ⟨11, _⟩ => ⟨S1024x2048, .bf16⟩
  | .local _ .vmem, ⟨12, _⟩ => ⟨S1024x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![64, 8], ![false, false]⟩

def k0_cond3 (i : grid0.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MlpRefIdeal.lean ====
abbrev S16x2048x2048 : Shape := ⟨3, ![16, 2048, 2048]⟩
abbrev S1x2048 : Shape := ⟨2, ![1, 2048]⟩
abbrev S16x2048 : Shape := ⟨2, ![16, 2048]⟩
abbrev S1x2048x8192 : Shape := ⟨3, ![1, 2048, 8192]⟩
abbrev S1x8192x2048 : Shape := ⟨3, ![1, 8192, 2048]⟩
abbrev S2048 : Shape := ⟨1, ![2048]⟩
abbrev S16x1x2048 : Shape := ⟨3, ![16, 1, 2048]⟩
abbrev S_ : Shape := ⟨0, ![]⟩
abbrev S16x2048x1 : Shape := ⟨3, ![16, 2048, 1]⟩
abbrev S1x1x2048 : Shape := ⟨3, ![1, 1, 2048]⟩
abbrev S2048x8192 : Shape := ⟨2, ![2048, 8192]⟩
abbrev S8192x2048 : Shape := ⟨2, ![8192, 2048]⟩
abbrev S16x2048x8192 : Shape := ⟨3, ![16, 2048, 8192]⟩
abbrev S32768x2048 : Shape := ⟨2, ![32768, 2048]⟩

abbrev nBuf : Space → Nat
  | .hbm => 63
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S16x2048, .f32⟩
  | .hbm, ⟨3, _⟩ => ⟨S16x2048, .f32⟩
  | .hbm, ⟨4, _⟩ => ⟨S16x2048, .f32⟩
  | .hbm, ⟨5, _⟩ => ⟨S1x2048x8192, .f32⟩
  | .hbm, ⟨6, _⟩ => ⟨S1x8192x2048, .f32⟩
  | .hbm, ⟨7, _⟩ => ⟨S2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S2048, .f32⟩
  | .hbm, ⟨12, _⟩ => ⟨S16x2048x2048, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x1, .f32⟩
  | .hbm, ⟨23, _⟩ => ⟨S16x2048x2048, .f32⟩
  | .hbm, ⟨24, _⟩ => ⟨S16x2048x2048, .f32⟩
  | .hbm, ⟨25, _⟩ => ⟨S1x1x2048, .f32⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S16x1x2048, .f32⟩
  | .hbm, ⟨30, _⟩ => ⟨S16x1x2048, .f32⟩
  | .hbm, ⟨31, _⟩ => ⟨S16x2048x2048, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S2048x8192, .f32⟩
  | .hbm, ⟨36, _⟩ => ⟨S8192x2048, .f32⟩
  | .hbm, ⟨37, _⟩ => ⟨S16x2048x8192, .f32⟩
  | .hbm, ⟨38, _⟩ => ⟨S_, .f32⟩
  | .hbm, ⟨39, _⟩ => ⟨S16x2048x8192, .f32⟩
  | .hbm, ⟨40, _⟩ => ⟨S16x2048x8192, .f32⟩
  | .hbm, ⟨41, _⟩ => ⟨S16x2048x8192, .f32⟩
  | .hbm, ⟨42, _⟩ => ⟨S16x2048x2048, .f32⟩
  | .hbm, ⟨43, _⟩ => ⟨S16x2048x2048, .f32⟩
  | .hbm, ⟨44, _⟩ => ⟨S16x2048x2048, .f32⟩
  | .hbm, ⟨45, _⟩ => ⟨S16x2048x2048, .f32⟩
  | .hbm, ⟨46, _⟩ => ⟨S16x2048x2048, .f32⟩
  | .hbm, ⟨47, _⟩ => ⟨S_, .f32⟩
  | .hbm, ⟨48, _⟩ => ⟨S16x2048, .f32⟩
  | .hbm, ⟨49, _⟩ => ⟨S16x2048x1, .f32⟩
  | .hbm, ⟨50, _⟩ => ⟨S_, .f32⟩
  | .hbm, ⟨51, _⟩ => ⟨S16x2048x1, .f32⟩
  | .hbm, ⟨52, _⟩ => ⟨S16x2048x1, .f32⟩
  | .hbm, ⟨53, _⟩ => ⟨S_, .f32⟩
  | .hbm, ⟨54, _⟩ => ⟨S16x2048x1, .f32⟩
  | .hbm, ⟨55, _⟩ => ⟨S16x2048x1, .f32⟩
  | .hbm, ⟨56, _⟩ => ⟨S16x2048x1, .f32⟩
  | .hbm, ⟨57, _⟩ => ⟨S16x2048x2048, .f32⟩
  | .hbm, ⟨58, _⟩ => ⟨S16x2048x2048, .f32⟩
  | .hbm, ⟨59, _⟩ => ⟨S1x1x2048, .f32⟩
  | .hbm, ⟨60, _⟩ => ⟨S16x2048x2048, .f32⟩
  | .hbm, ⟨61, _⟩ => ⟨S16x2048x2048, .f32⟩
  | .hbm, ⟨62, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_cst : Ref sig .tc := ⟨.hbm, 38, rfl⟩
abbrev main_call0_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== InProj.lean ====
abbrev S16x2048x2048 : Shape := ⟨3, ![16, 2048, 2048]⟩
abbrev S1x2048 : Shape := ⟨2, ![1, 2048]⟩
abbrev S16x2048 : Shape := ⟨2, ![16, 2048]⟩
abbrev S1x2048x8192 : Shape := ⟨3, ![1, 2048, 8192]⟩
abbrev S1x2048x2048 : Shape := ⟨3, ![1, 2048, 2048]⟩
abbrev S1x8192x2048 : Shape := ⟨3, ![1, 8192, 2048]⟩
abbrev S32768x2048 : Shape := ⟨2, ![32768, 2048]⟩
abbrev S2048 : Shape := ⟨1, ![2048]⟩
abbrev S2048x8192 : Shape := ⟨2, ![2048, 8192]⟩
abbrev S2048x2048 : Shape := ⟨2, ![2048, 2048]⟩
abbrev S8192x2048 : Shape := ⟨2, ![8192, 2048]⟩
abbrev S16x1x2048 : Shape := ⟨3, ![16, 1, 2048]⟩
abbrev S32768x8192 : Shape := ⟨2, ![32768, 8192]⟩
abbrev S256x2048 : Shape := ⟨2, ![256, 2048]⟩
abbrev S1x1x2048 : Shape := ⟨3, ![1, 1, 2048]⟩
abbrev S16x8192 : Shape := ⟨2, ![16, 8192]⟩
abbrev S64x2048 : Shape := ⟨2, ![64, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 22
  | .vmem => 25
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S16x2048, .f32⟩
  | .hbm, ⟨3, _⟩ => ⟨S16x2048, .f32⟩
  | .hbm, ⟨4, _⟩ => ⟨S1x2048x8192, .f32⟩
  | .hbm, ⟨5, _⟩ => ⟨S1x2048x2048, .f32⟩
  | .hbm, ⟨6, _⟩ => ⟨S1x2048x8192, .f32⟩
  | .hbm, ⟨7, _⟩ => ⟨S1x8192x2048, .f32⟩
  | .hbm, ⟨8, _⟩ => ⟨S32768x2048, .f32⟩
  | .hbm, ⟨9, _⟩ => ⟨S2048, .f32⟩
  | .hbm, ⟨10, _⟩ => ⟨S2048x8192, .f32⟩
  | .hbm, ⟨11, _⟩ => ⟨S2048x8192, .bf16⟩
  | .hbm, ⟨12, _⟩ => ⟨S2048x2048, .f32⟩
  | .hbm, ⟨13, _⟩ => ⟨S2048x8192, .f32⟩
  | .hbm, ⟨14, _⟩ => ⟨S8192x2048, .f32⟩
  | .hbm, ⟨15, _⟩ => ⟨S1x2048, .f32⟩
  | .hbm, ⟨16, _⟩ => ⟨S16x1x2048, .f32⟩
  | .hbm, ⟨17, _⟩ => ⟨S16x1x2048, .f32⟩
  | .hbm, ⟨18, _⟩ => ⟨S32768x8192, .f32⟩
  | .hbm, ⟨19, _⟩ => ⟨S2048x2048, .bf16⟩
  | .hbm, ⟨20, _⟩ => ⟨S2048x8192, .bf16⟩
  | .hbm, ⟨21, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x2048, .bf16⟩
  | .local _ .vmem, ⟨8, _⟩ => ⟨S2048x2048, .bf16⟩
  | .local _ .vmem, ⟨9, _⟩ => ⟨S16x2048, .f32⟩
  | .local _ .vmem, ⟨10, _⟩ => ⟨S16x2048, .f32⟩
  | .local _ .vmem, ⟨11, _⟩ => ⟨S16x8192, .f32⟩
  | .local _ .vmem, ⟨12, _⟩ => ⟨S16x8192, .f32⟩
  | .local _ .vmem, ⟨13, _⟩ => ⟨S64x2048, .f32⟩
  | .local _ .vmem, ⟨14, _⟩ => ⟨S64x2048, .f32⟩
  | .local _ .vmem, ⟨15, _⟩ => ⟨S1024x2048, .f32⟩
  | .local _ .vmem, ⟨16, _⟩ => ⟨S1024x2048, .f32⟩
  | .local _ .vmem, ⟨17, _⟩ => ⟨S16x2048, .bf16⟩
  | .local _ .vmem, ⟨18, _⟩ => ⟨S16x2048, .bf16⟩
  | .local _ .vmem, ⟨19, _⟩ => ⟨S16x8192, .bf16⟩
  | .local _ .vmem, ⟨20, _⟩ => ⟨S16x8192, .bf16⟩
  | .local _ .vmem, ⟨21, _⟩ => ⟨S64x2048, .bf16⟩
  | .local _ .vmem, ⟨22, _⟩ => ⟨S64x2048, .bf16⟩
  | .local _ .vmem, ⟨23, _⟩ => ⟨S1024x2048, .bf16⟩
  | .local _ .vmem, ⟨24, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![33, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c256_i32 : BitVec 32 := 256#32
  let v58 : BitVec 32 := Scalar.muli arg1 c256_i32
  v58
def k0_off1 (i : grid0.Coords) : Fin 2 → Nat :=
  let arg1 : BitVec 32 := BitVec.ofNat 32 (i 1).val
  let c256_i32 : BitVec 32 := 256#32
  let v58 : BitVec 32 := Scalar.muli arg1 c256_i32
  let v59 : BitVec 32 := v58
  let v60 : Index := Scalar.indexCast v59
  let c0_28 : Index := 0#32
  ![v60.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c2_i32 : BitVec 32 := 2#32
  let c0_i32_2 : BitVec 32 := 0#32
  let v4 : BitVec 1 := Scalar.cmpi .eq c2_i32 c0_i32_2
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_6 : BitVec 32 := 0#32
  let v14 : BitVec 1 := Scalar.cmpi .eq v13 c0_i32_6
  let v15 : BitVec 1 := Scalar.andi v3 v14
  let v16 : BitVec 32 := Scalar.extui v15
  let c0_i32_7 : BitVec 32 := 0#32
  let v17 : BitVec 1 := Scalar.cmpi .ne v16 c0_i32_7
  v17

def k0_mult2 (i : grid0.Coords) : BitVec 32 :=
  let arg1 : BitVec 32 := BitVec.ofNat 32 (i 1).val
  let c256_i32 : BitVec 32 := 256#32
  let v58 : BitVec 32 := Scalar.muli arg1 c256_i32
  v58
def k0_off2 (i : grid0.Coords) : Fin 2 → Nat :=
  let arg1 : BitVec 32 := BitVec.ofNat 32 (i 1).val
  let c256_i32 : BitVec 32 := 256#32
  let v58 : BitVec 32 := Scalar.muli arg1 c256_i32
  let v59 : BitVec 32 := v58
  let v60 : Index := Scalar.indexCast v59
  let c0_28 : Index := 0#32
  ![v60.toNat, 0]
def k0_cond3 (i : grid0.Coords) : BitVec 1 :=
  let arg0 : BitVec 32 := BitVec.ofNat 32 (i 0).val
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_14 : BitVec 32 := 1#32
  let v28 : BitVec 1 := Scalar.cmpi .eq v27 c1_i32_14
  let v29 : BitVec 32 := Scalar.extui v28
  let c0_i32_15 : BitVec 32 := 0#32
  let v30 : BitVec 1 := Scalar.cmpi .ne v29 c0_i32_15
  v30

def k0_mult3 (i : grid0.Coords) : BitVec 32 :=
  let arg1 : BitVec 32 := BitVec.ofNat 32 (i 1).val
  let c256_i32 : BitVec 32 := 256#32
  let v58 : BitVec 32 := Scalar.muli arg1 c256_i32
  v58
def k0_off3 (i : grid0.Coords) : Fin 2 → Nat :=
  let arg1 : BitVec 32 := BitVec.ofNat 32 (i 1).val
  let c256_i32 : BitVec 32 := 256#32
  let v58 : BitVec 32 := Scalar.muli arg1 c256_i32
  let v59 : BitVec 32 := v58
  let v60 : Index := Scalar.indexCast v59
  let c0_28 : Index := 0#32
  ![v60.toNat, 0]
def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c4_i32 : BitVec 32 := 4#32
  let v1 : BitVec 32 := Scalar.muli v0 c4_i32
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x8192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== InProjRefIdeal.lean ====
abbrev S16x2048x2048 : Shape := ⟨3, ![16, 2048, 2048]⟩
abbrev S1x2048 : Shape := ⟨2, ![1, 2048]⟩
abbrev S16x2048 : Shape := ⟨2, ![16, 2048]⟩
abbrev S1x2048x8192 : Shape := ⟨3, ![1, 2048, 8192]⟩
abbrev S1x2048x2048 : Shape := ⟨3, ![1, 2048, 2048]⟩
abbrev S1x8192x2048 : Shape := ⟨3, ![1, 8192, 2048]⟩
abbrev S2048 : Shape := ⟨1, ![2048]⟩
abbrev S_ : Shape := ⟨0, ![]⟩
abbrev S16x2048x1 : Shape := ⟨3, ![16, 2048, 1]⟩
abbrev S1x1x2048 : Shape := ⟨3, ![1, 1, 2048]⟩
abbrev S16x1x2048 : Shape := ⟨3, ![16, 1, 2048]⟩
abbrev S2048x8192 : Shape := ⟨2, ![2048, 8192]⟩
abbrev S16x2048x8192 : Shape := ⟨3, ![16, 2048, 8192]⟩
abbrev S32768x8192 : Shape := ⟨2, ![32768, 8192]⟩
abbrev S2048x2048 : Shape := ⟨2, ![2048, 2048]⟩
abbrev S8192x2048 : Shape := ⟨2, ![8192, 2048]⟩

abbrev nBuf : Space → Nat
  | .hbm => 43
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S16x2048, .f32⟩
  | .hbm, ⟨3, _⟩ => ⟨S16x2048, .f32⟩
  | .hbm, ⟨4, _⟩ => ⟨S1x2048x8192, .f32⟩
  | .hbm, ⟨5, _⟩ => ⟨S1x2048x2048, .f32⟩
  | .hbm, ⟨6, _⟩ => ⟨S1x2048x8192, .f32⟩
  | .hbm, ⟨7, _⟩ => ⟨S1x8192x2048, .f32⟩
  | .hbm, ⟨8, _⟩ => ⟨S2048, .f32⟩
  | .hbm, ⟨9, _⟩ => ⟨S16x2048x2048, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x2048, .f32⟩
  | .hbm, ⟨21, _⟩ => ⟨S16x2048x2048, .f32⟩
  | .hbm, ⟨22, _⟩ => ⟨S1x1x2048, .f32⟩
  | .hbm, ⟨23, _⟩ => ⟨S16x2048x2048, .f32⟩
  | .hbm, ⟨24, _⟩ => ⟨S16x2048x2048, .f32⟩
  | .hbm, ⟨25, _⟩ => ⟨S16x1x2048, .f32⟩
  | .hbm, ⟨26, _⟩ => ⟨S16x1x2048, .f32⟩
  | .hbm, ⟨27, _⟩ => ⟨S_, .f32⟩
  | .hbm, ⟨28, _⟩ => ⟨S16x1x2048, .f32⟩
  | .hbm, ⟨29, _⟩ => ⟨S16x1x2048, .f32⟩
  | .hbm, ⟨30, _⟩ => ⟨S16x2048x2048, .f32⟩
  | .hbm, ⟨31, _⟩ => ⟨S16x2048x2048, .f32⟩
  | .hbm, ⟨32, _⟩ => ⟨S16x2048x2048, .f32⟩
  | .hbm, ⟨33, _⟩ => ⟨S16x2048x2048, .f32⟩
  | .hbm, ⟨34, _⟩ => ⟨S2048x8192, .f32⟩
  | .hbm, ⟨35, _⟩ => ⟨S16x2048x8192, .f32⟩
  | .hbm, ⟨36, _⟩ => ⟨S32768x8192, .f32⟩
  | .hbm, ⟨37, _⟩ => ⟨S2048x2048, .f32⟩
  | .hbm, ⟨38, _⟩ => ⟨S2048x2048, .bf16⟩
  | .hbm, ⟨39, _⟩ => ⟨S2048x8192, .f32⟩
  | .hbm, ⟨40, _⟩ => ⟨S2048x8192, .bf16⟩
  | .hbm, ⟨41, _⟩ => ⟨S8192x2048, .f32⟩
  | .hbm, ⟨42, _⟩ => ⟨S8192x2048, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Wout.lean ====
abbrev S16x2048x512 : Shape := ⟨3, ![16, 2048, 512]⟩
abbrev S16x2048x1024 : Shape := ⟨3, ![16, 2048, 1024]⟩
abbrev S16x2048x2048 : Shape := ⟨3, ![16, 2048, 2048]⟩
abbrev S16x2048 : Shape := ⟨2, ![16, 2048]⟩
abbrev S1x2048x2048 : Shape := ⟨3, ![1, 2048, 2048]⟩
abbrev S32768x2048 : Shape := ⟨2, ![32768, 2048]⟩
abbrev S32768x512 : Shape := ⟨2, ![32768, 512]⟩
abbrev S32768x1024 : Shape := ⟨2, ![32768, 1024]⟩
abbrev S2048x2048 : Shape := ⟨2, ![2048, 2048]⟩
abbrev S16x1x2048 : Shape := ⟨3, ![16, 1, 2048]⟩
abbrev S512x512 : Shape := ⟨2, ![512, 512]⟩
abbrev S512x1024 : Shape := ⟨2, ![512, 1024]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 14
  | .vmem => 13
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x1024, .bf16⟩
  | .hbm, ⟨3, _⟩ => ⟨S16x2048x2048, .f32⟩
  | .hbm, ⟨4, _⟩ => ⟨S16x2048, .f32⟩
  | .hbm, ⟨5, _⟩ => ⟨S1x2048x2048, .f32⟩
  | .hbm, ⟨6, _⟩ => ⟨S32768x2048, .f32⟩
  | .hbm, ⟨7, _⟩ => ⟨S32768x512, .bf16⟩
  | .hbm, ⟨8, _⟩ => ⟨S32768x512, .bf16⟩
  | .hbm, ⟨9, _⟩ => ⟨S32768x1024, .bf16⟩
  | .hbm, ⟨10, _⟩ => ⟨S2048x2048, .f32⟩
  | .hbm, ⟨11, _⟩ => ⟨S2048x2048, .bf16⟩
  | .hbm, ⟨12, _⟩ => ⟨S16x1x2048, .f32⟩
  | .hbm, ⟨13, _⟩ => ⟨S32768x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .f32⟩
  | .local _ .vmem, ⟨7, _⟩ => ⟨S512x2048, .f32⟩
  | .local _ .vmem, ⟨8, _⟩ => ⟨S1x1x2048, .f32⟩
  | .local _ .vmem, ⟨9, _⟩ => ⟨S1x1x2048, .f32⟩
  | .local _ .vmem, ⟨10, _⟩ => ⟨S2048x2048, .bf16⟩
  | .local _ .vmem, ⟨11, _⟩ => ⟨S512x2048, .f32⟩
  | .local _ .vmem, ⟨12, _⟩ => ⟨S512x2048, .f32⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== WoutRefIdeal.lean ====
abbrev S16x2048x512 : Shape := ⟨3, ![16, 2048, 512]⟩
abbrev S16x2048x1024 : Shape := ⟨3, ![16, 2048, 1024]⟩
abbrev S16x2048x2048 : Shape := ⟨3, ![16, 2048, 2048]⟩
abbrev S16x2048 : Shape := ⟨2, ![16, 2048]⟩
abbrev S1x2048x2048 : Shape := ⟨3, ![1, 2048, 2048]⟩
abbrev S2048x2048 : Shape := ⟨2, ![2048, 2048]⟩
abbrev S16x1x2048 : Shape := ⟨3, ![16, 1, 2048]⟩
abbrev S32768x2048 : Shape := ⟨2, ![32768, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x1024, .bf16⟩
  | .hbm, ⟨3, _⟩ => ⟨S16x2048x2048, .f32⟩
  | .hbm, ⟨4, _⟩ => ⟨S16x2048, .f32⟩
  | .hbm, ⟨5, _⟩ => ⟨S1x2048x2048, .f32⟩
  | .hbm, ⟨6, _⟩ => ⟨S16x2048x1024, .bf16⟩
  | .hbm, ⟨7, _⟩ => ⟨S16x2048x2048, .bf16⟩
  | .hbm, ⟨8, _⟩ => ⟨S16x2048x2048, .f32⟩
  | .hbm, ⟨9, _⟩ => ⟨S2048x2048, .f32⟩
  | .hbm, ⟨10, _⟩ => ⟨S16x2048x2048, .f32⟩
  | .hbm, ⟨11, _⟩ => ⟨S16x1x2048, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S32768x2048, .f32⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== InCtx.lean ====
abbrev S16x256x2048 : Shape := ⟨3, ![16, 256, 2048]⟩
abbrev S1x2048 : Shape := ⟨2, ![1, 2048]⟩
abbrev S1x2048x8192 : Shape := ⟨3, ![1, 2048, 8192]⟩
abbrev S4096x2048 : Shape := ⟨2, ![4096, 2048]⟩
abbrev S2048 : Shape := ⟨1, ![2048]⟩
abbrev S2048x8192 : Shape := ⟨2, ![2048, 8192]⟩
abbrev S2048x3072 : Shape := ⟨2, ![2048, 3072]⟩
abbrev S1x1x2048 : Shape := ⟨3, ![1, 1, 2048]⟩
abbrev S4096x3072 : Shape := ⟨2, ![4096, 3072]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 14
  | .vmem => 12
  | .smem => 0
  | _ => 0

abbrev bufTy : (tb : Table) → Fin (tcTables nBuf tb) → BufTy
  | .hbm, ⟨0, _⟩ => ⟨S16x256x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048x8192, .f32⟩
  | .hbm, ⟨5, _⟩ => ⟨S4096x2048, .f32⟩
  | .hbm, ⟨6, _⟩ => ⟨S2048, .f32⟩
  | .hbm, ⟨7, _⟩ => ⟨S2048x8192, .f32⟩
  | .hbm, ⟨8, _⟩ => ⟨S2048x8192, .bf16⟩
  | .hbm, ⟨9, _⟩ => ⟨S2048x3072, .bf16⟩
  | .hbm, ⟨10, _⟩ => ⟨S1x2048, .f32⟩
  | .hbm, ⟨11, _⟩ => ⟨S1x1x2048, .f32⟩
  | .hbm, ⟨12, _⟩ => ⟨S1x1x2048, .f32⟩
  | .hbm, ⟨13, _⟩ => ⟨S4096x3072, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InCtxRefIdeal.lean ====
abbrev S16x256x2048 : Shape := ⟨3, ![16, 256, 2048]⟩
abbrev S1x2048 : Shape := ⟨2, ![1, 2048]⟩
abbrev S1x2048x8192 : Shape := ⟨3, ![1, 2048, 8192]⟩
abbrev S2048 : Shape := ⟨1, ![2048]⟩
abbrev S_ : Shape := ⟨0, ![]⟩
abbrev S16x256 : Shape := ⟨2, ![16, 256]⟩
abbrev S16x256x1 : Shape := ⟨3, ![16, 256, 1]⟩
abbrev S1x1x2048 : Shape := ⟨3, ![1, 1, 2048]⟩
abbrev S2048x8192 : Shape := ⟨2, ![2048, 8192]⟩
abbrev S16x256x8192 : Shape := ⟨3, ![16, 256, 8192]⟩
abbrev S16x256x3072 : Shape := ⟨3, ![16, 256, 3072]⟩
abbrev S4096x3072 : Shape := ⟨2, ![4096, 3072]⟩

abbrev nBuf : Space → Nat
  | .hbm => 37
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048x8192, .f32⟩
  | .hbm, ⟨5, _⟩ => ⟨S2048, .f32⟩
  | .hbm, ⟨6, _⟩ => ⟨S16x256x2048, .f32⟩
  | .hbm, ⟨7, _⟩ => ⟨S_, .f32⟩
  | .hbm, ⟨8, _⟩ => ⟨S16x256, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S_, .f32⟩
  | .hbm, ⟨14, _⟩ => ⟨S16x256x1, .f32⟩
  | .hbm, ⟨15, _⟩ => ⟨S16x256x1, .f32⟩
  | .hbm, ⟨16, _⟩ => ⟨S16x256x1, .f32⟩
  | .hbm, ⟨17, _⟩ => ⟨S16x256x2048, .f32⟩
  | .hbm, ⟨18, _⟩ => ⟨S16x256x2048, .f32⟩
  | .hbm, ⟨19, _⟩ => ⟨S1x1x2048, .f32⟩
  | .hbm, ⟨20, _⟩ => ⟨S16x256x2048, .f32⟩
  | .hbm, ⟨21, _⟩ => ⟨S16x256x2048, .f32⟩
  | .hbm, ⟨22, _⟩ => ⟨S2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S1x1x2048, .f32⟩
  | .hbm, ⟨28, _⟩ => ⟨S16x256x2048, .f32⟩
  | .hbm, ⟨29, _⟩ => ⟨S16x256x2048, .f32⟩
  | .hbm, ⟨30, _⟩ => ⟨S1x1x2048, .f32⟩
  | .hbm, ⟨31, _⟩ => ⟨S16x256x2048, .f32⟩
  | .hbm, ⟨32, _⟩ => ⟨S16x256x2048, .f32⟩
  | .hbm, ⟨33, _⟩ => ⟨S2048x8192, .f32⟩
  | .hbm, ⟨34, _⟩ => ⟨S16x256x8192, .f32⟩
  | .hbm, ⟨35, _⟩ => ⟨S16x256x3072, .f32⟩
  | .hbm, ⟨36, _⟩ => ⟨S4096x3072, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Ada.lean ====
abbrev S16x2048 : Shape := ⟨2, ![16, 2048]⟩
abbrev S2048 : Shape := ⟨1, ![2048]⟩
abbrev S1x2048x12288 : Shape := ⟨3, ![1, 2048, 12288]⟩
abbrev S1x12288 : Shape := ⟨2, ![1, 12288]⟩
abbrev S1x2048 : Shape := ⟨2, ![1, 2048]⟩
abbrev S_ : Shape := ⟨0, ![]⟩
abbrev S7x2048 : Shape := ⟨2, ![7, 2048]⟩
abbrev S24x2048 : Shape := ⟨2, ![24, 2048]⟩
abbrev S2048x12288 : Shape := ⟨2, ![2048, 12288]⟩
abbrev S12288 : Shape := ⟨1, ![12288]⟩
abbrev S24x12288 : Shape := ⟨2, ![24, 12288]⟩
abbrev S2048x512 : Shape := ⟨2, ![2048, 512]⟩
abbrev S1x512 : Shape := ⟨2, ![1, 512]⟩
abbrev S24x512 : Shape := ⟨2, ![24, 512]⟩

abbrev nBuf : Space → Nat
  | .hbm => 12
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2048, .f32⟩
  | .hbm, ⟨2, _⟩ => ⟨S1x2048x12288, .f32⟩
  | .hbm, ⟨3, _⟩ => ⟨S1x12288, .f32⟩
  | .hbm, ⟨4, _⟩ => ⟨S1x2048, .f32⟩
  | .hbm, ⟨5, _⟩ => ⟨S_, .f32⟩
  | .hbm, ⟨6, _⟩ => ⟨S7x2048, .f32⟩
  | .hbm, ⟨7, _⟩ => ⟨S24x2048, .f32⟩
  | .hbm, ⟨8, _⟩ => ⟨S2048x12288, .f32⟩
  | .hbm, ⟨9, _⟩ => ⟨S12288, .f32⟩
  | .hbm, ⟨10, _⟩ => ⟨S1x12288, .f32⟩
  | .hbm, ⟨11, _⟩ => ⟨S24x12288, .f32⟩
  | .local _ .vmem, ⟨0, _⟩ => ⟨S24x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S24x512, .f32⟩
  | .local _ .vmem, ⟨6, _⟩ => ⟨S24x512, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S16x2048 : Shape := ⟨2, ![16, 2048]⟩
abbrev S2048 : Shape := ⟨1, ![2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S16x12288 : Shape := ⟨2, ![16, 12288]⟩
abbrev S12288 : Shape := ⟨1, ![12288]⟩
abbrev S7x12288 : Shape := ⟨2, ![7, 12288]⟩
abbrev S24x12288 : Shape := ⟨2, ![24, 12288]⟩

abbrev nBuf : Space → Nat
  | .hbm => 36
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048, .f32⟩
  | .hbm, ⟨2, _⟩ => ⟨S1x2048x12288, .f32⟩
  | .hbm, ⟨3, _⟩ => ⟨S1x12288, .f32⟩
  | .hbm, ⟨4, _⟩ => ⟨S16x2048, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048, .f32⟩
  | .hbm, ⟨13, _⟩ => ⟨S2048x12288, .f32⟩
  | .hbm, ⟨14, _⟩ => ⟨S16x12288, .f32⟩
  | .hbm, ⟨15, _⟩ => ⟨S12288, .f32⟩
  | .hbm, ⟨16, _⟩ => ⟨S1x12288, .f32⟩
  | .hbm, ⟨17, _⟩ => ⟨S16x12288, .f32⟩
  | .hbm, ⟨18, _⟩ => ⟨S16x12288, .f32⟩
  | .hbm, ⟨19, _⟩ => ⟨S2048, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S2048x12288, .f32⟩
  | .hbm, ⟨29, _⟩ => ⟨S12288, .f32⟩
  | .hbm, ⟨30, _⟩ => ⟨S12288, .f32⟩
  | .hbm, ⟨31, _⟩ => ⟨S12288, .f32⟩
  | .hbm, ⟨32, _⟩ => ⟨S12288, .f32⟩
  | .hbm, ⟨33, _⟩ => ⟨S7x12288, .f32⟩
  | .hbm, ⟨34, _⟩ => ⟨S1x12288, .f32⟩
  | .hbm, ⟨35, _⟩ => ⟨S24x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩

abbrev nD : Nat := 1
abbrev τ : Topo := Topo.v7x

variable {F : FTy → Type} [FloatOps F]
-- ==== Hgrn.lean ====
abbrev S16x2048x8192 : Shape := ⟨3, ![16, 2048, 8192]⟩
abbrev S16x256x8192 : Shape := ⟨3, ![16, 256, 8192]⟩
abbrev S2x2x1024 : Shape := ⟨3, ![2, 2, 1024]⟩
abbrev S1x1024 : Shape := ⟨2, ![1, 1024]⟩
abbrev S4x1024 : Shape := ⟨2, ![4, 1024]⟩
abbrev S1024 : Shape := ⟨1, ![1024]⟩
abbrev S16x256x3072 : Shape := ⟨3, ![16, 256, 3072]⟩
abbrev S256x256 : Shape := ⟨2, ![256, 256]⟩
abbrev S_ : Shape := ⟨0, ![]⟩
abbrev S8x256 : Shape := ⟨2, ![8, 256]⟩
abbrev S256x128 : Shape := ⟨2, ![256, 128]⟩
abbrev S1x256x128 : Shape := ⟨3, ![1, 256, 128]⟩
abbrev S4x256x128 : Shape := ⟨3, ![4, 256, 128]⟩
abbrev S1x256x256 : Shape := ⟨3, ![1, 256, 256]⟩
abbrev S2x256x256 : Shape := ⟨3, ![2, 256, 256]⟩
abbrev S1x8x256 : Shape := ⟨3, ![1, 8, 256]⟩
abbrev S2x8x256 : Shape := ⟨3, ![2, 8, 256]⟩
abbrev S1x4x256x128 : Shape := ⟨4, ![1, 4, 256, 128]⟩
abbrev S16x2048x512 : Shape := ⟨3, ![16, 2048, 512]⟩
abbrev S1x2048x256 : Shape := ⟨3, ![1, 2048, 256]⟩
abbrev S4x256 : Shape := ⟨2, ![4, 256]⟩
abbrev S1x256 : Shape := ⟨2, ![1, 256]⟩
abbrev S2x2048x256 : Shape := ⟨3, ![2, 2048, 256]⟩
abbrev S4x128x128 : Shape := ⟨3, ![4, 128, 128]⟩
abbrev S256x1024 : Shape := ⟨2, ![256, 1024]⟩
abbrev S2x128x512 : Shape := ⟨3, ![2, 128, 512]⟩
abbrev S2x256 : Shape := ⟨2, ![2, 256]⟩
abbrev S256 : Shape := ⟨1, ![256]⟩
abbrev S1x1x256x128 : Shape := ⟨4, ![1, 1, 256, 128]⟩
abbrev S256x512 : Shape := ⟨2, ![256, 512]⟩
abbrev S128x512 : Shape := ⟨2, ![128, 512]⟩
abbrev S1x128x512 : Shape := ⟨3, ![1, 128, 512]⟩
abbrev S1x128x128 : Shape := ⟨3, ![1, 128, 128]⟩
abbrev S128x128 : Shape := ⟨2, ![128, 128]⟩
abbrev S1x128 : Shape := ⟨2, ![1, 128]⟩
abbrev S2048x256 : Shape := ⟨2, ![2048, 256]⟩
abbrev S256x1 : Shape := ⟨2, ![256, 1]⟩

abbrev nBuf : Space → Nat
  | .hbm => 108
  | .vmem => 44
  | .smem => 0
  | _ => 0

abbrev bufTy : (tb : Table) → Fin (tcTables nBuf tb) → BufTy
  | .hbm, ⟨0, _⟩ => ⟨S16x2048x8192, .f32⟩
  | .hbm, ⟨1, _⟩ => ⟨S16x256x8192, .f32⟩
  | .hbm, ⟨2, _⟩ => ⟨S2x2x1024, .f32⟩
  | .hbm, ⟨3, _⟩ => ⟨S1x1024, .f32⟩
  | .hbm, ⟨4, _⟩ => ⟨S4x1024, .f32⟩
  | .hbm, ⟨5, _⟩ => ⟨S1024, .f32⟩
  | .hbm, ⟨6, _⟩ => ⟨S1x1024, .f32⟩
  | .hbm, ⟨7, _⟩ => ⟨S16x256x3072, .f32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S_, .i32⟩
  | .hbm, ⟨14, _⟩ => ⟨S256x256, .i32⟩
  | .hbm, ⟨15, _⟩ => ⟨S256x256, .i32⟩
  | .hbm, ⟨16, _⟩ => ⟨S256x256, .i1⟩
  | .hbm, ⟨17, _⟩ => ⟨S_, .i32⟩
  | .hbm, ⟨18, _⟩ => ⟨S256x256, .i32⟩
  | .hbm, ⟨19, _⟩ => ⟨S256x256, .i32⟩
  | .hbm, ⟨20, _⟩ => ⟨S8x256, .i32⟩
  | .hbm, ⟨21, _⟩ => ⟨S8x256, .i32⟩
  | .hbm, ⟨22, _⟩ => ⟨S_, .i32⟩
  | .hbm, ⟨23, _⟩ => ⟨S8x256, .i32⟩
  | .hbm, ⟨24, _⟩ => ⟨S8x256, .i32⟩
  | .hbm, ⟨25, _⟩ => ⟨S_, .i32⟩
  | .hbm, ⟨26, _⟩ => ⟨S8x256, .i32⟩
  | .hbm, ⟨27, _⟩ => ⟨S8x256, .i32⟩
  | .hbm, ⟨28, _⟩ => ⟨S8x256, .i1⟩
  | .hbm, ⟨29, _⟩ => ⟨S_, .i32⟩
  | .hbm, ⟨30, _⟩ => ⟨S8x256, .i32⟩
  | .hbm, ⟨31, _⟩ => ⟨S8x256, .i32⟩
  | .hbm, ⟨32, _⟩ => ⟨S256x256, .i1⟩
  | .hbm, ⟨33, _⟩ => ⟨S256x256, .i1⟩
  | .hbm, ⟨34, _⟩ => ⟨S_, .i32⟩
  | .hbm, ⟨35, _⟩ => ⟨S256x256, .i32⟩
  | .hbm, ⟨36, _⟩ => ⟨S256x256, .i1⟩
  | .hbm, ⟨37, _⟩ => ⟨S256x256, .i1⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S256x256, .bf16⟩
  | .hbm, ⟨42, _⟩ => ⟨S256x256, .f32⟩
  | .hbm, ⟨43, _⟩ => ⟨S_, .i32⟩
  | .hbm, ⟨44, _⟩ => ⟨S8x256, .i32⟩
  | .hbm, ⟨45, _⟩ => ⟨S8x256, .i1⟩
  | .hbm, ⟨46, _⟩ => ⟨S_, .i32⟩
  | .hbm, ⟨47, _⟩ => ⟨S8x256, .i32⟩
  | .hbm, ⟨48, _⟩ => ⟨S8x256, .i1⟩
  | .hbm, ⟨49, _⟩ => ⟨S8x256, .i1⟩
  | .hbm, ⟨50, _⟩ => ⟨S8x256, .i1⟩
  | .hbm, ⟨51, _⟩ => ⟨S8x256, .bf16⟩
  | .hbm, ⟨52, _⟩ => ⟨S256x256, .i1⟩
  | .hbm, ⟨53, _⟩ => ⟨S256x256, .i1⟩
  | .hbm, ⟨54, _⟩ => ⟨S_, .i32⟩
  | .hbm, ⟨55, _⟩ => ⟨S256x256, .i32⟩
  | .hbm, ⟨56, _⟩ => ⟨S256x256, .i1⟩
  | .hbm, ⟨57, _⟩ => ⟨S256x256, .i1⟩
  | .hbm, ⟨58, _⟩ => ⟨S256x256, .f32⟩
  | .hbm, ⟨59, _⟩ => ⟨S256x256, .f32⟩
  | .hbm, ⟨60, _⟩ => ⟨S256x256, .f32⟩
  | .hbm, ⟨61, _⟩ => ⟨S256x256, .bf16⟩
  | .hbm, ⟨62, _⟩ => ⟨S256x256, .f32⟩
  | .hbm, ⟨63, _⟩ => ⟨S_, .i32⟩
  | .hbm, ⟨64, _⟩ => ⟨S8x256, .i32⟩
  | .hbm, ⟨65, _⟩ => ⟨S8x256, .i1⟩
  | .hbm, ⟨66, _⟩ => ⟨S_, .i32⟩
  | .hbm, ⟨67, _⟩ => ⟨S8x256, .i32⟩
  | .hbm, ⟨68, _⟩ => ⟨S8x256, .i1⟩
  | .hbm, ⟨69, _⟩ => ⟨S8x256, .i1⟩
  | .hbm, ⟨70, _⟩ => ⟨S8x256, .i1⟩
  | .hbm, ⟨71, _⟩ => ⟨S8x256, .bf16⟩
  | .hbm, ⟨72, _⟩ => ⟨S256x128, .i32⟩
  | .hbm, ⟨73, _⟩ => ⟨S_, .i32⟩
  | .hbm, ⟨74, _⟩ => ⟨S256x128, .i32⟩
  | .hbm, ⟨75, _⟩ => ⟨S256x128, .i32⟩
  | .hbm, ⟨76, _⟩ => ⟨S_, .i32⟩
  | .hbm, ⟨77, _⟩ => ⟨S256x128, .i32⟩
  | .hbm, ⟨78, _⟩ => ⟨S256x128, .i1⟩
  | .hbm, ⟨79, _⟩ => ⟨S256x128, .bf16⟩
  | .hbm, ⟨80, _⟩ => ⟨S_, .i32⟩
  | .hbm, ⟨81, _⟩ => ⟨S256x128, .i32⟩
  | .hbm, ⟨82, _⟩ => ⟨S256x128, .i1⟩
  | .hbm, ⟨83, _⟩ => ⟨S256x128, .bf16⟩
  | .hbm, ⟨84, _⟩ => ⟨S_, .i32⟩
  | .hbm, ⟨85, _⟩ => ⟨S256x128, .i32⟩
  | .hbm, ⟨86, _⟩ => ⟨S256x128, .i1⟩
  | .hbm, ⟨87, _⟩ => ⟨S256x128, .bf16⟩
  | .hbm, ⟨88, _⟩ => ⟨S_, .i32⟩
  | .hbm, ⟨89, _⟩ => ⟨S256x128, .i32⟩
  | .hbm, ⟨90, _⟩ => ⟨S256x128, .i1⟩
  | .hbm, ⟨91, _⟩ => ⟨S256x128, .bf16⟩
  | .hbm, ⟨92, _⟩ => ⟨S1x256x128, .bf16⟩
  | .hbm, ⟨93, _⟩ => ⟨S1x256x128, .bf16⟩
  | .hbm, ⟨94, _⟩ => ⟨S1x256x128, .bf16⟩
  | .hbm, ⟨95, _⟩ => ⟨S1x256x128, .bf16⟩
  | .hbm, ⟨96, _⟩ => ⟨S4x256x128, .bf16⟩
  | .hbm, ⟨97, _⟩ => ⟨S1x256x256, .bf16⟩
  | .hbm, ⟨98, _⟩ => ⟨S1x256x256, .bf16⟩
  | .hbm, ⟨99, _⟩ => ⟨S2x256x256, .bf16⟩
  | .hbm, ⟨100, _⟩ => ⟨S1x256x256, .f32⟩
  | .hbm, ⟨101, _⟩ => ⟨S1x256x256, .f32⟩
  | .hbm, ⟨102, _⟩ => ⟨S2x256x256, .f32⟩
  | .hbm, ⟨103, _⟩ => ⟨S1x8x256, .bf16⟩
  | .hbm, ⟨104, _⟩ => ⟨S1x8x256, .bf16⟩
  | .hbm, ⟨105, _⟩ => ⟨S2x8x256, .bf16⟩
  | .hbm, ⟨106, _⟩ => ⟨S1x4x256x128, .bf16⟩
  | .hbm, ⟨107, _⟩ => ⟨S16x2048x512, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S4x256, .f32⟩
  | .local _ .vmem, ⟨17, _⟩ => ⟨S4x256, .f32⟩
  | .local _ .vmem, ⟨18, _⟩ => ⟨S1x256, .f32⟩
  | .local _ .vmem, ⟨19, _⟩ => ⟨S1x256, .f32⟩
  | .local _ .vmem, ⟨20, _⟩ => ⟨S2x256x256, .bf16⟩
  | .local _ .vmem, ⟨21, _⟩ => ⟨S2x256x256, .f32⟩
  | .local _ .vmem, ⟨22, _⟩ => ⟨S2x8x256, .bf16⟩
  | .local _ .vmem, ⟨23, _⟩ => ⟨S1x4x256x128, .bf16⟩
  | .local _ .vmem, ⟨24, _⟩ => ⟨S1x2048x256, .bf16⟩
  | .local _ .vmem, ⟨25, _⟩ => ⟨S1x2048x256, .bf16⟩
  | .local _ .vmem, ⟨26, _⟩ => ⟨S2x2048x256, .f32⟩
  | .local _ .vmem, ⟨27, _⟩ => ⟨S4x128x128, .f32⟩
  | .local _ .vmem, ⟨28, _⟩ => ⟨S256x1024, .bf16⟩
  | .local _ .vmem, ⟨29, _⟩ => ⟨S2x128x512, .f32⟩
  | .local _ .vmem, ⟨30, _⟩ => ⟨S256x256, .f32⟩
  | .local _ .vmem, ⟨31, _⟩ => ⟨S8x256, .f32⟩
  | .local _ .vmem, ⟨32, _⟩ => ⟨S256x1024, .bf16⟩
  | .local _ .vmem, ⟨33, _⟩ => ⟨S2x128x512, .f32⟩
  | .local _ .vmem, ⟨34, _⟩ => ⟨S256x256, .f32⟩
  | .local _ .vmem, ⟨35, _⟩ => ⟨S8x256, .f32⟩
  | .local _ .vmem, ⟨36, _⟩ => ⟨S256x1024, .bf16⟩
  | .local _ .vmem, ⟨37, _⟩ => ⟨S2x128x512, .f32⟩
  | .local _ .vmem, ⟨38, _⟩ => ⟨S256x256, .f32⟩
  | .local _ .vmem, ⟨39, _⟩ => ⟨S8x256, .f32⟩
  | .local _ .vmem, ⟨40, _⟩ => ⟨S256x1024, .bf16⟩
  | .local _ .vmem, ⟨41, _⟩ => ⟨S2x128x512, .f32⟩
  | .local _ .vmem, ⟨42, _⟩ => ⟨S256x256, .f32⟩
  | .local _ .vmem, ⟨43, _⟩ => ⟨S8x256, .f32⟩
  | _, _ => ⟨S16x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_6 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_9 : Ref sig .tc := ⟨.hbm, 63, rfl⟩
abbrev main_v49 : Ref sig .tc := ⟨.hbm, 64, rfl⟩
abbrev main_v50 : Ref sig .tc := ⟨.hbm, 65, rfl⟩
abbrev main_c_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_11 : Ref sig .tc := ⟨.hbm, 73, rfl⟩
abbrev main_v57 : Ref sig .tc := ⟨.hbm, 74, rfl⟩
abbrev main_v58 : Ref sig .tc := ⟨.hbm, 75, rfl⟩
abbrev main_c_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c_13 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_14 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_15 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_scratch8 : Ref sig .tc := ⟨.vmem, 34, rfl⟩
abbrev cc0_scratch9 : Ref sig .tc := ⟨.vmem, 35, rfl⟩
abbrev cc0_scratch10 : Ref sig .tc := ⟨.vmem, 36, rfl⟩
abbrev cc0_scratch11 : Ref sig .tc := ⟨.vmem, 37, rfl⟩
abbrev cc0_scratch12 : Ref sig .tc := ⟨.vmem, 38, rfl⟩
abbrev cc0_scratch13 : Ref sig .tc := ⟨.vmem, 39, rfl⟩
abbrev cc0_scratch14 : Ref sig .tc := ⟨.vmem, 40, rfl⟩
abbrev cc0_scratch15 : Ref sig .tc := ⟨.vmem, 41, rfl⟩
abbrev cc0_scratch16 : Ref sig .tc := ⟨.vmem, 42, rfl⟩
abbrev cc0_scratch17 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S2x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x8x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x4x256x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x2048x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kspec.lean ====
abbrev S1x33x64 : Shape := ⟨3, ![1, 33, 64]⟩
abbrev S1x64 : Shape := ⟨2, ![1, 64]⟩
abbrev S1x64x64 : Shape := ⟨3, ![1, 64, 64]⟩
abbrev S1x64x2048 : Shape := ⟨3, ![1, 64, 2048]⟩
abbrev S4096x2048 : Shape := ⟨2, ![4096, 2048]⟩
abbrev S2048 : Shape := ⟨1, ![2048]⟩
abbrev S2048x1 : Shape := ⟨2, ![2048, 1]⟩
abbrev S_ : Shape := ⟨0, ![]⟩
abbrev S15 : Shape := ⟨1, ![15]⟩
abbrev S1 : Shape := ⟨1, ![1]⟩
abbrev S16 : Shape := ⟨1, ![16]⟩
abbrev S1x16 : Shape := ⟨2, ![1, 16]⟩
abbrev S2048x16 : Shape := ⟨2, ![2048, 16]⟩
abbrev S2048x33 : Shape := ⟨2, ![2048, 33]⟩
abbrev S2048x128 : Shape := ⟨2, ![2048, 128]⟩
abbrev S33x64 : Shape := ⟨2, ![33, 64]⟩
abbrev S128x64 : Shape := ⟨2, ![128, 64]⟩
abbrev S64 : Shape := ⟨1, ![64]⟩
abbrev S64x64 : Shape := ⟨2, ![64, 64]⟩
abbrev S64x2048 : Shape := ⟨2, ![64, 2048]⟩
abbrev S1023 : Shape := ⟨1, ![1023]⟩
abbrev S1024 : Shape := ⟨1, ![1024]⟩
abbrev S1x1024 : Shape := ⟨2, ![1, 1024]⟩
abbrev S4096x1024 : Shape := ⟨2, ![4096, 1024]⟩
abbrev S64x256 : Shape := ⟨2, ![64, 256]⟩
abbrev S1x256 : Shape := ⟨2, ![1, 256]⟩
abbrev S4096x256 : Shape := ⟨2, ![4096, 256]⟩
abbrev S2048x64 : Shape := ⟨2, ![2048, 64]⟩
abbrev S2048x256 : Shape := ⟨2, ![2048, 256]⟩
abbrev S256 : Shape := ⟨1, ![256]⟩
abbrev S2048x2048 : Shape := ⟨2, ![2048, 2048]⟩
abbrev S8x2048 : Shape := ⟨2, ![8, 2048]⟩
abbrev S8x256 : Shape := ⟨2, ![8, 256]⟩

abbrev nBuf : Space → Nat
  | .hbm => 90
  | .vmem => 16
  | .smem => 0
  | _ => 0

abbrev bufTy : (tb : Table) → Fin (tcTables nBuf tb) → BufTy
  | .hbm, ⟨0, _⟩ => ⟨S1x33x64, .f32⟩
  | .hbm, ⟨1, _⟩ => ⟨S1x64, .f32⟩
  | .hbm, ⟨2, _⟩ => ⟨S1x64, .f32⟩
  | .hbm, ⟨3, _⟩ => ⟨S1x64x64, .f32⟩
  | .hbm, ⟨4, _⟩ => ⟨S1x64, .f32⟩
  | .hbm, ⟨5, _⟩ => ⟨S1x64x2048, .f32⟩
  | .hbm, ⟨6, _⟩ => ⟨S4096x2048, .bf16⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S_, .i32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S15, .f32⟩
  | .hbm, ⟨20, _⟩ => ⟨S_, .f32⟩
  | .hbm, ⟨21, _⟩ => ⟨S15, .f32⟩
  | .hbm, ⟨22, _⟩ => ⟨S15, .f32⟩
  | .hbm, ⟨23, _⟩ => ⟨S1, .f32⟩
  | .hbm, ⟨24, _⟩ => ⟨S_, .f32⟩
  | .hbm, ⟨25, _⟩ => ⟨S15, .f32⟩
  | .hbm, ⟨26, _⟩ => ⟨S15, .f32⟩
  | .hbm, ⟨27, _⟩ => ⟨S15, .f32⟩
  | .hbm, ⟨28, _⟩ => ⟨S15, .f32⟩
  | .hbm, ⟨29, _⟩ => ⟨S1, .f32⟩
  | .hbm, ⟨30, _⟩ => ⟨S15, .f32⟩
  | .hbm, ⟨31, _⟩ => ⟨S15, .f32⟩
  | .hbm, ⟨32, _⟩ => ⟨S15, .f32⟩
  | .hbm, ⟨33, _⟩ => ⟨S1, .f32⟩
  | .hbm, ⟨34, _⟩ => ⟨S16, .f32⟩
  | .hbm, ⟨35, _⟩ => ⟨S1x16, .f32⟩
  | .hbm, ⟨36, _⟩ => ⟨S_, .f32⟩
  | .hbm, ⟨37, _⟩ => ⟨S1x16, .f32⟩
  | .hbm, ⟨38, _⟩ => ⟨S1x16, .f32⟩
  | .hbm, ⟨39, _⟩ => ⟨S2048x16, .f32⟩
  | .hbm, ⟨40, _⟩ => ⟨S2048x16, .f32⟩
  | .hbm, ⟨41, _⟩ => ⟨S2048x16, .f32⟩
  | .hbm, ⟨42, _⟩ => ⟨S_, .f32⟩
  | .hbm, ⟨43, _⟩ => ⟨S2048x16, .f32⟩
  | .hbm, ⟨44, _⟩ => ⟨S2048x16, .f32⟩
  | .hbm, ⟨45, _⟩ => ⟨S2048x16, .f32⟩
  | .hbm, ⟨46, _⟩ => ⟨S2048x16, .f32⟩
  | .hbm, ⟨47, _⟩ => ⟨S2048x16, .f32⟩
  | .hbm, ⟨48, _⟩ => ⟨S2048x33, .f32⟩
  | .hbm, ⟨49, _⟩ => ⟨S_, .i32⟩
  | .hbm, ⟨50, _⟩ => ⟨S_, .f32⟩
  | .hbm, ⟨51, _⟩ => ⟨S2048x128, .f32⟩
  | .hbm, ⟨52, _⟩ => ⟨S33x64, .f32⟩
  | .hbm, ⟨53, _⟩ => ⟨S_, .i32⟩
  | .hbm, ⟨54, _⟩ => ⟨S_, .f32⟩
  | .hbm, ⟨55, _⟩ => ⟨S128x64, .f32⟩
  | .hbm, ⟨56, _⟩ => ⟨S64, .f32⟩
  | .hbm, ⟨57, _⟩ => ⟨S1x64, .f32⟩
  | .hbm, ⟨58, _⟩ => ⟨S64, .f32⟩
  | .hbm, ⟨59, _⟩ => ⟨S1x64, .f32⟩
  | .hbm, ⟨60, _⟩ => ⟨S64x64, .f32⟩
  | .hbm, ⟨61, _⟩ => ⟨S64, .f32⟩
  | .hbm, ⟨62, _⟩ => ⟨S1x64, .f32⟩
  | .hbm, ⟨63, _⟩ => ⟨S64x2048, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S1023, .f32⟩
  | .hbm, ⟨72, _⟩ => ⟨S_, .f32⟩
  | .hbm, ⟨73, _⟩ => ⟨S1023, .f32⟩
  | .hbm, ⟨74, _⟩ => ⟨S1023, .f32⟩
  | .hbm, ⟨75, _⟩ => ⟨S1, .f32⟩
  | .hbm, ⟨76, _⟩ => ⟨S_, .f32⟩
  | .hbm, ⟨77, _⟩ => ⟨S1023, .f32⟩
  | .hbm, ⟨78, _⟩ => ⟨S1023, .f32⟩
  | .hbm, ⟨79, _⟩ => ⟨S1023, .f32⟩
  | .hbm, ⟨80, _⟩ => ⟨S1023, .f32⟩
  | .hbm, ⟨81, _⟩ => ⟨S1, .f32⟩
  | .hbm, ⟨82, _⟩ => ⟨S1023, .f32⟩
  | .hbm, ⟨83, _⟩ => ⟨S1023, .f32⟩
  | .hbm, ⟨84, _⟩ => ⟨S1023, .f32⟩
  | .hbm, ⟨85, _⟩ => ⟨S1, .f32⟩
  | .hbm, ⟨86, _⟩ => ⟨S1024, .f32⟩
  | .hbm, ⟨87, _⟩ => ⟨S1024, .f32⟩
  | .hbm, ⟨88, _⟩ => ⟨S1x1024, .f32⟩
  | .hbm, ⟨89, _⟩ => ⟨S4096x1024, .f32⟩
  | .local _ .vmem, ⟨0, _⟩ => ⟨S2048x128, .f32⟩
  | .local _ .vmem, ⟨1, _⟩ => ⟨S128x64, .f32⟩
  | .local _ .vmem, ⟨2, _⟩ => ⟨S1x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S1x256, .f32⟩
  | .local _ .vmem, ⟨11, _⟩ => ⟨S1x256, .f32⟩
  | .local _ .vmem, ⟨12, _⟩ => ⟨S4096x2048, .bf16⟩
  | .local _ .vmem, ⟨13, _⟩ => ⟨S4096x256, .f32⟩
  | .local _ .vmem, ⟨14, _⟩ => ⟨S4096x256, .f32⟩
  | .local _ .vmem, ⟨15, _⟩ => ⟨S2048x64, .f32⟩
  | _, _ => ⟨S1x33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_v4 : Ref sig .tc := ⟨.hbm, 34, rfl⟩
abbrev main_v5 : Ref sig .tc := ⟨.hbm, 35, rfl⟩
abbrev main_cst_1 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_2 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_c_3 : Ref sig .tc := ⟨.hbm, 49, rfl⟩
abbrev main_call1_v0 : Ref sig .tc := ⟨.hbm, 50, rfl⟩
abbrev main_v17 : Ref sig .tc := ⟨.hbm, 51, rfl⟩
abbrev main_v18 : Ref sig .tc := ⟨.hbm, 52, rfl⟩
abbrev main_c_4 : Ref sig .tc := ⟨.hbm, 53, rfl⟩
abbrev main_call2_v0 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_5 : Ref sig .tc := ⟨.hbm, 64, rfl⟩
abbrev main_cst_6 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_cst : Ref sig .tc := ⟨.hbm, 69, rfl⟩
abbrev main_call3_v3 : Ref sig .tc := ⟨.hbm, 70, rfl⟩
abbrev main_call3_v4 : Ref sig .tc := ⟨.hbm, 71, rfl⟩
abbrev main_call3_cst_0 : Ref sig .tc := ⟨.hbm, 72, rfl⟩
abbrev main_call3_v5 : Ref sig .tc := ⟨.hbm, 73, rfl⟩
abbrev main_call3_v6 : Ref sig .tc := ⟨.hbm, 74, rfl⟩
abbrev main_call3_v7 : Ref sig .tc := ⟨.hbm, 75, rfl⟩
abbrev main_call3_cst_1 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_call3_v15 : Ref sig .tc := ⟨.hbm, 84, rfl⟩
abbrev main_call3_v16 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4096x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4096x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KspecRefIdeal.lean ====
abbrev S1x33x64 : Shape := ⟨3, ![1, 33, 64]⟩
abbrev S1x64 : Shape := ⟨2, ![1, 64]⟩
abbrev S1x64x64 : Shape := ⟨3, ![1, 64, 64]⟩
abbrev S1x64x2048 : Shape := ⟨3, ![1, 64, 2048]⟩
abbrev S4096x2048 : Shape := ⟨2, ![4096, 2048]⟩
abbrev S2048 : Shape := ⟨1, ![2048]⟩
abbrev S2048x1 : Shape := ⟨2, ![2048, 1]⟩
abbrev S_ : Shape := ⟨0, ![]⟩
abbrev S15 : Shape := ⟨1, ![15]⟩
abbrev S1 : Shape := ⟨1, ![1]⟩
abbrev S16 : Shape := ⟨1, ![16]⟩
abbrev S1x16 : Shape := ⟨2, ![1, 16]⟩
abbrev S2048x16 : Shape := ⟨2, ![2048, 16]⟩
abbrev S2048x33 : Shape := ⟨2, ![2048, 33]⟩
abbrev S64 : Shape := ⟨1, ![64]⟩
abbrev S33x64 : Shape := ⟨2, ![33, 64]⟩
abbrev S2048x64 : Shape := ⟨2, ![2048, 64]⟩
abbrev S64x64 : Shape := ⟨2, ![64, 64]⟩
abbrev S1023 : Shape := ⟨1, ![1023]⟩
abbrev S1024 : Shape := ⟨1, ![1024]⟩
abbrev S1x1024 : Shape := ⟨2, ![1, 1024]⟩
abbrev S2048x1024 : Shape := ⟨2, ![2048, 1024]⟩
abbrev S1x64x1024 : Shape := ⟨3, ![1, 64, 1024]⟩
abbrev S64x1024 : Shape := ⟨2, ![64, 1024]⟩
abbrev S2049x2048 : Shape := ⟨2, ![2049, 2048]⟩
abbrev S2049x1024 : Shape := ⟨2, ![2049, 1024]⟩
abbrev S2047x2048 : Shape := ⟨2, ![2047, 2048]⟩
abbrev S2047x1024 : Shape := ⟨2, ![2047, 1024]⟩
abbrev S4096x1024 : Shape := ⟨2, ![4096, 1024]⟩

abbrev nBuf : Space → Nat
  | .hbm => 144
  | .vmem => 0
  | .smem => 0
  | _ => 0

abbrev hbmTy0_0 (i : Nat) : BufTy := match i % 128 with
  | 0 => ⟨S1x33x64, .f32⟩
  | 1 => ⟨S1x64, .f32⟩
  | 2 => ⟨S1x64, .f32⟩
  | 3 => ⟨S1x64x64, .f32⟩
  | 4 => ⟨S1x64, .f32⟩
  | 5 => ⟨S1x64x2048, .f32⟩
  | 6 => ⟨S4096x2048, .bf16⟩
  | 7 => ⟨S2048, .f32⟩
  | 8 => ⟨S2048x1, .f32⟩
  | 9 => ⟨S_, .f32⟩
  | 10 => ⟨S2048x1, .f32⟩
  | 11 => ⟨S2048x1, .f32⟩
  | 12 => ⟨S_, .f32⟩
  | 13 => ⟨S_, .i32⟩
  | 14 => ⟨S_, .f32⟩
  | 15 => ⟨S_, .f32⟩
  | 16 => ⟨S_, .f32⟩
  | 17 => ⟨S_, .f32⟩
  | 18 => ⟨S_, .f32⟩
  | 19 => ⟨S15, .f32⟩
  | 20 => ⟨S_, .f32⟩
  | 21 => ⟨S15, .f32⟩
  | 22 => ⟨S15, .f32⟩
  | 23 => ⟨S1, .f32⟩
  | 24 => ⟨S_, .f32⟩
  | 25 => ⟨S15, .f32⟩
  | 26 => ⟨S15, .f32⟩
  | 27 => ⟨S15, .f32⟩
  | 28 => ⟨S15, .f32⟩
  | 29 => ⟨S1, .f32⟩
  | 30 => ⟨S15, .f32⟩
  | 31 => ⟨S15, .f32⟩
  | 32 => ⟨S15, .f32⟩
  | 33 => ⟨S1, .f32⟩
  | 34 => ⟨S16, .f32⟩
  | 35 => ⟨S1x16, .f32⟩
  | 36 => ⟨S_, .f32⟩
  | 37 => ⟨S1x16, .f32⟩
  | 38 => ⟨S1x16, .f32⟩
  | 39 => ⟨S2048x16, .f32⟩
  | 40 => ⟨S2048x16, .f32⟩
  | 41 => ⟨S2048x16, .f32⟩
  | 42 => ⟨S_, .f32⟩
  | 43 => ⟨S2048x16, .f32⟩
  | 44 => ⟨S2048x16, .f32⟩
  | 45 => ⟨S2048x16, .f32⟩
  | 46 => ⟨S2048x16, .f32⟩
  | 47 => ⟨S2048x16, .f32⟩
  | 48 => ⟨S2048x33, .f32⟩
  | 49 => ⟨S64, .f32⟩
  | 50 => ⟨S33x64, .f32⟩
  | 51 => ⟨S2048x64, .f32⟩
  | 52 => ⟨S64, .f32⟩
  | 53 => ⟨S1x64, .f32⟩
  | 54 => ⟨S2048x64, .f32⟩
  | 55 => ⟨S2048x64, .f32⟩
  | 56 => ⟨S1x64, .f32⟩
  | 57 => ⟨S2048x64, .f32⟩
  | 58 => ⟨S2048x64, .f32⟩
  | 59 => ⟨S2048x64, .f32⟩
  | 60 => ⟨S64, .f32⟩
  | 61 => ⟨S64x64, .f32⟩
  | 62 => ⟨S2048x64, .f32⟩
  | 63 => ⟨S64, .f32⟩
  | 64 => ⟨S1x64, .f32⟩
  | 65 => ⟨S2048x64, .f32⟩
  | 66 => ⟨S2048x64, .f32⟩
  | 67 => ⟨S1x64, .f32⟩
  | 68 => ⟨S2048x64, .f32⟩
  | 69 => ⟨S2048x64, .f32⟩
  | 70 => ⟨S2048x64, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S1023, .f32⟩
  | 79 => ⟨S_, .f32⟩
  | 80 => ⟨S1023, .f32⟩
  | 81 => ⟨S1023, .f32⟩
  | 82 => ⟨S1, .f32⟩
  | 83 => ⟨S_, .f32⟩
  | 84 => ⟨S1023, .f32⟩
  | 85 => ⟨S1023, .f32⟩
  | 86 => ⟨S1023, .f32⟩
  | 87 => ⟨S1023, .f32⟩
  | 88 => ⟨S1, .f32⟩
  | 89 => ⟨S1023, .f32⟩
  | 90 => ⟨S1023, .f32⟩
  | 91 => ⟨S1023, .f32⟩
  | 92 => ⟨S1, .f32⟩
  | 93 => ⟨S1024, .f32⟩
  | 94 => ⟨S1024, .f32⟩
  | 95 => ⟨S2048x1, .f32⟩
  | 96 => ⟨S1x1024, .f32⟩
  | 97 => ⟨S2048x1024, .f32⟩
  | 98 => ⟨S2048x1024, .f32⟩
  | 99 => ⟨S2048x1024, .f32⟩
  | 100 => ⟨S2048x1024, .f32⟩
  | 101 => ⟨S_, .f32⟩
  | 102 => ⟨S2048x1024, .f32⟩
  | 103 => ⟨S2048x1024, .f32⟩
  | 104 => ⟨S1x64x1024, .f32⟩
  | 105 => ⟨S64x1024, .f32⟩
  | 106 => ⟨S2048x1024, .f32⟩
  | 107 => ⟨S2048x1024, .f32⟩
  | 108 => ⟨S2048, .i32⟩
  | 109 => ⟨S2048x1, .i32⟩
  | 110 => ⟨S_, .i32⟩
  | 111 => ⟨S2048x1, .i32⟩
  | 112 => ⟨S2048x1, .i1⟩
  | 113 => ⟨S1x64x1024, .f32⟩
  | 114 => ⟨S64x1024, .f32⟩
  | 115 => ⟨S2048x1024, .f32⟩
  | 116 => ⟨S2048x1024, .f32⟩
  | 117 => ⟨S_, .f32⟩
  | 118 => ⟨S_, .f32⟩
  | 119 => ⟨S2048x1024, .i1⟩
  | 120 => ⟨S2048x1024, .f32⟩
  | 121 => ⟨S2048x1024, .f32⟩
  | 122 => ⟨S2048x1024, .f32⟩
  | 123 => ⟨S_, .f32⟩
  | 124 => ⟨S1024, .f32⟩
  | 125 => ⟨S1x1024, .f32⟩
  | 126 => ⟨S2048x1024, .f32⟩
  | 127 => ⟨S_, .f32⟩
  | _ => ⟨S1x33x64, .f32⟩

abbrev hbmTy0_1 (i : Nat) : BufTy := match i % 128 with
  | 0 => ⟨S1024, .f32⟩
  | 1 => ⟨S1x1024, .f32⟩
  | 2 => ⟨S1x1024, .f32⟩
  | 3 => ⟨S1x1024, .f32⟩
  | 4 => ⟨S4096x2048, .f32⟩
  | 5 => ⟨S2049x2048, .f32⟩
  | 6 => ⟨S2048x1024, .f32⟩
  | 7 => ⟨S2048x1024, .f32⟩
  | 8 => ⟨S2048x1024, .f32⟩
  | 9 => ⟨S2049x1024, .f32⟩
  | 10 => ⟨S2047x2048, .f32⟩
  | 11 => ⟨S2048x1024, .f32⟩
  | 12 => ⟨S2048x1024, .f32⟩
  | 13 => ⟨S2048x1024, .f32⟩
  | 14 => ⟨S2047x1024, .f32⟩
  | 15 => ⟨S4096x1024, .f32⟩
  | _ => ⟨S1x33x64, .f32⟩

abbrev hbmTy (i : Nat) : BufTy := match i / 128 with
  | 0 => hbmTy0_0 i
  | 1 => hbmTy0_1 i
  | _ => ⟨S1x33x64, .f32⟩

abbrev bufTy : (tb : Table) → Fin (tcTables nBuf tb) → BufTy
  | .hbm, ⟨i, _⟩ => hbmTy i
  | _, _ => ⟨S1x33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_v4 : Ref sig .tc := ⟨.hbm, 34, rfl⟩
abbrev main_v5 : Ref sig .tc := ⟨.hbm, 35, rfl⟩
abbrev main_cst_1 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_2 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_3 : Ref sig .tc := ⟨.hbm, 71, rfl⟩
abbrev main_cst_4 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_cst : Ref sig .tc := ⟨.hbm, 76, rfl⟩
abbrev main_call1_v3 : Ref sig .tc := ⟨.hbm, 77, rfl⟩
abbrev main_call1_v4 : Ref sig .tc := ⟨.hbm, 78, rfl⟩
abbrev main_call1_cst_0 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_cst_1 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_v12 : Ref sig .tc := ⟨.hbm, 88, rfl⟩
abbrev main_call1_v13 : Ref sig .tc := ⟨.hbm, 89, rfl⟩
abbrev main_call1_v14 : Ref sig .tc := ⟨.hbm, 90, rfl⟩
abbrev main_call1_v15 : Ref sig .tc := ⟨.hbm, 91, rfl⟩
abbrev main_call1_v16 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_cst_5 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_c_6 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_cst_7 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_v61 : Ref sig .tc := ⟨.hbm, 121, rfl⟩
abbrev main_v62 : Ref sig .tc := ⟨.hbm, 122, rfl⟩
abbrev main_cst_8 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_cst_9 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩

abbrev nD : Nat := 1
abbrev τ : Topo := Topo.v7x

variable {F : FTy → Type} [FloatOps F]
-- ==== Proof.HyRows.lean ====
/-
  The long convolution of one channel over 2048 tokens: the centred three-tap convolution, the packed real transform by a
  table of 4096 rows (rows 0..2047 cosines, row 2048 the Nyquist row, rows 2049..4095 sines), and the packed product of two
  spectra with the weights of the inverse.
-/
module

public import Idealize.ShloMosaic.PureOps.Ideal.Laws
public import Idealize.ShloMosaic.Lib.WordCmp

@[expose] public section

noncomputable section

namespace Cert.Hyena

open Idealize.ShloMosaic

/-- The token before `s`, zero before the first. -/
def prevTap (x : Fin 2048 → EReal) (s : Fin 2048) : EReal := if s.val = 0 then 0 else x ⟨s.val - 1, by omega⟩

/-- The token after `s`, zero after the last. -/
def nextTap (x : Fin 2048 → EReal) (s : Fin 2048) : EReal := if h : s.val < 2047 then x ⟨s.val + 1, by omega⟩ else 0

/-- The centred three-tap convolution at token `s`. -/
def conv3 (x : Fin 2048 → EReal) (w : Fin 3 → EReal) (b : EReal) (s : Fin 2048) : EReal :=
  prevTap x s * w 0 + x s * w 1 + nextTap x s * w 2 + b

/-- The transform of `u` by the table's rows. -/
def dft (T : Fin 4096 → Fin 2048 → EReal) (u : Fin 2048 → EReal) (r : Fin 4096) : EReal := ∑ t, T r t * u t

/-- The weight of frequency `q` in the inverse: 1/4096 at the two ends, 2/4096 between. -/
def weight (q : ℕ) : EReal := if q = 0 then Ideal.ofBits FTy.f32 0x39800000#32 else Ideal.ofBits FTy.f32 0x3A000000#32

/-- Row `r` of the weighted product of two packed spectra. -/
def specRow (X K : Fin 4096 → EReal) (r : Fin 4096) : EReal :=
  have hr : r.val % 2048 < 2048 := Nat.mod_lt _ (by decide)
  let lo : Fin 4096 := ⟨r.val % 2048, by omega⟩
  let hi : Fin 4096 := ⟨2048 + r.val % 2048, by omega⟩
  if r.val < 2048 then (X lo * K lo - if r.val % 2048 = 0 then 0 else X hi * K hi) * weight (r.val % 2048)
  else (if r.val % 2048 = 0 then X hi * K hi else X lo * K hi + X hi * K lo) * weight (r.val % 2048)

/-- The gated input of the long convolution in channel `d`: the two factors' convolved lanes multiplied. -/
def gatedRow (p : Fin 2048 → Fin 8192 → EReal) (w : Fin 3 → Fin 3072 → EReal) (b : Fin 3072 → EReal) (d : Fin 1024) (s : Fin 2048) : EReal :=
  conv3 (fun t => p t ⟨6144 + d.val, by omega⟩) (fun k => w k ⟨1024 + d.val, by omega⟩) (b ⟨1024 + d.val, by omega⟩) s
    * conv3 (fun t => p t ⟨5120 + d.val, by omega⟩) (fun k => w k ⟨d.val, by omega⟩) (b ⟨d.val, by omega⟩) s

/-- The weighted product spectrum of channel `d`. -/
def specOf (p : Fin 2048 → Fin 8192 → EReal) (w : Fin 3 → Fin 3072 → EReal) (b : Fin 3072 → EReal) (K : Fin 4096 → Fin 1024 → EReal)
    (T : Fin 4096 → Fin 2048 → EReal) (d : Fin 1024) (r : Fin 4096) : EReal :=
  specRow (dft T (gatedRow p w b d)) (fun k => K k d) r

/-- The layer's long convolution at one token and channel: the gate times the inverse transform plus the biased input. -/
def longRow (p : Fin 2048 → Fin 8192 → EReal) (w : Fin 3 → Fin 3072 → EReal) (b : Fin 3072 → EReal) (K : Fin 4096 → Fin 1024 → EReal)
    (T : Fin 4096 → Fin 2048 → EReal) (bias : Fin 1024 → EReal) (d : Fin 1024) (s : Fin 2048) : EReal :=
  conv3 (fun t => p t ⟨7168 + d.val, by omega⟩) (fun k => w k ⟨2048 + d.val, by omega⟩) (b ⟨2048 + d.val, by omega⟩) s
    * ((∑ r, T r s * specOf p w b K T d r) + gatedRow p w b d s * bias d)

/-- A choice by the equality of two small 32-bit words. -/
theorem select_eq {α : Type} {n k : ℕ} (hn : n < 2 ^ 32) (hk : k < 2 ^ 32) (a b : α) :
    Scalar.select (IntOp.cmpi .eq (BitVec.ofNat 32 n) (BitVec.ofNat 32 k)) a b = if n = k then a else b := by
  rw [WordCmp.cmpi_eq_eq_toNat, WordCmp.select_ofBool, BitVec.toNat_ofNat, BitVec.toNat_ofNat, Nat.mod_eq_of_lt hn, Nat.mod_eq_of_lt hk]
  simp only [decide_eq_true_eq]

/-- The convolution with its two outer taps read around the end and masked. -/
theorem conv3_rotated (x : Fin 2048 → EReal) (w0 w1 w2 b : EReal) (w : Fin 3 → EReal) (s p q : Fin 2048) (hp : p.val = (s.val + 2048 - 1) % 2048)
    (hq : q.val = (s.val + 2048 - 2047) % 2048) (h0 : w0 = w 0) (h1 : w1 = w 1) (h2 : w2 = w 2) :
    (Scalar.select (IntOp.cmpi .eq (BitVec.ofNat 32 s.val) 0#32) 0 (x p * w0) + x s * w1)
      + Scalar.select (IntOp.cmpi .eq (BitVec.ofNat 32 s.val) 2047#32) 0 (x q * w2) + b = conv3 x w b s := by
  subst h0 h1 h2
  unfold conv3 prevTap nextTap
  rw [select_eq (by omega) (by omega), select_eq (by omega) (by omega)]
  congr 2
  · congr 1
    by_cases h : s.val = 0
    · rw [if_pos h, if_pos h, zero_mul]
    · rw [if_neg h, if_neg h, show p = ⟨s.val - 1, by omega⟩ from Fin.ext (by show p.val = s.val - 1; omega)]
  · by_cases h : s.val = 2047
    · rw [if_pos h, dif_neg (by omega), zero_mul]
    · rw [if_neg h, dif_pos (by omega), show q = ⟨s.val + 1, by omega⟩ from Fin.ext (by show q.val = s.val + 1; omega)]

end Cert.Hyena

end
-- ==== Proof.HyFwd.lean ====
module

public import proofs.«01_k».proof.Proof.HyRows
public import proofs.«01_k».proof.Proof.Gen.HyIdeal.Frame
public import Idealize.ShloMosaic.Lib.Pipeline.ValueKit
public import Idealize.ShloMosaic.Lib.Pipeline.ReadBack
public import Idealize.ShloMosaic.Lib.Pointwise
public import Idealize.ShloMosaic.Lib.Claim

/-! One entry of each block a grid point of the two Hyena calls writes, from the blocks it reads. -/

@[expose] public section

set_option maxRecDepth 16384

noncomputable section

namespace Cert.HyIdeal.Terms

open Cert.HyIdeal Cert.HyIdeal.Gen Idealize.ShloMosaic Idealize.ShloMosaic.TcCoe Idealize.ShloMosaic.Tactic
open Cert.Hyena

/-- The first product factor: the short convolution, its shifted rows masked at the ends. -/
theorem conv_apply (v : Vec Ideal S1x2048x256 .f32) (w : Vec Ideal S3x256 .f32) (b : Vec Ideal S1x256 .f32) (s : Fin 2048) (d : Fin 256) :
    k0_pay3 v w b (ix2 s d) = conv3 (fun t => v (ix3 0 t d)) (fun k => w (ix2 k d)) (b (ix2 0 d)) s := by
  pointwise! [k0_pay3]
  exact conv3_rotated (fun t => v (ix3 0 t d)) _ _ _ _ _ s _ _ rfl rfl rfl rfl rfl

/-- The second product factor, convolved, times the first. -/
theorem pay7_apply (a : FVec Ideal S2048x256 .f32) (v : Vec Ideal S1x2048x256 .f32) (w : Vec Ideal S3x256 .f32) (b : Vec Ideal S1x256 .f32) (s : Fin 2048) (d : Fin 256) :
    k0_pay7 a (k0_pay4 v) (k0_pay5 w) (k0_pay6 b) (iota .tc S2048x256 32 [0] iota_S2048x256_d0_w32) 0#32 (ix2 s d)
      = conv3 (fun t => v (ix3 0 t d)) (fun k => w (ix2 k d)) (b (ix2 0 d)) s * a (ix2 s d) := by
  pointwise! [k0_pay7, k0_pay4, k0_pay5, k0_pay6]
  refine congrArg (fun y : EReal => y * a (ix2 s d)) ?_
  exact conv3_rotated (fun t => v (ix3 0 t d)) _ _ _ _ _ s _ _ rfl rfl rfl rfl rfl

/-- The short convolution of the inverse call's gate. -/
theorem inv_conv_apply (v : Vec Ideal S1x2048x256 .f32) (w : Vec Ideal S3x256 .f32) (b : Vec Ideal S1x256 .f32) (s : Fin 2048) (d : Fin 256) :
    k1_pay3 v w b (ix2 s d) = conv3 (fun t => v (ix3 0 t d)) (fun k => w (ix2 k d)) (b (ix2 0 d)) s := by
  pointwise! [k1_pay3]
  exact conv3_rotated (fun t => v (ix3 0 t d)) _ _ _ _ _ s _ _ rfl rfl rfl rfl rfl

/-- The low half of the low frequencies: the first of them has no sine part. -/
theorem pay14_apply (xa ka bb : Vec Ideal S1024x256 .f32) (z : Fin 1) (r : Fin 1024) (d : Fin 256) :
    k0_pay14 xa ka bb k0_pay12 (Scalar.ofBits .f32 0x39800000#32) (Scalar.ofBits .f32 0x3A000000#32) (ix3 z r d)
      = ((xa (ix2 r d) * ka (ix2 r d) - if r.val = 0 then 0 else bb (ix2 r d)) * weight r.val : EReal) := by
  pointwise! [k0_pay14, k0_pay13, k0_pay12, weight]
  simp only [select_eq (show r.val < 2 ^ 32 by omega) (show 0 < 2 ^ 32 by omega)]

/-- The sine part of the spectrum's product, at a low frequency. -/
theorem pay15_apply (xa xb ka kb bb : Vec Ideal S1024x256 .f32) (z : Fin 1) (r : Fin 1024) (d : Fin 256) :
    k0_pay15 xa xb ka kb bb k0_pay12 (Scalar.ofBits .f32 0x39800000#32) (Scalar.ofBits .f32 0x3A000000#32) (ix3 z r d)
      = ((if r.val = 0 then bb (ix2 r d) else xa (ix2 r d) * kb (ix2 r d) + xb (ix2 r d) * ka (ix2 r d)) * weight r.val : EReal) := by
  pointwise! [k0_pay15, k0_pay13, k0_pay12, weight]
  simp only [select_eq (show r.val < 2 ^ 32 by omega) (show 0 < 2 ^ 32 by omega)]

/-- The low half of the transform: two row blocks of the table against one column of the input. -/
theorem pay1_apply (u : Vec Ideal S2048x256 .bf16) (fa fb : Vec Ideal S1024x2048 .bf16) (ka kb : Vec Ideal S1024x256 .f32) (z : Fin 1) (r : Fin 1024) (d : Fin 256) :
    k0_pay1 (k0_pay19 u fa fb ka kb) (ix3 z r d)
      = (((∑ t : Fin 2048, fa (ix2 r t) * u (ix2 t d)) * ka (ix2 r d) - (∑ t : Fin 2048, fb (ix2 r t) * u (ix2 t d)) * kb (ix2 r d)) * Ideal.ofBits FTy.f32 0x3A000000#32 : EReal) := by
  pointwise! [k0_pay1, k0_pay19, k0_pay16, k0_pay17]

/-- The high half of the transform, likewise. -/
theorem pay2_apply (u : Vec Ideal S2048x256 .bf16) (fa fb : Vec Ideal S1024x2048 .bf16) (ka kb : Vec Ideal S1024x256 .f32) (z : Fin 1) (r : Fin 1024) (d : Fin 256) :
    k0_pay2 (k0_pay18 u fa fb ka kb) (ix3 z r d)
      = (((∑ t : Fin 2048, fa (ix2 r t) * u (ix2 t d)) * kb (ix2 r d) + (∑ t : Fin 2048, fb (ix2 r t) * u (ix2 t d)) * ka (ix2 r d)) * Ideal.ofBits FTy.f32 0x3A000000#32 : EReal) := by
  pointwise! [k0_pay2, k0_pay18, k0_pay16, k0_pay17]

end Cert.HyIdeal.Terms

end
-- ==== Proof.HyBlock.lean ====
/-
  One point of each of the two calls, on whole blocks: what the forward call leaves in its two output blocks (the weighted
  product of the two packed spectra, and the gated input of the long convolution), and what the inverse call leaves in its one.
-/
module

public import proofs.«01_k».proof.Proof.HyFwd

@[expose] public section

set_option maxRecDepth 16384

noncomputable section

namespace Cert.HyIdeal.Terms

open Cert.HyIdeal Cert.HyIdeal.Gen Idealize.ShloMosaic Idealize.ShloMosaic.TcCoe Idealize.ShloMosaic.Tactic
open Cert.Hyena

/-- The gated input of the long convolution, from the two factors' blocks. -/
def gated (x0 x1 : Vec Ideal S1x2048x256 .f32) (x2 x3 : Vec Ideal S3x256 .f32) (x4 x5 : Vec Ideal S1x256 .f32) (d : Fin 256) (s : Fin 2048) : EReal :=
  conv3 (fun t => x1 (ix3 0 t d)) (fun k => x3 (ix2 k d)) (x5 (ix2 0 d)) s * conv3 (fun t => x0 (ix3 0 t d)) (fun k => x2 (ix2 k d)) (x4 (ix2 0 d)) s

/-- The packed transform of the gated input in one channel. -/
def spectrum (x0 x1 : Vec Ideal S1x2048x256 .f32) (x2 x3 : Vec Ideal S3x256 .f32) (x4 x5 : Vec Ideal S1x256 .f32) (x6 : Vec Ideal S4096x2048 .bf16) (d : Fin 256) : Fin 4096 → EReal :=
  dft (fun r t => x6 (ix2 r t)) (gated x0 x1 x2 x3 x4 x5 d)

theorem ld_whole {S : Shape} {e : EltTy} (X : Vec Ideal S e) (off : Fin S.rank → ℕ) (inb) (h : ∀ a, off a = 0) :
    (View.ld X (Rect.unit (s := S) off S.size inb) : Vec Ideal S e) = X := by
  funext y
  rw [View.ld_apply]
  refine congrArg X (funext fun a => Fin.ext ?_)
  show off a + 1 * (y a).val = (y a).val
  rw [h a]; omega

/-- A load of 1024 rows from row `o` of a block of rows, at an index. -/
theorem ld_rows {R C : ℕ} {e : EltTy} (X : Vec Ideal ⟨2, ![R, C]⟩ e) (o : ℕ) (ho : o + 1024 ≤ R) (inb) (r : Fin 1024) (d : Fin C) :
    (View.ld X (Rect.unit (s := ⟨2, ![R, C]⟩) ![o, 0] ![1024, C] inb) : Vec Ideal ⟨2, ![1024, C]⟩ e) (ix2 r d) = X (ix2 ⟨o + r.val, by omega⟩ d) := by
  rw [View.ld_apply]
  refine congrArg X (funext fun a => Fin.ext ?_)
  fin_cases a
  · show o + 1 * r.val = o + r.val; omega
  · show 0 + 1 * d.val = d.val; omega

/-- The same of a block with one leading plane. -/
theorem ld_rows3 {R C : ℕ} {e : EltTy} (X : Vec Ideal ⟨3, ![1, R, C]⟩ e) (o : ℕ) (ho : o + 1024 ≤ R) (inb) (z : Fin 1) (r : Fin 1024) (d : Fin C) :
    (View.ld X (Rect.unit (s := ⟨3, ![1, R, C]⟩) ![0, o, 0] ![1, 1024, C] inb) : Vec Ideal ⟨3, ![1, 1024, C]⟩ e) (ix3 z r d) = X (ix3 0 ⟨o + r.val, by omega⟩ d) := by
  rw [View.ld_apply]
  refine congrArg X (funext fun a => Fin.ext ?_)
  fin_cases a
  · show 0 + 1 * z.val = 0; omega
  · show o + 1 * r.val = o + r.val; omega
  · show 0 + 1 * d.val = d.val; omega

/-- A store of 1024 rows agrees with `G` where its payload does. -/
theorem piece_eq {R : ℕ} {e : EltTy} (G : Vec Ideal ⟨3, ![1, R, 256]⟩ e) (p : Vec Ideal S1x1024x256 e) (o : ℕ) (ho : o + 1024 ≤ R) (inb)
    (hp : ∀ (r : Fin 1024) (d : Fin 256), p (ix3 0 r d) = G (ix3 0 ⟨o + r.val, by omega⟩ d)) (x : S1x1024x256.Idx) :
    p x = G ((Rect.unit (s := ⟨3, ![1, R, 256]⟩) ![0, o, 0] S1x1024x256.size inb).emb x) := by
  have hx : x = ix3 (0 : Fin 1) (x 1) (x 2) := by
    refine (eq_ix3 x).trans ?_
    congr 1
    exact Fin.ext (by have : (x 0).val < 1 := (x 0).isLt; show (x 0).val = 0; omega)
  refine (congrArg p hx).trans ((hp (x 1) (x 2)).trans (congrArg G (funext fun a => Fin.ext ?_)))
  have h0 : (x 0).val < 1 := (x 0).isLt
  fin_cases a
  · show 0 = 0 + 1 * (x 0).val; omega
  · show o + (x 1).val = o + 1 * (x 1).val; omega
  · show (x 2).val = 0 + 1 * (x 2).val; omega

/-- Four stores of 1024 rows that hold the four quarters of one array `G` leave `G`. -/
theorem canon_quarters {e : EltTy} (G : Vec Ideal S1x4096x256 e) (p q s t : Vec Ideal S1x1024x256 e)
    (hp : ∀ (r : Fin 1024) (d : Fin 256), p (ix3 0 r d) = G (ix3 0 ⟨3072 + r.val, by omega⟩ d))
    (hq : ∀ (r : Fin 1024) (d : Fin 256), q (ix3 0 r d) = G (ix3 0 ⟨1024 + r.val, by omega⟩ d))
    (hs : ∀ (r : Fin 1024) (d : Fin 256), s (ix3 0 r d) = G (ix3 0 ⟨2048 + r.val, by omega⟩ d))
    (ht : ∀ (r : Fin 1024) (d : Fin 256), t (ix3 0 r d) = G (ix3 0 ⟨0 + r.val, by omega⟩ d)) :
    View.canon (Val := Elt Ideal) ([⟨r0_14, p⟩, ⟨r0_13, q⟩, ⟨r0_8, s⟩, ⟨r0_7, t⟩] : List (View.Piece (Elt Ideal) S1x4096x256 e)) = G := by
  funext y
  refine View.canon_apply_of_pieces G _ ?_ y ?_
  · intro P hP x
    simp only [List.mem_cons, List.not_mem_nil, or_false] at hP
    rcases hP with rfl | rfl | rfl | rfl
    · exact piece_eq G p 3072 (by decide) inb_S1x4096x256_S1x1024x256_0_3072_0 hp x
    · exact piece_eq G q 1024 (by decide) inb_S1x4096x256_S1x1024x256_0_1024_0 hq x
    · exact piece_eq G s 2048 (by decide) inb_S1x4096x256_S1x1024x256_0_2048_0 hs x
    · exact piece_eq G t 0 (by decide) inb_S1x4096x256_S1x1024x256_0_0_0 ht x
  · exact View.cover_of_tiled [⟨r0_14, p⟩, ⟨r0_13, q⟩, ⟨r0_8, s⟩, ⟨r0_7, t⟩] S1x1024x256.size (by rfl) y

/-- Two stores of 1024 rows that hold the two halves of one array `G` leave `G`. -/
theorem canon_halves {e : EltTy} (G : Vec Ideal S1x2048x256 e) (p q : Vec Ideal S1x1024x256 e)
    (hp : ∀ (r : Fin 1024) (d : Fin 256), p (ix3 0 r d) = G (ix3 0 ⟨1024 + r.val, by omega⟩ d))
    (hq : ∀ (r : Fin 1024) (d : Fin 256), q (ix3 0 r d) = G (ix3 0 ⟨0 + r.val, by omega⟩ d)) :
    View.canon (Val := Elt Ideal) ([⟨r1_7, p⟩, ⟨r1_5, q⟩] : List (View.Piece (Elt Ideal) S1x2048x256 e)) = G := by
  funext y
  refine View.canon_apply_of_pieces G _ ?_ y ?_
  · intro P hP x
    simp only [List.mem_cons, List.not_mem_nil, or_false] at hP
    rcases hP with rfl | rfl
    · exact piece_eq G p 1024 (by decide) inb_S1x2048x256_S1x1024x256_0_1024_0 hp x
    · exact piece_eq G q 0 (by decide) inb_S1x2048x256_S1x1024x256_0_0_0 hq x
  · exact View.cover_of_tiled [⟨r1_7, p⟩, ⟨r1_5, q⟩] S1x1024x256.size (by rfl) y

section fwd

variable (x0 x1 : Vec Ideal S1x2048x256 .f32) (x2 x3 : Vec Ideal S3x256 .f32) (x4 x5 : Vec Ideal S1x256 .f32) (x6 : Vec Ideal S4096x2048 .bf16) (x7 : Vec Ideal S4096x256 .f32)

theorem pay25_apply (s : Fin 2048) (d : Fin 256) : k0_pay25 x0 x1 x2 x3 x4 x5 x6 x7 (ix2 s d) = gated x0 x1 x2 x3 x4 x5 d s := by
  unfold k0_pay25 k0_pay20 k0_pay21 k0_pay22 k0_pay23 k0_pay24
  rw [ld_whole x0 _ _ (by decide), ld_whole x1 _ _ (by decide), ld_whole x2 _ _ (by decide), ld_whole x3 _ _ (by decide), ld_whole x4 _ _ (by decide), ld_whole x5 _ _ (by decide)]
  rw [pay7_apply, conv_apply]; rfl

/-- A product of 1024 rows of a table with the gated input. -/
theorem pay9_apply (a b : FVec Ideal S2048x256 .f32) (w : FVec Ideal S3x256 .f32) (c : FVec Ideal S1x256 .f32) (i : IVec S2048x256 32) (k : BitVec 32) (T : Vec Ideal S1024x2048 .bf16) (r : Fin 1024) (d : Fin 256) :
    k0_pay9 a b w c i k T (ix2 r d) = (∑ t : Fin 2048, T (ix2 r t) * k0_pay7 a b w c i k (ix2 t d) : EReal) := by
  unfold k0_pay9
  generalize k0_pay7 a b w c i k = u
  pointwise! []

theorem pay10_apply (a b : FVec Ideal S2048x256 .f32) (w : FVec Ideal S3x256 .f32) (c : FVec Ideal S1x256 .f32) (i : IVec S2048x256 32) (k : BitVec 32) (T : Vec Ideal S1024x2048 .bf16) (r : Fin 1024) (d : Fin 256) :
    k0_pay10 a b w c i k T (ix2 r d) = (∑ t : Fin 2048, T (ix2 r t) * k0_pay7 a b w c i k (ix2 t d) : EReal) := by
  unfold k0_pay10
  generalize k0_pay7 a b w c i k = u
  pointwise! []

theorem low_apply (r : Fin 1024) (d : Fin 256) :
    k0_pay26 x0 x1 x2 x3 x4 x5 x6 x7 (ix2 r d) = spectrum x0 x1 x2 x3 x4 x5 x6 d ⟨0 + r.val, by omega⟩ := by
  unfold k0_pay26
  refine (pay9_apply _ _ _ _ _ _ _ r d).trans (show _ = ∑ t : Fin 2048, (x6 (ix2 ⟨0 + r.val, by omega⟩ t) * gated x0 x1 x2 x3 x4 x5 d t : EReal) from Finset.sum_congr rfl fun t _ => ?_)
  rw [ld_rows x6 0 (by decide)]
  exact congrArg _ (pay25_apply x0 x1 x2 x3 x4 x5 x6 x7 t d)

theorem high_apply (r : Fin 1024) (d : Fin 256) :
    k0_pay10 (k0_pay21 x0 x1 x2 x3 x4 x5 x6 x7) (k0_pay22 x0 x1 x2 x3 x4 x5 x6 x7) (k0_pay23 x0 x1 x2 x3 x4 x5 x6 x7) (k0_pay24 x0 x1 x2 x3 x4 x5 x6 x7) (k0_pay20 x0 x1 x2 x3 x4 x5 x6 x7) 0#32 (View.ld x6 r0_4) (ix2 r d)
      = spectrum x0 x1 x2 x3 x4 x5 x6 d ⟨2048 + r.val, by omega⟩ := by
  refine (pay10_apply _ _ _ _ _ _ _ r d).trans (show _ = ∑ t : Fin 2048, (x6 (ix2 ⟨2048 + r.val, by omega⟩ t) * gated x0 x1 x2 x3 x4 x5 d t : EReal) from Finset.sum_congr rfl fun t _ => ?_)
  rw [ld_rows x6 2048 (by decide)]
  exact congrArg _ (pay25_apply x0 x1 x2 x3 x4 x5 x6 x7 t d)

theorem sine_apply (r : Fin 1024) (d : Fin 256) :
    k0_pay27 x0 x1 x2 x3 x4 x5 x6 x7 (ix2 r d) = spectrum x0 x1 x2 x3 x4 x5 x6 d ⟨2048 + r.val, by omega⟩ * x7 (ix2 ⟨2048 + r.val, by omega⟩ d) := by
  unfold k0_pay27 k0_pay11
  exact (congrArg₂ (fun a b : EReal => a * b) (high_apply x0 x1 x2 x3 x4 x5 x6 x7 r d) (ld_rows x7 2048 (by decide) _ r d) :)

/-- The product's block, row by row. -/
theorem specRow_of (X K : Fin 4096 → EReal) (r : Fin 4096) (q : ℕ) (hq : q < 2048) (hr : r.val % 2048 = q) :
    specRow X K r = if r.val < 2048 then (X ⟨q, by omega⟩ * K ⟨q, by omega⟩ - if q = 0 then 0 else X ⟨2048 + q, by omega⟩ * K ⟨2048 + q, by omega⟩) * weight q
      else (if q = 0 then X ⟨2048 + q, by omega⟩ * K ⟨2048 + q, by omega⟩ else X ⟨q, by omega⟩ * K ⟨2048 + q, by omega⟩ + X ⟨2048 + q, by omega⟩ * K ⟨q, by omega⟩) * weight q := by
  subst hr; rfl

theorem out8_eq (G : Vec Ideal S1x4096x256 .bf16) (hG : ∀ (r : Fin 4096) (d : Fin 256), G (ix3 0 r d) = specRow (spectrum x0 x1 x2 x3 x4 x5 x6 d) (fun k => x7 (ix2 k d)) r) :
    out0_8 x0 x1 x2 x3 x4 x5 x6 x7 = G := by
  unfold out0_8
  refine canon_quarters G _ _ _ _ (fun r d => ?_) (fun r d => ?_) (fun r d => ?_) (fun r d => ?_)
  · rw [hG, specRow_of _ _ _ (1024 + r.val) (by omega) (by show (3072 + r.val) % 2048 = _; omega), if_neg (by show ¬ 3072 + r.val < 2048; omega), if_neg (by omega)]
    rw [pay2_apply, ld_rows x7 1024 (by decide), ld_rows x7 3072 (by decide)]
    simp only [ld_rows x6 1024 (by decide), ld_rows x6 3072 (by decide), pay25_apply]
    unfold weight; rw [if_neg (by omega)]
    simp only [show 2048 + (1024 + r.val) = 3072 + r.val by omega]
    rfl
  · rw [hG, specRow_of _ _ _ (1024 + r.val) (by omega) (by show (1024 + r.val) % 2048 = _; omega), if_pos (by show 1024 + r.val < 2048; omega), if_neg (by omega)]
    rw [pay1_apply, ld_rows x7 1024 (by decide), ld_rows x7 3072 (by decide)]
    simp only [ld_rows x6 1024 (by decide), ld_rows x6 3072 (by decide), pay25_apply]
    unfold weight; rw [if_neg (by omega)]
    simp only [show 2048 + (1024 + r.val) = 3072 + r.val by omega]
    rfl
  · rw [hG, specRow_of _ _ _ (r.val) (by omega) (by show (2048 + r.val) % 2048 = _; omega), if_neg (by show ¬ 2048 + r.val < 2048; omega)]
    unfold k0_pay28
    rw [pay15_apply, sine_apply, high_apply, low_apply, ld_rows x7 0 (by decide), ld_rows x7 2048 (by decide)]
    simp only [Nat.zero_add]
  · rw [hG, specRow_of _ _ _ (r.val) (by omega) (by show (0 + r.val) % 2048 = _; omega), if_pos (by show 0 + r.val < 2048; omega)]
    unfold k0_pay28
    rw [pay14_apply, sine_apply, low_apply, ld_rows x7 0 (by decide)]
    simp only [Nat.zero_add]

theorem out9_eq : out0_9 x0 x1 x2 x3 x4 x5 x6 x7 = fun y => gated x0 x1 x2 x3 x4 x5 (y 2) (y 1) := by
  unfold out0_9
  rw [View.canon_cons_unit_lit _ _ _ (by decide)]
  funext y
  refine Eq.trans ?_ (pay25_apply x0 x1 x2 x3 x4 x5 x6 x7 (y 1) (y 2))
  refine (congrArg _ (eq_ix3 y)).trans ?_
  unfold k0_pay8 k0_pay25
  generalize k0_pay7 (F := Ideal) _ _ _ _ _ _ = u
  have h (z : Fin 1) (s : Fin 2048) (d : Fin 256) : (shapeCast S1x2048x256 u shapeCasts_S2048x256_S1x2048x256 : FVec Ideal S1x2048x256 .bf16) (ix3 z s d) = u (ix2 s d) := by
    pointwise! []
  exact h (y 0) (y 1) (y 2)

end fwd

/-- The inverse's row: the gate's tap times the inverse sum plus the biased input. -/
def inverse (x0 : Vec Ideal S1x4096x256 .bf16) (x1 : Vec Ideal S2048x4096 .bf16) (x2 : Vec Ideal S1x2048x256 .bf16) (x3 : Vec Ideal S1x2048x256 .f32) (x4 : Vec Ideal S3x256 .f32) (x5 x6 : Vec Ideal S1x256 .f32) (d : Fin 256) (s : Fin 2048) : EReal :=
  conv3 (fun t => x3 (ix3 0 t d)) (fun k => x4 (ix2 k d)) (x5 (ix2 0 d)) s * ((∑ r : Fin 4096, x1 (ix2 s r) * x0 (ix3 0 r d)) + x2 (ix3 0 s d) * x6 (ix2 0 d))

theorem inv2_apply (a : FVec Ideal S2048x256 .f32) (G : Vec Ideal S1024x4096 .bf16) (Z : Vec Ideal S1x4096x256 .bf16) (u : Vec Ideal S1x1024x256 .bf16) (b : Vec Ideal S1x256 .f32) (z : Fin 1) (r : Fin 1024) (d : Fin 256) :
    k1_pay2 a G Z u b (ix3 z r d) = (a (ix2 ⟨1024 + r.val, by omega⟩ d) * ((∑ k : Fin 4096, G (ix2 r k) * Z (ix3 0 k d)) + u (ix3 0 r d) * b (ix2 0 d)) : EReal) := by
  pointwise! [k1_pay2]

theorem inv1_apply (v : Vec Ideal S1x2048x256 .f32) (w : Vec Ideal S3x256 .f32) (c : Vec Ideal S1x256 .f32) (G : Vec Ideal S1024x4096 .bf16) (Z : Vec Ideal S1x4096x256 .bf16) (u : Vec Ideal S1x1024x256 .bf16) (b : Vec Ideal S1x256 .f32) (z : Fin 1) (r : Fin 1024) (d : Fin 256) :
    k1_pay1 (k1_pay4 G Z) (k1_pay5 v w c) u b (ix3 z r d) = (k1_pay3 v w c (ix2 ⟨0 + r.val, by omega⟩ d) * ((∑ k : Fin 4096, G (ix2 r k) * Z (ix3 0 k d)) + u (ix3 0 r d) * b (ix2 0 d)) : EReal) := by
  unfold k1_pay5
  generalize k1_pay3 v w c = a
  pointwise! [k1_pay1, k1_pay4]

theorem out7_eq (x0 : Vec Ideal S1x4096x256 .bf16) (x1 : Vec Ideal S2048x4096 .bf16) (x2 : Vec Ideal S1x2048x256 .bf16) (x3 : Vec Ideal S1x2048x256 .f32) (x4 : Vec Ideal S3x256 .f32) (x5 x6 : Vec Ideal S1x256 .f32) :
    out1_7 x0 x1 x2 x3 x4 x5 x6 = fun y => inverse x0 x1 x2 x3 x4 x5 x6 (y 2) (y 1) := by
  unfold out1_7
  rw [ld_whole x3 _ _ (by decide), ld_whole x4 _ _ (by decide), ld_whole x5 _ _ (by decide), ld_whole x6 _ _ (by decide), ld_whole x0 _ _ (by decide)]
  refine canon_halves _ _ _ (fun r d => ?_) (fun r d => ?_)
  · rw [inv2_apply, inv_conv_apply, ld_rows3 x2 1024 (by decide)]
    simp only [ld_rows x1 1024 (by decide)]
    rfl
  · rw [inv1_apply, inv_conv_apply, ld_rows3 x2 0 (by decide)]
    simp only [ld_rows x1 0 (by decide)]
    rfl

end Cert.HyIdeal.Terms

end
-- ==== Proof.HyRead.lean ====
/-
  Where every block of the two calls lies in the arrays: point `t` works on batch entry `t % 16` and on the 256 channels from
  `256 (t / 16)` on.
-/
module

public import proofs.«01_k».proof.Proof.HyBlock

@[expose] public section

set_option maxRecDepth 16384

noncomputable section

namespace Cert.HyIdeal.Terms

open Cert.HyIdeal Cert.HyIdeal.Gen Idealize.ShloMosaic Idealize.ShloMosaic.TcCoe Idealize.ShloMosaic.Tactic
open Cert.Hyena

theorem idx0_all : ∀ t : Fin cfg0.N,
    win0_0.index t = ![t.val % 16, 0, 20 + t.val / 16] ∧ win0_1.index t = ![t.val % 16, 0, 24 + t.val / 16] ∧ win0_2.index t = ![0, t.val / 16]
    ∧ win0_3.index t = ![0, 4 + t.val / 16] ∧ win0_4.index t = ![0, t.val / 16] ∧ win0_5.index t = ![0, 4 + t.val / 16] ∧ win0_6.index t = ![0, 0]
    ∧ win0_7.index t = ![0, t.val / 16] ∧ win0_8.index t = ![t.val % 16, 0, t.val / 16] ∧ win0_9.index t = ![t.val % 16, 0, t.val / 16] :=
  (by decide +kernel : ∀ t : Fin grid0.N, _)

theorem idx1_all : ∀ t : Fin cfg1.N,
    win1_0.index t = ![t.val % 16, 0, t.val / 16] ∧ win1_1.index t = ![0, 0] ∧ win1_2.index t = ![t.val % 16, 0, t.val / 16]
    ∧ win1_3.index t = ![t.val % 16, 0, 28 + t.val / 16] ∧ win1_4.index t = ![0, 8 + t.val / 16] ∧ win1_5.index t = ![0, 8 + t.val / 16]
    ∧ win1_6.index t = ![0, t.val / 16] ∧ win1_7.index t = ![t.val % 16, 0, t.val / 16] :=
  (by decide +kernel : ∀ t : Fin grid1.N, _)

theorem lt_N0 (t : Fin cfg0.N) : t.val < 64 := lt_of_lt_of_eq t.isLt (show cfg0.N = 64 from N_0)
theorem lt_N1 (t : Fin cfg1.N) : t.val < 64 := lt_of_lt_of_eq t.isLt (show cfg1.N = 64 from N_1)

section blocks

variable (V : (c : Dev nD) → (b : Ref sig .tc) → Buf (Elt Ideal) ((c : Thread nD τ).loc b)) (c : Dev nD)

theorem read0_0 (t : Fin cfg0.N) (z : Fin 1) (s : Fin 2048) (d : Fin 256) :
    iblk0 V c 0 t (ix3 z s d) = V c main_arg0 (ix3 ⟨t.val % 16, by omega⟩ s ⟨5120 + (256 * (t.val / 16) + d.val), by have := lt_N0 t; omega⟩) := by
  have := lt_N0 t
  blk_ext! [iblk0, idx0_all t]

theorem read0_1 (t : Fin cfg0.N) (z : Fin 1) (s : Fin 2048) (d : Fin 256) :
    iblk0 V c 1 t (ix3 z s d) = V c main_arg0 (ix3 ⟨t.val % 16, by omega⟩ s ⟨6144 + (256 * (t.val / 16) + d.val), by have := lt_N0 t; omega⟩) := by
  have := lt_N0 t
  blk_ext! [iblk0, idx0_all t]

theorem read0_2 (t : Fin cfg0.N) (k : Fin 3) (d : Fin 256) :
    iblk0 V c 2 t (ix2 k d) = V c main_v0 (ix2 k ⟨256 * (t.val / 16) + d.val, by have := lt_N0 t; omega⟩) := by
  have := lt_N0 t
  blk_ext! [iblk0, idx0_all t]

theorem read0_3 (t : Fin cfg0.N) (k : Fin 3) (d : Fin 256) :
    iblk0 V c 3 t (ix2 k d) = V c main_v0 (ix2 k ⟨1024 + (256 * (t.val / 16) + d.val), by have := lt_N0 t; omega⟩) := by
  have := lt_N0 t
  blk_ext! [iblk0, idx0_all t]

theorem read0_4 (t : Fin cfg0.N) (z : Fin 1) (d : Fin 256) :
    iblk0 V c 4 t (ix2 z d) = V c main_v2 (ix2 0 ⟨256 * (t.val / 16) + d.val, by have := lt_N0 t; omega⟩) := by
  have := lt_N0 t
  blk_ext! [iblk0, idx0_all t]

theorem read0_5 (t : Fin cfg0.N) (z : Fin 1) (d : Fin 256) :
    iblk0 V c 5 t (ix2 z d) = V c main_v2 (ix2 0 ⟨1024 + (256 * (t.val / 16) + d.val), by have := lt_N0 t; omega⟩) := by
  have := lt_N0 t
  blk_ext! [iblk0, idx0_all t]

theorem read0_6 (t : Fin cfg0.N) (r : Fin 4096) (s : Fin 2048) : iblk0 V c 6 t (ix2 r s) = V c main_arg4 (ix2 r s) := by
  have := lt_N0 t
  blk_ext! [iblk0, idx0_all t]

theorem read0_7 (t : Fin cfg0.N) (r : Fin 4096) (d : Fin 256) :
    iblk0 V c 7 t (ix2 r d) = V c main_arg3 (ix2 r ⟨256 * (t.val / 16) + d.val, by have := lt_N0 t; omega⟩) := by
  have := lt_N0 t
  blk_ext! [iblk0, idx0_all t]

theorem read1_0 (t : Fin cfg1.N) (z : Fin 1) (r : Fin 4096) (d : Fin 256) :
    iblk1 V c 0 t (ix3 z r d) = V c main_v6_0 (ix3 ⟨t.val % 16, by omega⟩ r ⟨256 * (t.val / 16) + d.val, by have := lt_N1 t; omega⟩) := by
  have := lt_N1 t
  blk_ext! [iblk1, idx1_all t]

theorem read1_1 (t : Fin cfg1.N) (s : Fin 2048) (r : Fin 4096) : iblk1 V c 1 t (ix2 s r) = V c main_v5 (ix2 s r) := by
  have := lt_N1 t
  blk_ext! [iblk1, idx1_all t]

theorem read1_2 (t : Fin cfg1.N) (z : Fin 1) (s : Fin 2048) (d : Fin 256) :
    iblk1 V c 2 t (ix3 z s d) = V c main_v6_1 (ix3 ⟨t.val % 16, by omega⟩ s ⟨256 * (t.val / 16) + d.val, by have := lt_N1 t; omega⟩) := by
  have := lt_N1 t
  blk_ext! [iblk1, idx1_all t]

theorem read1_3 (t : Fin cfg1.N) (z : Fin 1) (s : Fin 2048) (d : Fin 256) :
    iblk1 V c 3 t (ix3 z s d) = V c main_arg0 (ix3 ⟨t.val % 16, by omega⟩ s ⟨7168 + (256 * (t.val / 16) + d.val), by have := lt_N1 t; omega⟩) := by
  have := lt_N1 t
  blk_ext! [iblk1, idx1_all t]

theorem read1_4 (t : Fin cfg1.N) (k : Fin 3) (d : Fin 256) :
    iblk1 V c 4 t (ix2 k d) = V c main_v0 (ix2 k ⟨2048 + (256 * (t.val / 16) + d.val), by have := lt_N1 t; omega⟩) := by
  have := lt_N1 t
  blk_ext! [iblk1, idx1_all t]

theorem read1_5 (t : Fin cfg1.N) (z : Fin 1) (d : Fin 256) :
    iblk1 V c 5 t (ix2 z d) = V c main_v2 (ix2 0 ⟨2048 + (256 * (t.val / 16) + d.val), by have := lt_N1 t; omega⟩) := by
  have := lt_N1 t
  blk_ext! [iblk1, idx1_all t]

theorem read1_6 (t : Fin cfg1.N) (z : Fin 1) (d : Fin 256) :
    iblk1 V c 6 t (ix2 z d) = V c main_v4 (ix2 0 ⟨256 * (t.val / 16) + d.val, by have := lt_N1 t; omega⟩) := by
  have := lt_N1 t
  blk_ext! [iblk1, idx1_all t]

end blocks

section host

variable (m : (ℓ : Loc nD τ sig) → Buf (Elt Ideal) ℓ) (ρ : Dev nD → PrngReg) (c : Dev nD)

theorem host_w (k : Fin 3) (j : Fin 3072) : V1 m ρ c main_v0 (ix2 k j) = m ((c : Thread nD τ).loc main_arg1) (ix3 0 k j) := by
  blk_ext! [V1, W1]

theorem host_b (z : Fin 1) (j : Fin 3072) : V1 m ρ c main_v2 (ix2 z j) = m ((c : Thread nD τ).loc main_arg2) (ix2 0 j) := by
  blk_ext! [V1, W1]

theorem host_bias (z : Fin 1) (j : Fin 1024) : V1 m ρ c main_v4 (ix2 z j) = m ((c : Thread nD τ).loc main_arg5) (ix2 0 j) := by
  blk_ext! [V1, W1]

theorem host_g (s : Fin 2048) (r : Fin 4096) : V1 m ρ c main_v5 (ix2 s r) = m ((c : Thread nD τ).loc main_arg4) (ix2 r s) := by
  blk_ext! [V1, W1]

end host

end Cert.HyIdeal.Terms

end
-- ==== Proof.HyArray.lean ====
/-
  The arrays the two calls leave, element by element, and the run of the program with its result.
-/
module

public import proofs.«01_k».proof.Proof.HyRead

@[expose] public section

set_option maxRecDepth 16384

noncomputable section

namespace Cert.HyIdeal.Terms

open Cert.HyIdeal Cert.HyIdeal.Gen Idealize.ShloMosaic Idealize.ShloMosaic.TcCoe Idealize.ShloMosaic.Tactic
open Cert.Hyena

variable (m : (ℓ : Loc nD τ sig) → Buf (Elt Ideal) ℓ) (ρ : Dev nD → PrngReg) (c : Dev nD)

/-- The arguments as functions of their coordinates. -/
def lat (b : Fin 16) (s : Fin 2048) (j : Fin 8192) : EReal := m ((c : Thread nD τ).loc main_arg0) (ix3 b s j)
def taps (k : Fin 3) (j : Fin 3072) : EReal := m ((c : Thread nD τ).loc main_arg1) (ix3 0 k j)
def shift (j : Fin 3072) : EReal := m ((c : Thread nD τ).loc main_arg2) (ix2 0 j)
def filt (r : Fin 4096) (d : Fin 1024) : EReal := m ((c : Thread nD τ).loc main_arg3) (ix2 r d)
def table (r : Fin 4096) (s : Fin 2048) : EReal := m ((c : Thread nD τ).loc main_arg4) (ix2 r s)
def skip (d : Fin 1024) : EReal := m ((c : Thread nD τ).loc main_arg5) (ix2 0 d)

/-- The three arrays. -/
def zArr (i : S16x4096x1024.Idx) : EReal := specOf (lat m c (i 0)) (taps m c) (shift m c) (filt m c) (table m c) (i 2) (i 1)
def uArr (i : S16x2048x1024.Idx) : EReal := gatedRow (lat m c (i 0)) (taps m c) (shift m c) (i 2) (i 1)
def result (i : S16x2048x1024.Idx) : EReal := longRow (lat m c (i 0)) (taps m c) (shift m c) (filt m c) (table m c) (skip m c) (i 2) (i 1)

theorem V1_arg0 : V1 m ρ c main_arg0 = m ((c : Thread nD τ).loc main_arg0) := W1_args m ρ c main_arg0 (by decide)
theorem V1_arg3 : V1 m ρ c main_arg3 = m ((c : Thread nD τ).loc main_arg3) := W1_args m ρ c main_arg3 (by decide)
theorem V1_arg4 : V1 m ρ c main_arg4 = m ((c : Thread nD τ).loc main_arg4) := W1_args m ρ c main_arg4 (by decide)

/-- The gated input at point `t`. -/
theorem gated_eq (t : Fin cfg0.N) (d : Fin 256) (b : Fin 16) (j : Fin 1024) (hb : b.val = t.val % 16) (hj : j.val = 256 * (t.val / 16) + d.val) :
    gated (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) d
      = gatedRow (lat m c b) (taps m c) (shift m c) j := by
  funext s
  have ht := lt_N0 t
  obtain ⟨b, hb'⟩ := b
  obtain ⟨j, hj'⟩ := j
  change b = _ at hb
  change j = _ at hj
  subst hb hj
  unfold gated gatedRow lat taps shift
  simp only [read0_0 (V1 m ρ) c t, read0_1 (V1 m ρ) c t, read0_2 (V1 m ρ) c t, read0_3 (V1 m ρ) c t, read0_4 (V1 m ρ) c t, read0_5 (V1 m ρ) c t, host_w m ρ c, host_b m ρ c, V1_arg0 m ρ c]

theorem spec_eq (t : Fin cfg0.N) (r : Fin 4096) (d : Fin 256) (b : Fin 16) (j : Fin 1024) (hb : b.val = t.val % 16) (hj : j.val = 256 * (t.val / 16) + d.val) :
    specRow (spectrum (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) d)
      (fun k => iblk0 (V1 m ρ) c 7 t (ix2 k d)) r = specOf (lat m c b) (taps m c) (shift m c) (filt m c) (table m c) j r := by
  unfold spectrum specOf filt table
  rw [gated_eq m ρ c t d b j hb hj]
  have ht := lt_N0 t
  have ej : j = ⟨256 * (t.val / 16) + d.val, by omega⟩ := Fin.ext hj
  simp only [read0_6 (V1 m ρ) c t, read0_7 (V1 m ρ) c t, V1_arg3 m ρ c, V1_arg4 m ρ c, ej]

theorem fin1_eq (z : Fin 1) : z = 0 := Fin.ext (by omega)

theorem arr8 : (dat0 (V1 m ρ) c).arrAt 8 cfg0.N = zArr m c := by
  refine (dat0 (V1 m ρ) c).arrAt_eq_of_covers 8 _ (by decide +kernel) fun t hf y => ?_
  blk_simp
  have ht := lt_N0 t
  have hy : (y 0).val < 1 := (y 0).isLt
  rw [after0_8, out8_eq _ _ _ _ _ _ _ _ (fun y => specRow (spectrum (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (y 2))
      (fun k => iblk0 (V1 m ρ) c 7 t (ix2 k (y 2))) (y 1)) (fun r d => rfl)]
  refine (spec_eq m ρ c t (y 1) (y 2) ⟨t.val % 16, by omega⟩ ⟨256 * (t.val / 16) + (y 2).val, by have : (y 2).val < 256 := (y 2).isLt; omega⟩ rfl rfl).trans ?_
  unfold zArr
  congr 1
  · congr 1; apply Fin.ext; show t.val % 16 = _; blk_simp [idx0_all t] <;> omega
  · apply Fin.ext; show 256 * (t.val / 16) + (y 2).val = _; blk_simp [idx0_all t] <;> omega
  · apply Fin.ext; show (y 1).val = _; blk_simp [idx0_all t] <;> omega

theorem arr9 : (dat0 (V1 m ρ) c).arrAt 9 cfg0.N = uArr m c := by
  refine (dat0 (V1 m ρ) c).arrAt_eq_of_covers 9 _ (by decide +kernel) fun t hf y => ?_
  blk_simp
  have ht := lt_N0 t
  have hy : (y 0).val < 1 := (y 0).isLt
  rw [after0_9, out9_eq]
  refine (congrFun (gated_eq m ρ c t (y 2) ⟨t.val % 16, by omega⟩ ⟨256 * (t.val / 16) + (y 2).val, by have : (y 2).val < 256 := (y 2).isLt; omega⟩ rfl rfl) (y 1)).trans ?_
  unfold uArr
  congr 1
  · congr 1; apply Fin.ext; show t.val % 16 = _; blk_simp [idx0_all t] <;> omega
  · apply Fin.ext; show 256 * (t.val / 16) + (y 2).val = _; blk_simp [idx0_all t] <;> omega
  · apply Fin.ext; show (y 1).val = _; blk_simp [idx0_all t] <;> omega

theorem V2_z : V2 m ρ c main_v6_0 = zArr m c := (W2_arr m ρ c 8).trans (arr8 m ρ c)
theorem V2_u : V2 m ρ c main_v6_1 = uArr m c := (W2_arr m ρ c 9).trans (arr9 m ρ c)
theorem V2_arg0 : V2 m ρ c main_arg0 = m ((c : Thread nD τ).loc main_arg0) := W2_args m ρ c main_arg0 (by decide)
theorem V2_w : V2 m ρ c main_v0 = V1 m ρ c main_v0 := W2_of m ρ c main_v0 (by decide +kernel)
theorem V2_b : V2 m ρ c main_v2 = V1 m ρ c main_v2 := W2_of m ρ c main_v2 (by decide +kernel)
theorem V2_bias : V2 m ρ c main_v4 = V1 m ρ c main_v4 := W2_of m ρ c main_v4 (by decide +kernel)
theorem V2_g : V2 m ρ c main_v5 = V1 m ρ c main_v5 := W2_of m ρ c main_v5 (by decide +kernel)

theorem inverse_eq (t : Fin cfg1.N) (d : Fin 256) (s : Fin 2048) (b : Fin 16) (j : Fin 1024) (hb : b.val = t.val % 16) (hj : j.val = 256 * (t.val / 16) + d.val) :
    inverse (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t) d s
      = longRow (lat m c b) (taps m c) (shift m c) (filt m c) (table m c) (skip m c) j s := by
  have ht := lt_N1 t
  obtain ⟨b, hb'⟩ := b
  obtain ⟨j, hj'⟩ := j
  change b = _ at hb
  change j = _ at hj
  subst hb hj
  unfold inverse
  simp only [read1_0 (V2 m ρ) c t, read1_1 (V2 m ρ) c t, read1_2 (V2 m ρ) c t, read1_3 (V2 m ρ) c t, read1_4 (V2 m ρ) c t, read1_5 (V2 m ρ) c t, read1_6 (V2 m ρ) c t,
    V2_z m ρ c, V2_u m ρ c, V2_arg0 m ρ c, V2_w m ρ c, V2_b m ρ c, V2_bias m ρ c, V2_g m ρ c, host_w m ρ c, host_b m ρ c, host_bias m ρ c, host_g m ρ c]
  rfl

theorem arr7 : (dat1 (V2 m ρ) c).arrAt 7 cfg1.N = result m c := by
  refine (dat1 (V2 m ρ) c).arrAt_eq_of_covers 7 _ (by decide +kernel) fun t hf y => ?_
  blk_simp
  have ht := lt_N1 t
  have hy : (y 0).val < 1 := (y 0).isLt
  rw [after1_7, out7_eq]
  refine (inverse_eq m ρ c t (y 2) (y 1) ⟨t.val % 16, by omega⟩ ⟨256 * (t.val / 16) + (y 2).val, by have : (y 2).val < 256 := (y 2).isLt; omega⟩ rfl rfl).trans ?_
  unfold result
  congr 1
  · congr 1; apply Fin.ext; show t.val % 16 = _; blk_simp [idx1_all t] <;> omega
  · apply Fin.ext; show 256 * (t.val / 16) + (y 2).val = _; blk_simp [idx1_all t] <;> omega
  · apply Fin.ext; show (y 1).val = _; blk_simp [idx1_all t] <;> omega

end Cert.HyIdeal.Terms

end
-- ==== Proof.HyRun.lean ====
/-
  The run of the program with its result: every execution ends with the result array at `result`, the arguments as launched.
-/
module

public import proofs.«01_k».proof.Proof.HyArray

@[expose] public section

set_option maxRecDepth 16384

noncomputable section

namespace Cert.HyIdeal.Terms

open Cert.HyIdeal Cert.HyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
theorem run : θ_run defs (onTc (τ := τ) (main (F := Ideal))) ⟨m, fun _ => 0, ρ⟩ (fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨((h c _ (mem_uc main_v7 (by decide))).trans (W3_arr m ρ c 7)).trans (arr7 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.HyIdeal.Terms

end
-- ==== Proof.HyRefRow.lean ====
/-
  The reference's rows, element by element: the padded convolution, the packed transform, the weighted product of the two
  spectra and the inverse are the same functions of the arguments as the two calls' arrays.
-/
module

public import proofs.«01_k».proof.Proof.HyArray
public import proofs.«01_k».proof.Proof.Gen.HyRefIdeal.Read

@[expose] public section

set_option maxRecDepth 16384

noncomputable section

namespace Cert.HyRefIdeal.Rows

open Cert.HyRefIdeal Cert.HyRefIdeal.Gen Cert.HyRefIdeal.Read Idealize.ShloMosaic Idealize.ShloMosaic.TcCoe
open Cert.Hyena
open Cert.HyIdeal.Terms (result)

variable (x0 : Vec Ideal S16x2048x8192 .f32) (x1 : Vec Ideal S1x3x3072 .f32) (x2 : Vec Ideal S1x3072 .f32) (x3 : Vec Ideal S4096x1024 .f32)
  (x4 : Vec Ideal S4096x2048 .bf16) (x5 : Vec Ideal S1x1024 .f32)

theorem padding (i : S_.Idx) : val_main_call0_v0 (F := Ideal) i = (0 : EReal) := by
  pointwise! [val_main_call0_v0, val_main_c]
  show (((0#32 : BitVec 32).toInt : ℝ) : EReal) = 0
  simp

theorem zero_word (i : S_.Idx) : val_main_cst (F := Ideal) i = (0 : EReal) := by
  pointwise! [val_main_cst]

theorem zero_word0 (i : S_.Idx) : val_main_cst_0 (F := Ideal) i = (0 : EReal) := by
  pointwise! [val_main_cst_0]

theorem zero_word1 (i : S_.Idx) : val_main_cst_1 (F := Ideal) i = (0 : EReal) := by
  pointwise! [val_main_cst_1]

theorem conv_apply (b : Fin 16) (s : Fin 2048) (j : Fin 3072) :
    val_main_v28 (F := Ideal) x0 x1 x2 (ix3 b s j) = conv3 (fun t => x0 (ix3 b t ⟨5120 + j.val, by omega⟩)) (fun k => x1 (ix3 0 k j)) (x2 (ix2 0 j)) s := by
  unfold val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0
  pointwise!
  simp only [padding, zero_word]
  rw [zero_add]
  unfold conv3 prevTap nextTap
  congr 2
  · congr 2
    by_cases h : s.val = 0
    · rw [dif_neg (by omega), if_pos h]
    · rw [dif_pos (by omega), if_neg h]
  · congr 1
    by_cases h : s.val < 2047
    · rw [dif_pos (by omega), dif_pos h]
      exact congrArg (fun q : Fin 2048 => x0 (ix3 b q ⟨5120 + j.val, by omega⟩)) (Fin.ext (by show 2 + s.val - 1 = s.val + 1; omega))
    · rw [dif_neg (by omega), dif_neg h]

/-- The gated input. -/
theorem gated_apply (b : Fin 16) (s : Fin 2048) (d : Fin 1024) :
    val_main_v32 (F := Ideal) x0 x1 x2 (ix3 b s d) = gatedRow (fun t j => x0 (ix3 b t j)) (fun k j => x1 (ix3 0 k j)) (fun j => x2 (ix2 0 j)) d s := by
  unfold val_main_v32 val_main_v30 val_main_v29
  have hc := conv_apply x0 x1 x2
  generalize val_main_v28 (F := Ideal) x0 x1 x2 = y at hc ⊢
  pointwise!
  simp only [hc]
  unfold gatedRow
  simp only [show 5120 + (1024 + d.val) = 6144 + d.val by omega]

/-- The gate. -/
theorem gate_apply (b : Fin 16) (s : Fin 2048) (d : Fin 1024) :
    val_main_v31 (F := Ideal) x0 x1 x2 (ix3 b s d) = conv3 (fun t => x0 (ix3 b t ⟨7168 + d.val, by omega⟩)) (fun k => x1 (ix3 0 k ⟨2048 + d.val, by omega⟩)) (x2 (ix2 0 ⟨2048 + d.val, by omega⟩)) s := by
  unfold val_main_v31
  have hc := conv_apply x0 x1 x2
  generalize val_main_v28 (F := Ideal) x0 x1 x2 = y at hc ⊢
  pointwise!
  simp only [hc]
  simp only [show 5120 + (2048 + d.val) = 7168 + d.val by omega]

/-- The packed transform. -/
theorem spec_apply (b : Fin 16) (r : Fin 4096) (d : Fin 1024) :
    val_main_v34 (F := Ideal) x0 x1 x2 x4 (ix3 b r d) = dft (fun r t => x4 (ix2 r t)) (gatedRow (fun t j => x0 (ix3 b t j)) (fun k j => x1 (ix3 0 k j)) (fun j => x2 (ix2 0 j)) d) r := by
  unfold val_main_v34 val_main_v33 dft
  have hc := gated_apply x0 x1 x2
  generalize val_main_v32 (F := Ideal) x0 x1 x2 = y at hc ⊢
  pointwise!
  simp only [hc]
  exact Finset.sum_congr rfl fun t _ => mul_comm _ _

/-- The weights of the inverse. -/
theorem weight_apply (f : Fin 2049) (z : Fin 1) : val_main_v52 (F := Ideal) (ix2 f z) = weight (f.val % 2048) := by
  unfold val_main_v52 val_main_v51 val_main_v50 val_main_v49 val_main_v48 val_main_v47 val_main_v46 val_main_v45
  pointwise! [val_main_call1_v0, val_main_call1_v1, val_main_cst_4, val_main_cst_5, val_main_c_2, val_main_c_3]
  have hf : f.val < 2 ^ 32 := by omega
  rw [WordCmp.cmpi_eq_eq_toNat, WordCmp.cmpi_eq_eq_toNat, BitVec.toNat_ofNat, Nat.mod_eq_of_lt hf]
  unfold weight
  by_cases h : f.val = 0
  · rw [h]; rfl
  · by_cases h' : f.val = 2048
    · rw [h']; rfl
    · rw [if_neg (by omega)]
      rw [show decide (f.val = (0#32).toNat) = false from decide_eq_false h, show decide (f.val = (2048#32).toNat) = false from decide_eq_false h']
      rfl

theorem edges (y : Fin 4096 → EReal) (f : Fin 2049) :
    (if h : f.val < 1 then (0 : EReal) else if h : f.val - 1 < 2047 then y ⟨2049 + (f.val - 1), by omega⟩ else 0)
      = if h : f.val % 2048 = 0 then 0 else y ⟨2048 + f.val, by omega⟩ := by
  by_cases h : f.val % 2048 = 0
  · rw [dif_pos h]
    by_cases h0 : f.val < 1
    · rw [dif_pos h0]
    · rw [dif_neg h0, dif_neg (by omega)]
  · rw [dif_neg h, dif_neg (by omega), dif_pos (by omega)]
    exact congrArg y (Fin.ext (by show 2049 + (f.val - 1) = 2048 + f.val; omega))

/-- The sine rows with their zero edges. -/
theorem edges_u (b : Fin 16) (f : Fin 2049) (d : Fin 1024) :
    val_main_v39 (F := Ideal) x0 x1 x2 x4 (ix3 b f d) = if h : f.val % 2048 = 0 then (0 : EReal) else val_main_v34 (F := Ideal) x0 x1 x2 x4 (ix3 b ⟨2048 + f.val, by omega⟩ d) := by
  unfold val_main_v39 val_main_v38 val_main_v36
  generalize val_main_v34 (F := Ideal) x0 x1 x2 x4 = y
  pointwise!
  simp only [zero_word0]
  exact edges (fun k => y (ix3 b k d)) f

theorem edges_k (f : Fin 2049) (d : Fin 1024) :
    val_main_v44 (F := Ideal) x3 (ix2 f d) = if h : f.val % 2048 = 0 then (0 : EReal) else x3 (ix2 ⟨2048 + f.val, by omega⟩ d) := by
  unfold val_main_v44 val_main_v43 val_main_v41
  pointwise!
  simp only [zero_word1]
  exact edges (fun k => x3 (ix2 k d)) f

/-- The packed product, cosine rows with the Nyquist row first and sine rows after it, is `specRow`. -/
theorem packed (Y K : Fin 4096 → EReal) (r : Fin 4096) :
    (if h : r.val < 2049 then
      (Y r * K r - (if h : r.val % 2048 = 0 then 0 else Y ⟨2048 + r.val, by omega⟩) * if h : r.val % 2048 = 0 then 0 else K ⟨2048 + r.val, by omega⟩) * weight (r.val % 2048)
    else
      (Y ⟨1 + (r.val - 2049), by omega⟩ * (if h : (1 + (r.val - 2049)) % 2048 = 0 then 0 else K ⟨2048 + (1 + (r.val - 2049)), by omega⟩)
        + (if h : (1 + (r.val - 2049)) % 2048 = 0 then 0 else Y ⟨2048 + (1 + (r.val - 2049)), by omega⟩) * K ⟨1 + (r.val - 2049), by omega⟩)
        * weight ((1 + (r.val - 2049)) % 2048)) = specRow Y K r := by
  unfold specRow
  by_cases h : r.val < 2048
  · rw [dif_pos (by omega), if_pos h]
    have e : (⟨r.val % 2048, by omega⟩ : Fin 4096) = r := Fin.ext (Nat.mod_eq_of_lt h)
    by_cases h0 : r.val % 2048 = 0
    · rw [dif_pos h0, dif_pos h0, if_pos h0, mul_zero, e]
    · have e' : (⟨2048 + r.val % 2048, by omega⟩ : Fin 4096) = ⟨2048 + r.val, by omega⟩ := Fin.ext (by show 2048 + r.val % 2048 = 2048 + r.val; omega)
      rw [dif_neg h0, dif_neg h0, if_neg h0, e, e']
  · rw [if_neg h]
    have e : (⟨2048 + r.val % 2048, by omega⟩ : Fin 4096) = r := Fin.ext (by show 2048 + r.val % 2048 = r.val; omega)
    by_cases h0 : r.val = 2048
    · have h1 : r.val % 2048 = 0 := by omega
      rw [dif_pos (by omega), dif_pos h1, dif_pos h1, if_pos h1, mul_zero, sub_zero, e]
    · have h1 : ¬ r.val % 2048 = 0 := by omega
      have h2 : ¬ (1 + (r.val - 2049)) % 2048 = 0 := by omega
      have e1 : (⟨1 + (r.val - 2049), by omega⟩ : Fin 4096) = ⟨r.val % 2048, by omega⟩ := Fin.ext (by show 1 + (r.val - 2049) = r.val % 2048; omega)
      have e2 : (⟨2048 + (1 + (r.val - 2049)), by omega⟩ : Fin 4096) = ⟨2048 + r.val % 2048, by omega⟩ := Fin.ext (by show 2048 + (1 + (r.val - 2049)) = 2048 + r.val % 2048; omega)
      rw [dif_neg (by omega), dif_neg h2, dif_neg h2, if_neg h1, e1, e2, show (1 + (r.val - 2049)) % 2048 = r.val % 2048 by omega]

theorem z_apply (b : Fin 16) (r : Fin 4096) (d : Fin 1024) :
    val_main_v76 (F := Ideal) x0 x1 x2 x3 x4 (ix3 b r d) = specOf (fun t j => x0 (ix3 b t j)) (fun k j => x1 (ix3 0 k j)) (fun j => x2 (ix2 0 j)) (fun r d => x3 (ix2 r d)) (fun r t => x4 (ix2 r t)) d r := by
  unfold specOf
  have hs := fun r d => spec_apply x0 x1 x2 x4 b r d
  rw [← funext fun r => hs r d]
  unfold val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v40 val_main_v35
  have hw := weight_apply
  have hu := edges_u x0 x1 x2 x4
  have hk := edges_k x3
  generalize val_main_v39 (F := Ideal) x0 x1 x2 x4 = us at hu ⊢
  generalize val_main_v34 (F := Ideal) x0 x1 x2 x4 = y at hu ⊢
  generalize val_main_v44 (F := Ideal) x3 = ks at hk ⊢
  generalize val_main_v52 (F := Ideal) = w at hw ⊢
  pointwise!
  simp only [id_eq, hw, hu, hk]
  exact packed (fun k => y (ix3 b k d)) (fun k => x3 (ix2 k d)) r

theorem row_apply (b : Fin 16) (s : Fin 2048) (d : Fin 1024) :
    val_main_v85 (F := Ideal) x0 x1 x2 x3 x4 x5 (ix3 b s d) = longRow (fun t j => x0 (ix3 b t j)) (fun k j => x1 (ix3 0 k j)) (fun j => x2 (ix2 0 j)) (fun r d => x3 (ix2 r d)) (fun r t => x4 (ix2 r t)) (fun d => x5 (ix2 0 d)) d s := by
  unfold longRow
  unfold val_main_v85 val_main_v84 val_main_v83 val_main_v82 val_main_v81 val_main_v80 val_main_v79 val_main_v78 val_main_v77
  have hz := fun r d => z_apply x0 x1 x2 x3 x4 b r d
  have hu := fun s d => gated_apply x0 x1 x2 b s d
  have hg := fun s d => gate_apply x0 x1 x2 b s d
  simp only [← hz, ← hu, ← hg]
  generalize val_main_v76 (F := Ideal) x0 x1 x2 x3 x4 = z
  generalize val_main_v31 (F := Ideal) x0 x1 x2 = g
  generalize val_main_v32 (F := Ideal) x0 x1 x2 = u
  pointwise!

/-- The two results are one function of the arguments. -/
theorem result_eq (m : (ℓ : Loc Cert.HyIdeal.nD Cert.HyIdeal.τ Cert.HyIdeal.sig) → Buf (Elt Ideal) ℓ) (c : Dev Cert.HyIdeal.nD) :
    val_main_v85 (F := Ideal) (m ((c.tc : Thread Cert.HyIdeal.nD Cert.HyIdeal.τ).loc Cert.HyIdeal.main_arg0))
      (m ((c.tc : Thread Cert.HyIdeal.nD Cert.HyIdeal.τ).loc Cert.HyIdeal.main_arg1))
      (m ((c.tc : Thread Cert.HyIdeal.nD Cert.HyIdeal.τ).loc Cert.HyIdeal.main_arg2))
      (m ((c.tc : Thread Cert.HyIdeal.nD Cert.HyIdeal.τ).loc Cert.HyIdeal.main_arg3))
      (m ((c.tc : Thread Cert.HyIdeal.nD Cert.HyIdeal.τ).loc Cert.HyIdeal.main_arg4))
      (m ((c.tc : Thread Cert.HyIdeal.nD Cert.HyIdeal.τ).loc Cert.HyIdeal.main_arg5)) = result m c := by
  funext i
  exact (congrArg _ (eq_ix3 i)).trans (row_apply _ _ _ _ _ _ _ _ _)

end Cert.HyRefIdeal.Rows

end
-- ==== Proof.NormRow.lean ====
/-
  One row of a root-mean-square norm over 2048 lanes with its gain and modulation, shared by the calls that norm rows.
-/
module

public import Idealize.ShloMosaic.PureOps.Ideal.Laws

@[expose] public section

noncomputable section

namespace Cert.Rows

open Idealize.ShloMosaic

/-- The row factor of a root-mean-square norm over 2048 lanes: the reciprocal square root of the mean square plus epsilon. -/
def rmsFactor (x : Fin 2048 → EReal) : EReal :=
  Ideal.rsqrt (Ideal.div (∑ d, x d * x d) (Ideal.ofBits FTy.f32 1157627904#32) + Ideal.ofBits FTy.f32 897988541#32)

/-- One row, normalised, scaled by the gain and modulated by a shift and a scale. -/
def normRow (x g sh sc : Fin 2048 → EReal) (k : Fin 2048) : EReal :=
  x k * rmsFactor x * g k * (1 + sc k) + sh k

theorem normRow_congr {x x' g g' sh sh' sc sc' : Fin 2048 → EReal} (hx : ∀ d, x d = x' d) (hg : ∀ d, g d = g' d)
    (hsh : ∀ d, sh d = sh' d) (hsc : ∀ d, sc d = sc' d) (k : Fin 2048) : normRow x g sh sc k = normRow x' g' sh' sc' k := by
  rw [funext hx, funext hg, funext hsh, funext hsc]

end Cert.Rows

end
-- ==== Proof.MlpBlock.lean ====
/-
  The multilayer-perceptron kernel's block values, at the idealized reading: what one grid point leaves in the two
  carried scratch arrays (the normalised rows `u` and the running sum `acc`) and in the output block, as plain sums.
-/
module

public import proofs.«01_k».proof.Proof.NormRow
public import proofs.«01_k».proof.Proof.Gen.MlpIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MlpIdeal.Terms

open Cert.MlpIdeal Cert.MlpIdeal.Gen Idealize.ShloMosaic Idealize.ShloMosaic.TcCoe Idealize.ShloMosaic.Tactic
open Cert.Rows (rmsFactor normRow normRow_congr)

/-- One row through the two layers of the perceptron with the squared rectifier between them, over `J` hidden lanes. -/
def perceptron {J : ℕ} (u : Fin 2048 → EReal) (w1 : Fin 2048 → Fin J → EReal) (w2 : Fin J → Fin 2048 → EReal) (d : Fin 2048) : EReal :=
  ∑ j, max (∑ k, u k * w1 k j) 0 * max (∑ k, u k * w1 k j) 0 * w2 j d

/-- One row normalised and scaled by the closing gain. -/
def outRow (y f : Fin 2048 → EReal) (d : Fin 2048) : EReal := y d * rmsFactor y * f d

theorem pay6_eq {F : FTy → Type} [FloatOps F] : k0_pay6 (F := F) = k0_pay3 := rfl
theorem pay9_eq {F : FTy → Type} [FloatOps F] : k0_pay9 (F := F) = k0_pay2 := rfl
theorem pay8_eq {F : FTy → Type} [FloatOps F] : k0_pay8 (F := F) = k0_pay7 := rfl
theorem pay5_eq {F : FTy → Type} [FloatOps F] (u : Vec F S256x2048 .bf16) (w v) : k0_pay5 (F := F) (k0_pay4 u w) v = k0_pay1 u w v := rfl

/-- The normalised rows a point stores. -/
theorem pay3_apply (X : Vec Ideal S256x2048 .f32) (g : Vec Ideal S1x2048 .f32) (sc sh : Vec Ideal S1x1x2048 .f32) (r : Fin 256) (k : Fin 2048) :
    k0_pay3 X g sc sh (ix2 r k) = normRow (fun d => X (ix2 r d)) (fun d => g (ix2 0 d)) (fun d => sh (ix3 0 0 d)) (fun d => sc (ix3 0 0 d)) k := by
  pointwise! [k0_pay3, normRow, rmsFactor]

/-- One block of hidden lanes' contribution. -/
theorem pay1_apply (u : Vec Ideal S256x2048 .bf16) (w1 : Vec Ideal S2048x1024 .bf16) (w2 : Vec Ideal S1024x2048 .bf16) (r : Fin 256) (d : Fin 2048) :
    k0_pay1 u w1 w2 (ix2 r d) = perceptron (fun k => u (ix2 r k)) (fun k j => w1 (ix2 k j)) (fun j d => w2 (ix2 j d)) d := by
  pointwise! [k0_pay1, perceptron]

/-- A later block of hidden lanes, added to the running sum. -/
theorem pay7_apply (u : Vec Ideal S256x2048 .bf16) (w1 : Vec Ideal S2048x1024 .bf16) (w2 : Vec Ideal S1024x2048 .bf16) (a : Vec Ideal S256x2048 .f32) (r : Fin 256) (d : Fin 2048) :
    k0_pay7 u w1 w2 a (ix2 r d) = a (ix2 r d) + perceptron (fun k => u (ix2 r k)) (fun k j => w1 (ix2 k j)) (fun j d => w2 (ix2 j d)) d := by
  pointwise! [k0_pay7, perceptron]

/-- The last block: the residual, and the closing norm. -/
theorem pay2_apply (u : Vec Ideal S256x2048 .bf16) (w1 : Vec Ideal S2048x1024 .bf16) (w2 : Vec Ideal S1024x2048 .bf16)
    (a x : Vec Ideal S256x2048 .f32) (g : Vec Ideal S1x1x2048 .f32) (f : Vec Ideal S1x2048 .f32) (r : Fin 256) (d : Fin 2048) :
    k0_pay2 u w1 w2 a x g f (ix2 r d) = outRow (fun d => x (ix2 r d) + g (ix3 0 0 d) * (a (ix2 r d) +
      perceptron (fun k => u (ix2 r k)) (fun k j => w1 (ix2 k j)) (fun j d => w2 (ix2 j d)) d)) (fun d => f (ix2 0 d)) d := by
  pointwise! [k0_pay2, outRow, rmsFactor, perceptron]

/-- A load of 256 rows from row `o` of a block of 512, at an index. -/
theorem ld_rows {e : EltTy} (X : Vec Ideal S512x2048 e) (o : ℕ) (ho : o + 256 ≤ 512) (inb) (r : Fin 256) (d : Fin 2048) :
    (View.ld X (Rect.unit ![o, 0] ![256, 2048] inb) : Vec Ideal S256x2048 e) (ix2 r d) = X (ix2 ⟨o + r.val, by omega⟩ d) := by
  rw [View.ld_apply]
  refine congrArg X (funext fun a => Fin.ext ?_)
  fin_cases a
  · show o + 1 * r.val = o + r.val; omega
  · show 0 + 1 * d.val = d.val; omega

/-- Two stores of 256 rows that hold the two halves of one array `G` leave `G`. -/
theorem canon_halves {e : EltTy} (G : Vec Ideal S512x2048 e) (p q : Vec Ideal S256x2048 e) (inb inb')
    (hp : ∀ (r : Fin 256) (d : Fin 2048), p (ix2 r d) = G (ix2 ⟨256 + r.val, by omega⟩ d))
    (hq : ∀ (r : Fin 256) (d : Fin 2048), q (ix2 r d) = G (ix2 ⟨0 + r.val, by omega⟩ d)) :
    View.canon (Val := Elt Ideal) [(⟨Rect.unit (s := S512x2048) ![256, 0] ![256, 2048] inb, p⟩ : View.Piece (Elt Ideal) S512x2048 e),
      ⟨Rect.unit (s := S512x2048) ![0, 0] ![256, 2048] inb', q⟩] = G := by
  funext y
  refine View.canon_apply_of_pieces G _ ?_ y ?_
  · intro P hP x
    simp only [List.mem_cons, List.not_mem_nil, or_false] at hP
    rcases hP with rfl | rfl
    · refine (congrArg p (eq_ix2 x)).trans ((hp (x 0) (x 1)).trans (congrArg G (funext fun a => Fin.ext ?_)))
      fin_cases a
      · show 256 + (x 0).val = 256 + 1 * (x 0).val; omega
      · show (x 1).val = 0 + 1 * (x 1).val; omega
    · refine (congrArg q (eq_ix2 x)).trans ((hq (x 0) (x 1)).trans (congrArg G (funext fun a => Fin.ext ?_)))
      fin_cases a
      · show 0 + (x 0).val = 0 + 1 * (x 0).val; omega
      · show (x 1).val = 0 + 1 * (x 1).val; omega
  · have h0 : (y 0).val < 512 := (y 0).isLt
    have h1 : (y 1).val < 2048 := (y 1).isLt
    by_cases h : 256 ≤ (y 0).val
    · refine ⟨_, List.mem_cons_self, ?_⟩
      rw [Rect.mem_set_unit]
      intro a; fin_cases a
      · show 256 ≤ (y 0).val ∧ (y 0).val < 256 + 256; omega
      · show 0 ≤ (y 1).val ∧ (y 1).val < 0 + 2048; omega
    · refine ⟨_, List.mem_cons_of_mem _ List.mem_cons_self, ?_⟩
      rw [Rect.mem_set_unit]
      intro a; fin_cases a
      · show 0 ≤ (y 0).val ∧ (y 0).val < 0 + 256; omega
      · show 0 ≤ (y 1).val ∧ (y 1).val < 0 + 2048; omega

/-- The normalised rows of a block. -/
def blockU (x0 : Vec Ideal S512x2048 .f32) (x1 : Vec Ideal S1x2048 .f32) (x2 x3 : Vec Ideal S1x1x2048 .f32) : Vec Ideal S512x2048 .bf16 :=
  fun y => normRow (fun d => x0 (ix2 (y 0) d)) (fun d => x1 (ix2 0 d)) (fun d => x2 (ix3 0 0 d)) (fun d => x3 (ix3 0 0 d)) (y 1)

/-- A block's rows `u` through one block of hidden lanes. -/
def blockP (u : Vec Ideal S512x2048 .bf16) (x5 : Vec Ideal S2048x1024 .bf16) (x6 : Vec Ideal S1024x2048 .bf16) : Vec Ideal S512x2048 .f32 :=
  fun y => perceptron (fun k => u (ix2 (y 0) k)) (fun k j => x5 (ix2 k j)) (fun j d => x6 (ix2 j d)) (y 1)

/-- A block's residual rows `x0` plus the gated sum, through the closing norm. -/
def blockOut (x0 : Vec Ideal S512x2048 .f32) (x4 : Vec Ideal S1x1x2048 .f32) (x7 : Vec Ideal S1x2048 .f32) (a : S512x2048.Idx → EReal) : Vec Ideal S512x2048 .f32 :=
  fun y => outRow (fun d => x0 (ix2 (y 0) d) + x4 (ix3 0 0 d) * a (ix2 (y 0) d)) (fun d => x7 (ix2 0 d)) (y 1)

theorem blockU_apply (x0 : Vec Ideal S512x2048 .f32) (x1 : Vec Ideal S1x2048 .f32) (x2 x3 : Vec Ideal S1x1x2048 .f32) (r : Fin 512) (k : Fin 2048) :
    blockU x0 x1 x2 x3 (ix2 r k) = normRow (fun d => x0 (ix2 r d)) (fun d => x1 (ix2 0 d)) (fun d => x2 (ix3 0 0 d)) (fun d => x3 (ix3 0 0 d)) k := rfl

theorem blockP_apply (u : Vec Ideal S512x2048 .bf16) (x5 : Vec Ideal S2048x1024 .bf16) (x6 : Vec Ideal S1024x2048 .bf16) (r : Fin 512) (d : Fin 2048) :
    blockP u x5 x6 (ix2 r d) = perceptron (fun k => u (ix2 r k)) (fun k j => x5 (ix2 k j)) (fun j d => x6 (ix2 j d)) d := rfl

theorem blockOut_apply (x0 : Vec Ideal S512x2048 .f32) (x4 : Vec Ideal S1x1x2048 .f32) (x7 : Vec Ideal S1x2048 .f32) (a : S512x2048.Idx → EReal) (r : Fin 512) (d : Fin 2048) :
    blockOut x0 x4 x7 a (ix2 r d) = outRow (fun d => x0 (ix2 r d) + x4 (ix3 0 0 d) * a (ix2 r d)) (fun d => x7 (ix2 0 d)) d := rfl

/-- The first point of a row block leaves the normalised rows in the first scratch. -/
theorem u_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S512x2048 .f32) (harg12 : arg12.IsWhole) (hc0 : cond0_0 i) (hc1 : ¬cond0_1 i) (hc2 : ¬cond0_2 i) (x0 : Vec Ideal S512x2048 .f32) (x1 : Vec Ideal S1x2048 .f32) (x2 : Vec Ideal S1x1x2048 .f32) (x3 : Vec Ideal S1x1x2048 .f32) (x4 : Vec Ideal S1x1x2048 .f32) (x5 : Vec Ideal S2048x1024 .bf16) (x6 : Vec Ideal S1024x2048 .bf16) (x7 : Vec Ideal S1x2048 .f32) :
    sout0_A_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 = blockU x0 x1 x2 x3 := by
  unfold sout0_A_0
  frame_out
  rw [pay6_eq]
  refine canon_halves _ _ _ _ _ (fun r d => ?_) (fun r d => ?_) <;>
    (rw [pay3_apply]; simp only [ld_rows x0 0 (by decide), ld_rows x0 256 (by decide)]; rfl)

/-- … and the first block of hidden lanes' contribution in the second. -/
theorem acc_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S512x2048 .f32) (harg12 : arg12.IsWhole) (hc0 : cond0_0 i) (hc1 : ¬cond0_1 i) (hc2 : ¬cond0_2 i) (x0 : Vec Ideal S512x2048 .f32) (x1 : Vec Ideal S1x2048 .f32) (x2 : Vec Ideal S1x1x2048 .f32) (x3 : Vec Ideal S1x1x2048 .f32) (x4 : Vec Ideal S1x1x2048 .f32) (x5 : Vec Ideal S2048x1024 .bf16) (x6 : Vec Ideal S1024x2048 .bf16) (x7 : Vec Ideal S1x2048 .f32) :
    sout0_A_1 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 = blockP (blockU x0 x1 x2 x3) x5 x6 := by
  unfold sout0_A_1
  frame_out
  rw [pay6_eq, pay5_eq, View.readCov_cons_toLoadRect, View.readCov_cons_toLoadRect]
  refine canon_halves _ _ _ _ _ (fun r d => ?_) (fun r d => ?_) <;>
    (rw [pay1_apply]; simp only [pay3_apply]; simp only [ld_rows x0 0 (by decide), ld_rows x0 256 (by decide)]; rfl)

/-- A middle point adds its block of hidden lanes to the running sum. -/
theorem acc_B (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S512x2048 .f32) (harg12 : arg12.IsWhole) (hc0 : ¬cond0_0 i) (hc1 : cond0_1 i) (hc2 : ¬cond0_2 i) (x0 : Vec Ideal S512x2048 .f32) (x1 : Vec Ideal S1x2048 .f32) (x2 : Vec Ideal S1x1x2048 .f32) (x3 : Vec Ideal S1x1x2048 .f32) (x4 : Vec Ideal S1x1x2048 .f32) (x5 : Vec Ideal S2048x1024 .bf16) (x6 : Vec Ideal S1024x2048 .bf16) (x7 : Vec Ideal S1x2048 .f32) (xs0 : Vec Ideal S512x2048 .bf16) (xs1 : Vec Ideal S512x2048 .f32) :
    sout0_B_1 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs0 xs1 = fun y => (xs1 y : EReal) + blockP xs0 x5 x6 y := by
  unfold sout0_B_1
  frame_out
  rw [pay8_eq]
  refine canon_halves _ _ _ _ _ (fun r d => ?_) (fun r d => ?_) <;>
    (rw [pay7_apply]; simp only [ld_rows xs0 0 (by decide), ld_rows xs0 256 (by decide), ld_rows xs1 0 (by decide), ld_rows xs1 256 (by decide)]; rfl)

/-- The last point of a row block writes the residual and the closing norm of the finished sum. -/
theorem out_C (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S512x2048 .f32) (harg12 : arg12.IsWhole) (hc0 : ¬cond0_0 i) (hc1 : ¬cond0_1 i) (hc2 : cond0_2 i) (x0 : Vec Ideal S512x2048 .f32) (x1 : Vec Ideal S1x2048 .f32) (x2 : Vec Ideal S1x1x2048 .f32) (x3 : Vec Ideal S1x1x2048 .f32) (x4 : Vec Ideal S1x1x2048 .f32) (x5 : Vec Ideal S2048x1024 .bf16) (x6 : Vec Ideal S1024x2048 .bf16) (x7 : Vec Ideal S1x2048 .f32) (xs0 : Vec Ideal S512x2048 .bf16) (xs1 : Vec Ideal S512x2048 .f32) :
    out0_C_8 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs0 xs1 = blockOut x0 x4 x7 (fun y => (xs1 y : EReal) + blockP xs0 x5 x6 y) := by
  unfold out0_C_8
  frame_out
  rw [pay9_eq]
  refine canon_halves _ _ _ _ _ (fun r d => ?_) (fun r d => ?_) <;>
    (rw [pay2_apply]; simp only [ld_rows xs0 0 (by decide), ld_rows xs0 256 (by decide), ld_rows xs1 0 (by decide), ld_rows xs1 256 (by decide), ld_rows x0 0 (by decide), ld_rows x0 256 (by decide)]; rfl)

end Cert.MlpIdeal.Terms

end
-- ==== Proof.MlpReads.lean ====
/-
  The blocks the pipeline stages at a point of the grid, read at a place of the block: each is an element of an argument
  array. Point `t` works on row block `t / 8` (512 rows, so batch element `t / 32`) and on hidden block `t % 8`.
-/
module

public import proofs.«01_k».proof.Proof.MlpBlock
public import Idealize.ShloMosaic.Lib.Pipeline.ValueKit
public import Idealize.ShloMosaic.Lib.Pointwise
public import Idealize.ShloMosaic.Lib.Claim

@[expose] public section

set_option maxRecDepth 16384

noncomputable section

namespace Cert.MlpIdeal.Terms

open Cert.MlpIdeal Cert.MlpIdeal.Gen Idealize.ShloMosaic Idealize.ShloMosaic.TcCoe
open Cert.Rows (rmsFactor normRow normRow_congr)

variable (m : (ℓ : Loc nD τ sig) → Buf (Elt Ideal) ℓ) (c : Dev nD)

/-- The printed index maps, decided over the grid. -/
theorem idx_all : ∀ t : Fin cfg0.N,
    win0_0.index t = ![t.val / 8, 0] ∧ win0_1.index t = ![0, 0] ∧ win0_2.index t = ![t.val / 32, 0, 0]
    ∧ win0_3.index t = ![t.val / 32, 0, 0] ∧ win0_4.index t = ![t.val / 32, 0, 0]
    ∧ win0_5.index t = ![0, t.val % 8] ∧ win0_6.index t = ![t.val % 8, 0] ∧ win0_7.index t = ![0, 0] :=
  (by decide +kernel : ∀ t : Fin grid0.N, _)

theorem lt_N (t : Fin cfg0.N) : t.val < 512 := lt_of_lt_of_eq t.isLt (show cfg0.N = 512 from N_0)

theorem read_x (t : Fin cfg0.N) (r : Fin 512) (d : Fin 2048) :
    iblk m c 0 t (ix2 r d) = m ((c : Thread nD τ).loc main_arg0)
      (ix3 ⟨t.val / 32, by have := lt_N t; omega⟩ ⟨512 * (t.val / 8 % 4) + r.val, by omega⟩ d) := by
  have := lt_N t
  blk_ext! [iblk, V, idx_all t]

theorem read_g (t : Fin cfg0.N) (z : Fin 1) (d : Fin 2048) :
    iblk m c 1 t (ix2 z d) = m ((c : Thread nD τ).loc main_arg1) (ix2 0 d) := by
  blk_ext! [iblk, V, idx_all t]

theorem read_sh (t : Fin cfg0.N) (z z' : Fin 1) (d : Fin 2048) :
    iblk m c 2 t (ix3 z z' d) = m ((c : Thread nD τ).loc main_arg2) (ix2 ⟨t.val / 32, by have := lt_N t; omega⟩ d) := by
  have := lt_N t
  blk_ext! [iblk, V, idx_all t]

theorem read_sc (t : Fin cfg0.N) (z z' : Fin 1) (d : Fin 2048) :
    iblk m c 3 t (ix3 z z' d) = m ((c : Thread nD τ).loc main_arg3) (ix2 ⟨t.val / 32, by have := lt_N t; omega⟩ d) := by
  have := lt_N t
  blk_ext! [iblk, V, idx_all t]

theorem read_gate (t : Fin cfg0.N) (z z' : Fin 1) (d : Fin 2048) :
    iblk m c 4 t (ix3 z z' d) = m ((c : Thread nD τ).loc main_arg4) (ix2 ⟨t.val / 32, by have := lt_N t; omega⟩ d) := by
  have := lt_N t
  blk_ext! [iblk, V, idx_all t]

theorem read_w1 (t : Fin cfg0.N) (k : Fin 2048) (j : Fin 1024) :
    iblk m c 5 t (ix2 k j) = m ((c : Thread nD τ).loc main_arg5) (ix3 0 k ⟨1024 * (t.val % 8) + j.val, by omega⟩) := by
  blk_ext! [iblk, V, idx_all t]

theorem read_w2 (t : Fin cfg0.N) (j : Fin 1024) (d : Fin 2048) :
    iblk m c 6 t (ix2 j d) = m ((c : Thread nD τ).loc main_arg6) (ix3 0 ⟨1024 * (t.val % 8) + j.val, by omega⟩ d) := by
  blk_ext! [iblk, V, idx_all t]

theorem read_fg (t : Fin cfg0.N) (z : Fin 1) (d : Fin 2048) :
    iblk m c 7 t (ix2 z d) = m ((c : Thread nD τ).loc main_arg7) (ix1 d) := by
  blk_ext! [iblk, V, idx_all t]

end Cert.MlpIdeal.Terms

end
-- ==== Proof.MlpFold.lean ====
/-
  The carried arrays of the multilayer-perceptron kernel over the grid: the normalised rows are written at the first of
  the eight points of a row block and held through the others; the running sum, with the last point's term added, is the
  sum over the eight hidden blocks; the output array holds the finished rows.
-/
module

public import proofs.«01_k».proof.Proof.MlpReads
public import Idealize.ShloMosaic.Lib.Pipeline.ValueKit.Held

@[expose] public section

set_option maxRecDepth 16384

noncomputable section

namespace Cert.MlpIdeal.Terms

open Cert.MlpIdeal Cert.MlpIdeal.Gen Idealize.ShloMosaic Idealize.ShloMosaic.TcCoe
open Cert.Rows (rmsFactor normRow normRow_congr)

variable (m : (ℓ : Loc nD τ sig) → Buf (Elt Ideal) ℓ) (c : Dev nD)

/-- The normalised rows of the row block point `t` works on. -/
def uBlock (t : Fin cfg0.N) : Vec Ideal S512x2048 .bf16 :=
  blockU (iblk m c 0 t) (iblk m c 1 t) (iblk m c 2 t) (iblk m c 3 t)

theorem read_x_congr (t t' : Fin cfg0.N) (h : t.val / 8 = t'.val / 8) (r : Fin 512) (d : Fin 2048) :
    iblk m c 0 t (ix2 r d) = iblk m c 0 t' (ix2 r d) := by
  have h' : t.val / 32 = t'.val / 32 := by omega
  rw [read_x, read_x]; simp only [h, h']

theorem read_sh_congr (t t' : Fin cfg0.N) (h : t.val / 32 = t'.val / 32) (z z' : Fin 1) (d : Fin 2048) :
    iblk m c 2 t (ix3 z z' d) = iblk m c 2 t' (ix3 z z' d) := by
  rw [read_sh, read_sh]; simp only [h]

theorem read_sc_congr (t t' : Fin cfg0.N) (h : t.val / 32 = t'.val / 32) (z z' : Fin 1) (d : Fin 2048) :
    iblk m c 3 t (ix3 z z' d) = iblk m c 3 t' (ix3 z z' d) := by
  rw [read_sc, read_sc]; simp only [h]

/-- They depend on the row block alone. -/
theorem uBlock_congr (t t' : Fin cfg0.N) (h : t.val / 8 = t'.val / 8) : uBlock m c t = uBlock m c t' := by
  have h' : t.val / 32 = t'.val / 32 := by omega
  funext y
  exact normRow_congr (fun d => read_x_congr m c t t' h (y 0) d)
    (fun d => (read_g m c t 0 d).trans (read_g m c t' 0 d).symm) (fun d => read_sh_congr m c t t' h' 0 0 d)
    (fun d => read_sc_congr m c t t' h' 0 0 d) (y 1)

/-- The first scratch holds the row block's normalised rows at every point. -/
theorem u_held (t : Fin cfg0.N) : (outsAt0 m c t.val t.isLt).2.1 = uBlock m c t := by
  have := lt_N t
  refine (Pipeline.eq_of_write_hold (fun n h => (outsAt0 m c n h).2.1) 8 (uBlock m c) (fun t h0 => ?_) (fun t h0 => ?_) t).trans
    (uBlock_congr m c _ _ (by show 8 * (t.val / 8) / 8 = _; omega))
  · rw [outsAt0_A m c t h0 (by omega) (by omega)]
    dsimp only
    rw [u_A]; unfold uBlock; rfl
  · by_cases h1 : 1 ≤ t.val % 8 ∧ t.val % 8 ≤ 6
    · rw [outsAt0_B m c t h0 h1 (by omega)]; dsimp only; unfold sout0_B_0; rfl
    · rw [outsAt0_C m c t h0 h1 (by omega)]; dsimp only; unfold sout0_C_0; rfl

/-- What point `t` adds to the running sum. -/
def part (t : Fin cfg0.N) : Vec Ideal S512x2048 .f32 := blockP (uBlock m c t) (iblk m c 5 t) (iblk m c 6 t)

/-- The running sum after a point; at the last point of a row block, with that point's own term. -/
def accAfter (n : ℕ) (h : n < cfg0.N) : S512x2048.Idx → EReal := fun y =>
  ((outsAt0 m c n h).2.2 y : EReal) + (if n % 8 = 7 then part m c ⟨n, h⟩ y else 0)

theorem accAfter_prev (t : Fin cfg0.N) (h0 : ¬t.val % 8 = 0) (y) :
    accAfter m c (t.val - 1) (Nat.lt_of_le_of_lt (Nat.sub_le _ _) t.isLt) y =
      ((outsAt0 m c (t.val - 1) (Nat.lt_of_le_of_lt (Nat.sub_le _ _) t.isLt)).2.2 y : EReal) := by
  unfold accAfter
  rw [if_neg (by omega), add_zero]

theorem accAfter_first (t : Fin cfg0.N) (h0 : t.val % 8 = 0) (y) : accAfter m c t.val t.isLt y = 0 + part m c t y := by
  unfold accAfter
  rw [if_neg (by omega), add_zero, zero_add, outsAt0_A m c t h0 (by omega) (by omega)]
  dsimp only
  rw [acc_A]; unfold part uBlock; rfl

theorem u_prev (t : Fin cfg0.N) (h0 : ¬t.val % 8 = 0) :
    (outsAt0 m c (t.val - 1) (Nat.lt_of_le_of_lt (Nat.sub_le _ _) t.isLt)).2.1 = uBlock m c t :=
  (u_held m c ⟨t.val - 1, Nat.lt_of_le_of_lt (Nat.sub_le _ _) t.isLt⟩).trans (uBlock_congr m c _ _ (by show (t.val - 1) / 8 = _; omega))

theorem accAfter_step (t : Fin cfg0.N) (h0 : ¬t.val % 8 = 0) (y) :
    accAfter m c t.val t.isLt y =
      accAfter m c (t.val - 1) (Nat.lt_of_le_of_lt (Nat.sub_le _ _) t.isLt) y + part m c t y := by
  rw [accAfter_prev m c t h0]
  unfold accAfter
  by_cases h1 : 1 ≤ t.val % 8 ∧ t.val % 8 ≤ 6
  · rw [if_neg (by omega), add_zero, outsAt0_B m c t h0 h1 (by omega)]
    dsimp only
    rw [acc_B, u_prev m c t h0]; unfold part; rfl
  · rw [if_pos (by omega), outsAt0_C m c t h0 h1 (by omega)]; dsimp only; unfold sout0_C_1; rfl

/-- At the last point of a row block, the running sum with that point's term is the sum over the eight hidden blocks. -/
theorem accAfter_last (t : Fin cfg0.N) (h : t.val % 8 = 7) (y) :
    accAfter m c t.val t.isLt y =
      ∑ s : Fin 8, part m c ⟨8 * (t.val / 8) + s.val, Pipeline.run_point_lt_of_flush t h s⟩ y := by
  rw [Pipeline.eq_sum_fin_of_reset_step_apply_of_flush (fun n h => accAfter m c n h) 8 (fun _ => 0) (part m c)
    (fun t h y => accAfter_first m c t h y) (fun t h y => accAfter_step m c t h y) t h y, zero_add]

/-- What the last point of a row block writes. -/
theorem out_last (t : Fin cfg0.N) (h : t.val % 8 = 7) :
    (outsAt0 m c t.val t.isLt).1 = blockOut (iblk m c 0 t) (iblk m c 4 t) (iblk m c 7 t)
      (fun y => ∑ s : Fin 8, part m c ⟨8 * (t.val / 8) + s.val, Pipeline.run_point_lt_of_flush t h s⟩ y) := by
  simp only [← accAfter_last m c t h]
  simp only [accAfter_step m c t (by omega), accAfter_prev m c t (by omega)]
  rw [outsAt0_C m c t (by omega) (by omega) h]
  dsimp only
  rw [out_C, u_prev m c t (by omega)]; unfold part; rfl

end Cert.MlpIdeal.Terms

end
-- ==== Proof.MlpArray.lean ====
/-
  The multilayer-perceptron kernel's result array, element by element, as a function of the argument arrays.
-/
module

public import proofs.«01_k».proof.Proof.MlpFold

@[expose] public section

set_option maxRecDepth 16384

noncomputable section

namespace Cert.MlpIdeal.Terms

open Cert.MlpIdeal Cert.MlpIdeal.Gen Idealize.ShloMosaic Idealize.ShloMosaic.TcCoe
open Cert.Rows (rmsFactor normRow normRow_congr)

/-- One row of the layer's last part: the norm, the perceptron, the gated residual and the closing norm. -/
def mlpRow (x g sh sc gate f : Fin 2048 → EReal) (w1 : Fin 2048 → Fin 8192 → EReal) (w2 : Fin 8192 → Fin 2048 → EReal) (d : Fin 2048) : EReal :=
  outRow (fun d => x d + gate d * perceptron (normRow x g sh sc) w1 w2 d) f d

/-- The eight blocks of 1024 hidden lanes are all 8192. -/
theorem perceptron_blocks (u : Fin 2048 → EReal) (w1 : Fin 2048 → Fin 8192 → EReal) (w2 : Fin 8192 → Fin 2048 → EReal) (d : Fin 2048) :
    ∑ s : Fin 8, perceptron u (fun k (j : Fin 1024) => w1 k ⟨1024 * s.val + j.val, by omega⟩) (fun j d => w2 ⟨1024 * s.val + j.val, by omega⟩ d) d
      = perceptron u w1 w2 d := by
  unfold perceptron
  refine Fin.sum_mul_add_congr (S := 8) (n := 1024) (fun s k hl => ?_)
  simp only [Nat.mul_comm]

variable (m : (ℓ : Loc nD τ sig) → Buf (Elt Ideal) ℓ) (c : Dev nD)

theorem perceptron_congr {J : ℕ} {u u' : Fin 2048 → EReal} {w1 w1' : Fin 2048 → Fin J → EReal} {w2 w2' : Fin J → Fin 2048 → EReal}
    (hu : ∀ k, u k = u' k) (h1 : ∀ k j, w1 k j = w1' k j) (h2 : ∀ j d, w2 j d = w2' j d) (d : Fin 2048) :
    perceptron u w1 w2 d = perceptron u' w1' w2' d := by
  rw [funext hu, funext fun k => funext (h1 k), funext fun j => funext (h2 j)]

theorem outRow_congr {x x' g g' a a' f f' : Fin 2048 → EReal} (hx : ∀ d, x d = x' d) (hg : ∀ d, g d = g' d)
    (ha : ∀ d, a d = a' d) (hf : ∀ d, f d = f' d) (d : Fin 2048) :
    outRow (fun d => x d + g d * a d) f d = outRow (fun d => x' d + g' d * a' d) f' d := by
  rw [funext hx, funext hg, funext ha, funext hf]

/-- The row `r` of the block staged at `t` is row `s` of batch element `b`. -/
theorem read_x_at (t : Fin cfg0.N) (r : Fin 512) (b : Fin 16) (s : Fin 2048) (h : 512 * (t.val / 8) + r.val = 2048 * b.val + s.val) (d : Fin 2048) :
    iblk m c 0 t (ix2 r d) = m ((c : Thread nD τ).loc main_arg0) (ix3 b s d) := by
  rw [read_x]
  congr 2
  · exact Fin.ext (by show t.val / 32 = b.val; omega)
  · exact Fin.ext (by show 512 * (t.val / 8 % 4) + r.val = s.val; omega)

theorem batch_at (t : Fin cfg0.N) (b : Fin 16) (h : t.val / 32 = b.val) (hlt) : (⟨t.val / 32, hlt⟩ : Fin 16) = b := Fin.ext h

/-- What point `t` adds at a row, in the argument arrays. -/
theorem part_apply (t : Fin cfg0.N) (r : Fin 512) (b : Fin 16) (s : Fin 2048) (h : 512 * (t.val / 8) + r.val = 2048 * b.val + s.val)
    (q : Fin 8) (hq : t.val % 8 = q.val) (d : Fin 2048) :
    part m c t (ix2 r d) = perceptron
      (normRow (fun d => m ((c : Thread nD τ).loc main_arg0) (ix3 b s d)) (fun d => m ((c : Thread nD τ).loc main_arg1) (ix2 0 d))
        (fun d => m ((c : Thread nD τ).loc main_arg2) (ix2 b d)) (fun d => m ((c : Thread nD τ).loc main_arg3) (ix2 b d)))
      (fun k (j : Fin 1024) => m ((c : Thread nD τ).loc main_arg5) (ix3 0 k ⟨1024 * q.val + j.val, by omega⟩))
      (fun j d => m ((c : Thread nD τ).loc main_arg6) (ix3 0 ⟨1024 * q.val + j.val, by omega⟩ d)) d := by
  have hb : t.val / 32 = b.val := by omega
  unfold part
  rw [blockP_apply]
  unfold uBlock
  simp only [blockU_apply]
  refine perceptron_congr (fun k => normRow_congr (read_x_at m c t r b s h) (read_g m c t 0) (fun d => ?_) (fun d => ?_) k) (fun k j => ?_) (fun j d => ?_) d
  · exact (read_sh m c t 0 0 d).trans (by rw [batch_at t b hb])
  · exact (read_sc m c t 0 0 d).trans (by rw [batch_at t b hb])
  · exact (read_w1 m c t k j).trans (by simp only [hq])
  · exact (read_w2 m c t j d).trans (by simp only [hq])

/-- The result array, element by element. -/
theorem result_apply (b : Fin 16) (s : Fin 2048) (d : Fin 2048) :
    Value.G8 m c (ix2 ⟨2048 * b.val + s.val, by omega⟩ d) =
      mlpRow (fun d => m ((c : Thread nD τ).loc main_arg0) (ix3 b s d)) (fun d => m ((c : Thread nD τ).loc main_arg1) (ix2 0 d))
        (fun d => m ((c : Thread nD τ).loc main_arg2) (ix2 b d)) (fun d => m ((c : Thread nD τ).loc main_arg3) (ix2 b d))
        (fun d => m ((c : Thread nD τ).loc main_arg4) (ix2 b d)) (fun d => m ((c : Thread nD τ).loc main_arg7) (ix1 d))
        (fun k j => m ((c : Thread nD τ).loc main_arg5) (ix3 0 k j)) (fun j d => m ((c : Thread nD τ).loc main_arg6) (ix3 0 j d)) d := by
  have hN : cfg0.N = 512 := N_0
  obtain ⟨q, hq⟩ : ∃ q, q = (2048 * b.val + s.val) / 512 := ⟨_, rfl⟩
  obtain ⟨r, hr⟩ : ∃ r : Fin 512, r.val = (2048 * b.val + s.val) % 512 := ⟨⟨_, Nat.mod_lt _ (by decide)⟩, rfl⟩
  have ht : 8 * q + 7 < cfg0.N := by omega
  have hp : Value.pt8Of (ix2 ⟨2048 * b.val + s.val, by omega⟩ d) = 8 * q + 7 := by
    show 8 * (1 * ((2048 * b.val + s.val) / 512 - 0) + 1 * (d.val / 2048 - 0)) + 7 = _
    omega
  have hl : Value.loc8Of (ix2 ⟨2048 * b.val + s.val, by omega⟩ d) = ix2 r d := by
    funext a; apply Fin.ext
    match a with
    | ⟨0, _⟩ => show (2048 * b.val + s.val) % 512 = r.val; omega
    | ⟨1, _⟩ => show d.val % 2048 = d.val; omega
  unfold Value.G8
  rw [dif_pos (by rw [hp]; exact ht), hl, Value.fold0_congr m c _ _ _ (by omega) hp,
    ← Value.outsAt0_sweep m c (8 * q + 7) ht]
  rw [out_last m c ⟨8 * q + 7, ht⟩ (by show (8 * q + 7) % 8 = 7; omega), blockOut_apply]
  have hrow : 512 * ((8 * q + 7) / 8) + r.val = 2048 * b.val + s.val := by omega
  have hb : (8 * q + 7) / 32 = b.val := by omega
  refine outRow_congr (read_x_at m c ⟨8 * q + 7, ht⟩ r b s hrow)
    (fun d => (read_gate m c ⟨8 * q + 7, ht⟩ 0 0 d).trans (by rw [batch_at ⟨8 * q + 7, ht⟩ b hb])) (fun d => ?_) (read_fg m c ⟨8 * q + 7, ht⟩ 0) d
  refine (Finset.sum_congr rfl fun p _ => ?_).trans (perceptron_blocks _ _ _ d)
  exact part_apply m c _ r b s (by show 512 * ((8 * ((8 * q + 7) / 8) + p.val) / 8) + r.val = _; omega) p
    (by show (8 * ((8 * q + 7) / 8) + p.val) % 8 = _; omega) d

end Cert.MlpIdeal.Terms

end
-- ==== Proof.MlpRefRow.lean ====
/-
  The reference's result, element by element, as the same function of the argument arrays.
-/
module

public import proofs.«01_k».proof.Proof.MlpArray
public import proofs.«01_k».proof.Proof.Gen.MlpRefIdeal.Read

@[expose] public section

set_option maxRecDepth 16384

noncomputable section

namespace Cert.MlpRefIdeal.Rows

open Cert.MlpRefIdeal Cert.MlpRefIdeal.Gen Cert.MlpRefIdeal.Read Idealize.ShloMosaic Idealize.ShloMosaic.TcCoe
open Cert.MlpIdeal.Terms (mlpRow outRow perceptron)
open Cert.Rows (normRow rmsFactor)

variable (x0 : Vec Ideal S16x2048x2048 .f32) (x1 : Vec Ideal S1x2048 .f32) (x2 x3 x4 : Vec Ideal S16x2048 .f32)
  (x5 : Vec Ideal S1x2048x8192 .f32) (x6 : Vec Ideal S1x8192x2048 .f32) (x7 : Vec Ideal S2048 .f32)

theorem norm_apply (b : Fin 16) (s : Fin 2048) (k : Fin 2048) :
    val_main_v22 (F := Ideal) x0 x1 x2 x3 (ix3 b s k) =
      normRow (fun d => x0 (ix3 b s d)) (fun d => x1 (ix2 0 d)) (fun d => x2 (ix2 b d)) (fun d => x3 (ix2 b d)) k := by
  pointwise! [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v1, val_main_v0, val_main_cst, val_main_cst_0, val_main_cst_1, val_main_cst_2, normRow, rmsFactor]

theorem hidden_apply (b : Fin 16) (s : Fin 2048) (j : Fin 8192) :
    val_main_v25 (F := Ideal) x0 x1 x2 x3 x5 (ix3 b s j) = ∑ k, val_main_v22 (F := Ideal) x0 x1 x2 x3 (ix3 b s k) * x5 (ix3 0 k j) := by
  unfold val_main_v25 val_main_v23
  generalize val_main_v22 (F := Ideal) x0 x1 x2 x3 = u
  pointwise!

theorem sum_apply (b : Fin 16) (s : Fin 2048) (d : Fin 2048) :
    val_main_v28 (F := Ideal) x0 x1 x2 x3 x5 x6 (ix3 b s d) = perceptron (fun k => val_main_v22 (F := Ideal) x0 x1 x2 x3 (ix3 b s k))
      (fun k j => x5 (ix3 0 k j)) (fun j d => x6 (ix3 0 j d)) d := by
  have e : val_main_v28 (F := Ideal) x0 x1 x2 x3 x5 x6 (ix3 b s d) = ∑ j : Fin 8192,
      max (val_main_v25 (F := Ideal) x0 x1 x2 x3 x5 (ix3 b s j)) 0 * max (val_main_v25 (F := Ideal) x0 x1 x2 x3 x5 (ix3 b s j)) 0 * x6 (ix3 0 j d) := by
    unfold val_main_v28 val_main_v27 val_main_v26 val_main_v24 val_main_call0_v0 val_main_call0_cst
    generalize val_main_v25 (F := Ideal) x0 x1 x2 x3 x5 = u
    pointwise!
  rw [e]
  simp only [hidden_apply, perceptron]

theorem mid_apply (b : Fin 16) (s : Fin 2048) (d : Fin 2048) :
    val_main_v31 (F := Ideal) x0 x1 x2 x3 x4 x5 x6 (ix3 b s d) = x0 (ix3 b s d) + x4 (ix2 b d) * val_main_v28 (F := Ideal) x0 x1 x2 x3 x5 x6 (ix3 b s d) := by
  unfold val_main_v31 val_main_v30 val_main_v29 val_main_v2
  generalize val_main_v28 (F := Ideal) x0 x1 x2 x3 x5 x6 = u
  pointwise!

theorem out_apply (b : Fin 16) (s : Fin 2048) (d : Fin 2048) :
    val_main_v44 (F := Ideal) x0 x1 x2 x3 x4 x5 x6 x7 (ix3 b s d) =
      outRow (fun d => val_main_v31 (F := Ideal) x0 x1 x2 x3 x4 x5 x6 (ix3 b s d)) (fun d => x7 (ix1 d)) d := by
  unfold val_main_v44 val_main_v43 val_main_v42 val_main_v41 val_main_v40 val_main_v39 val_main_v38 val_main_v37 val_main_v36 val_main_v35 val_main_v34 val_main_v33 val_main_v32 val_main_cst_3 val_main_cst_4 val_main_cst_5
  generalize val_main_v31 (F := Ideal) x0 x1 x2 x3 x4 x5 x6 = u
  pointwise! [outRow, rmsFactor]

/-- The reference's result at row `s` of batch element `b`. -/
theorem result_apply (b : Fin 16) (s : Fin 2048) (d : Fin 2048) :
    val_main_v45 (F := Ideal) x0 x1 x2 x3 x4 x5 x6 x7 (ix2 ⟨2048 * b.val + s.val, by omega⟩ d) =
      mlpRow (fun d => x0 (ix3 b s d)) (fun d => x1 (ix2 0 d)) (fun d => x2 (ix2 b d)) (fun d => x3 (ix2 b d)) (fun d => x4 (ix2 b d))
        (fun d => x7 (ix1 d)) (fun k j => x5 (ix3 0 k j)) (fun j d => x6 (ix3 0 j d)) d := by
  have e : val_main_v45 (F := Ideal) x0 x1 x2 x3 x4 x5 x6 x7 (ix2 ⟨2048 * b.val + s.val, by omega⟩ d) =
      val_main_v44 (F := Ideal) x0 x1 x2 x3 x4 x5 x6 x7 (ix3 b s d) := by
    rw [val_main_v45_apply]
    blk_ext
  rw [e, out_apply]
  unfold mlpRow
  simp only [mid_apply, sum_apply, norm_apply]

/-- The two results are one function of the arguments. -/
theorem result_eq (m : (ℓ : Loc Cert.MlpIdeal.nD Cert.MlpIdeal.τ Cert.MlpIdeal.sig) → Buf (Elt Ideal) ℓ) (c : Dev Cert.MlpIdeal.nD) :
    val_main_v45 (F := Ideal) (m ((c.tc : Thread Cert.MlpIdeal.nD Cert.MlpIdeal.τ).loc Cert.MlpIdeal.main_arg0))
      (m ((c.tc : Thread Cert.MlpIdeal.nD Cert.MlpIdeal.τ).loc Cert.MlpIdeal.main_arg1))
      (m ((c.tc : Thread Cert.MlpIdeal.nD Cert.MlpIdeal.τ).loc Cert.MlpIdeal.main_arg2))
      (m ((c.tc : Thread Cert.MlpIdeal.nD Cert.MlpIdeal.τ).loc Cert.MlpIdeal.main_arg3))
      (m ((c.tc : Thread Cert.MlpIdeal.nD Cert.MlpIdeal.τ).loc Cert.MlpIdeal.main_arg4))
      (m ((c.tc : Thread Cert.MlpIdeal.nD Cert.MlpIdeal.τ).loc Cert.MlpIdeal.main_arg5))
      (m ((c.tc : Thread Cert.MlpIdeal.nD Cert.MlpIdeal.τ).loc Cert.MlpIdeal.main_arg6))
      (m ((c.tc : Thread Cert.MlpIdeal.nD Cert.MlpIdeal.τ).loc Cert.MlpIdeal.main_arg7)) = Cert.MlpIdeal.Value.G8 m c := by
  funext i
  have h0 : (i 0).val < 32768 := (i 0).isLt
  have hi : i = ix2 ⟨2048 * ((⟨(i 0).val / 2048, by omega⟩ : Fin 16)).val + ((⟨(i 0).val % 2048, by omega⟩ : Fin 2048)).val, by
      show 2048 * ((i 0).val / 2048) + (i 0).val % 2048 < 32768; omega⟩ (i 1) := by
    funext a; apply Fin.ext
    match a with
    | ⟨0, _⟩ => show (i 0).val = 2048 * ((i 0).val / 2048) + (i 0).val % 2048; omega
    | ⟨1, _⟩ => rfl
  rw [hi]
  exact (result_apply _ _ _ _ _ _ _ _ _ _ _).trans (Cert.MlpIdeal.Terms.result_apply m c _ _ _).symm

end Cert.MlpRefIdeal.Rows

end
-- ==== Proof.InProjRun.lean ====
module

public import proofs.«01_k».proof.Proof.Gen.InProjIdeal.Frame
public import proofs.«01_k».proof.Proof.Gen.InProjIdeal.Skeleton
public import Idealize.ShloMosaic.Lib.VecWindow

@[expose] public section

set_option maxRecDepth 16384

/-! The three ways one grid step of the input projection runs: the first tile's steps, which only fill; the steps at the
later even tiles; and the steps at the odd tiles. In each a quarter of a tile's rows is normed, scaled, shifted, rounded
and put into one of the two row buffers; the three side operands' blocks are cast; and, from the second tile on, the other
row buffer, finished by the tile before, is multiplied by the weight's block of columns. -/

noncomputable section

namespace Cert.InProjIdeal.Rows

open Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions of this program's machine. -/
abbrev Held (F : FTy → Type) [FloatOps F] := sProp (MT nD τ sig Unit (Elt F) ℕ (UR sig nD τ) ℕ)

variable (c : Dev nD) (i : grid0.Coords)
  (arg2 : Memref sig .tc .vmem S256x2048 .f32) (harg2 : arg2.IsWhole)
  (arg3 : Memref sig .tc .vmem S1x2048 .f32) (harg3 : arg3.IsWhole)
  (arg4 : Memref sig .tc .vmem S1x1x2048 .f32) (harg4 : arg4.IsWhole)
  (arg5 : Memref sig .tc .vmem S1x1x2048 .f32) (harg5 : arg5.IsWhole)
  (arg6 : Memref sig .tc .vmem S2048x2048 .bf16) (harg6 : arg6.IsWhole)
  (arg7 : Memref sig .tc .vmem S16x2048 .f32) (harg7 : arg7.IsWhole)
  (arg8 : Memref sig .tc .vmem S16x8192 .f32) (harg8 : arg8.IsWhole)
  (arg9 : Memref sig .tc .vmem S64x2048 .f32) (harg9 : arg9.IsWhole)
  (arg10 : Memref sig .tc .vmem S1024x2048 .f32) (harg10 : arg10.IsWhole)
  (arg11 : Memref sig .tc .vmem S16x2048 .bf16) (harg11 : arg11.IsWhole)
  (arg12 : Memref sig .tc .vmem S16x8192 .bf16) (harg12 : arg12.IsWhole)
  (arg13 : Memref sig .tc .vmem S64x2048 .bf16) (harg13 : arg13.IsWhole)
  (arg14 : Memref sig .tc .vmem S1024x2048 .bf16) (harg14 : arg14.IsWhole)
  (arg15 : Memref sig .tc .vmem S1024x2048 .bf16) (harg15 : arg15.IsWhole)
  (x0 : Vec F S256x2048 .f32) (x1 : Vec F S1x2048 .f32) (x2 : Vec F S1x1x2048 .f32) (x3 : Vec F S1x1x2048 .f32) (x4 : Vec F S2048x2048 .bf16) (x5 : Vec F S16x2048 .f32) (x6 : Vec F S16x8192 .f32) (x7 : Vec F S64x2048 .f32)
  (a b : Vec F S1024x2048 .bf16)

/-- The eight operands' blocks, held by the core. -/
abbrev operands : Held F :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7)

/-- The four results' blocks, held by the core at anything. -/
abbrev blanks : Held F :=
  iprop((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))

/-- The four results' blocks at given contents. -/
abbrev products (y8 : Vec F S1024x2048 .f32) (y9 : Vec F S16x2048 .bf16) (y10 : Vec F S16x8192 .bf16) (y11 : Vec F S64x2048 .bf16) : Held F :=
  iprop(owns (c : Thread nD τ) arg10 fullShare y8 ∗ owns (c : Thread nD τ) arg11 fullShare y9 ∗ owns (c : Thread nD τ) arg12 fullShare y10 ∗ owns (c : Thread nD τ) arg13 fullShare y11)

/-- A whole-block store leaves the payload. -/
theorem stored {s : Shape} {e : EltTy} {sp : Space} (M : Memref sig .tc sp s e) (f : M.view.ty.Contents (Elt F))
    {off : Fin s.rank → ℕ} (inb : ∀ k, off k + s.size k ≤ s.size k) (w : (Rect.unit off s.size inb).shape.Idx → Elt F e)
    (y : s.Idx → Elt F e) (h : w = y) :
    M.view.read (Elt F) (M.view.writes (Elt F) f [⟨Rect.unit off s.size inb, w⟩]) = y :=
  (View.read_writes_full M.view f inb w []).trans h

/-- A whole-block load of a block held at `x` reads `x`. -/
theorem loaded {s : Shape} {e : EltTy} {sp : Space} {M : Memref sig .tc sp s e} (hM : M.IsWhole) (x : s.Idx → Elt F e)
    {off : Fin s.rank → ℕ} (inb : ∀ k, off k + s.size k ≤ s.size k) :
    M.view.readAt (Elt F) (Rect.unit off s.size inb).toLoadRect (hM.unread x) = x := by
  rw [View.readAt_full, hM.read_unread]

/-- A store of part of a block held at `x` puts the payload there and leaves the rest. -/
theorem put_stored {s : Shape} {e : EltTy} {sp : Space} {M : Memref sig .tc sp s e} (hM : M.IsWhole) (x : s.Idx → Elt F e)
    {off size : Fin s.rank → ℕ} (inb : ∀ k, off k + size k ≤ s.size k) (w w' : (Rect.unit off size inb).shape.Idx → Elt F e)
    (h : w = w') :
    M.view.read (Elt F) (M.view.writes (Elt F) (hM.unread x) [⟨Rect.unit off size inb, w⟩]) = VecWindow.put x off size w' := by
  rw [View.read_writes_cons_put M.view _ inb w [] rfl, View.writes_nil, hM.read_unread, h]

set_option maxHeartbeats 4000000 in
/-- A step at the first tile: the row buffer of the even tiles takes a quarter; the product is zeros. -/
theorem run_first (hc0 : k0_cond1 i = 1#1) (hc1 : ¬ k0_cond2 i = 1#1) (hc2 : ¬ k0_cond3 i = 1#1) (E : Set ℕ) (K : PUnit → Held F) :
    iprop(operands c arg2 arg3 arg4 arg5 arg6 arg7 arg8 arg9 x0 x1 x2 x3 x4 x5 x6 x7 ∗ blanks c arg10 arg11 arg12 arg13 ∗ owns (c : Thread nD τ) arg14 fullShare a ∗ owns (c : Thread nD τ) arg15 fullShare b
        ∗ (iprop(operands c arg2 arg3 arg4 arg5 arg6 arg7 arg8 arg9 x0 x1 x2 x3 x4 x5 x6 x7 ∗ products c arg10 arg11 arg12 arg13 (k0_pay3 (F := F)) (k0_pay11 x5) (k0_pay1 x6) (k0_pay2 x7)
              ∗ owns (c : Thread nD τ) arg14 fullShare (VecWindow.put a (k0_off1 i) S256x2048.size (k0_pay10 x0 x1 x3 x2)) ∗ owns (c : Thread nD τ) arg15 fullShare b) -∗ K ⟨⟩))
      ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_in_projection_eq_skeleton]; unfold cc0_in_projection_skel
  simp only [k0_part1_eq_skeleton]
  unfold operands blanks products owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨⟨%d8, %f8, -, H8⟩, ⟨%d9, %f9, -, H9⟩, ⟨%d10, %f10, -, H10⟩, ⟨%d11, %f11, -, H11⟩⟩, ⟨%fs0, %hs0, HS0⟩, ⟨%fs1, %hs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  obtain rfl := harg14.eq_unread hs0; obtain rfl := harg15.eq_unread hs1
  sl_exec (disch := first | sl_exact hc0 | sl_exact hc1 | sl_exact hc2)
  sl_step
  iapply Hk
  isplitl [H0 H1 H2 H3 H4 H5 H6 H7]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; isplitr; · ipureintro; exact harg9.read_unread _
    iexact H7
  isplitl [H8 H9 H10 H11]
  · isplitl [H8]
    · iexists _; isplitr; swap; · iexact H8
      ipureintro; exact stored _ _ _ _ _ rfl
    isplitl [H9]
    · iexists _; isplitr; swap; · iexact H9
      ipureintro; exact stored _ _ _ _ _ (by rw [loaded harg7])
    isplitl [H10]
    · iexists _; isplitr; swap; · iexact H10
      ipureintro; exact stored _ _ _ _ _ (by rw [loaded harg8])
    iexists _; isplitr; swap; · iexact H11
    ipureintro; exact stored _ _ _ _ _ (by rw [loaded harg9])
  isplitl [HS0]
  · iexists _; isplitr; swap; · iexact HS0
    ipureintro; exact put_stored harg14 _ _ _ _ (by rw [loaded harg2, loaded harg3, loaded harg5, loaded harg4])
  iexists _; isplitr; swap; · iexact HS1
  ipureintro; exact harg15.read_unread _

set_option maxHeartbeats 4000000 in
/-- A step at a later even tile: its row buffer takes a quarter; the odd tiles' buffer is multiplied. -/
theorem run_even (hc0 : ¬ k0_cond1 i = 1#1) (hc1 : k0_cond2 i = 1#1) (hc2 : ¬ k0_cond3 i = 1#1) (E : Set ℕ) (K : PUnit → Held F) :
    iprop(operands c arg2 arg3 arg4 arg5 arg6 arg7 arg8 arg9 x0 x1 x2 x3 x4 x5 x6 x7 ∗ blanks c arg10 arg11 arg12 arg13 ∗ owns (c : Thread nD τ) arg14 fullShare a ∗ owns (c : Thread nD τ) arg15 fullShare b
        ∗ (iprop(operands c arg2 arg3 arg4 arg5 arg6 arg7 arg8 arg9 x0 x1 x2 x3 x4 x5 x6 x7 ∗ products c arg10 arg11 arg12 arg13 (k0_pay6 b x4) (k0_pay13 x5) (k0_pay4 x6) (k0_pay5 x7)
              ∗ owns (c : Thread nD τ) arg14 fullShare (VecWindow.put a (k0_off2 i) S256x2048.size (k0_pay12 x0 x1 x3 x2)) ∗ owns (c : Thread nD τ) arg15 fullShare b) -∗ K ⟨⟩))
      ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_in_projection_eq_skeleton]; unfold cc0_in_projection_skel
  simp only [k0_part2_eq_skeleton]
  unfold operands blanks products owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨⟨%d8, %f8, -, H8⟩, ⟨%d9, %f9, -, H9⟩, ⟨%d10, %f10, -, H10⟩, ⟨%d11, %f11, -, H11⟩⟩, ⟨%fs0, %hs0, HS0⟩, ⟨%fs1, %hs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  obtain rfl := harg14.eq_unread hs0; obtain rfl := harg15.eq_unread hs1
  sl_exec (disch := first | sl_exact hc0 | sl_exact hc1 | sl_exact hc2)
  sl_step
  iapply Hk
  isplitl [H0 H1 H2 H3 H4 H5 H6 H7]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; isplitr; · ipureintro; exact harg9.read_unread _
    iexact H7
  isplitl [H8 H9 H10 H11]
  · isplitl [H8]
    · iexists _; isplitr; swap; · iexact H8
      ipureintro; exact stored _ _ _ _ _ (by rw [loaded harg15, loaded harg6])
    isplitl [H9]
    · iexists _; isplitr; swap; · iexact H9
      ipureintro; exact stored _ _ _ _ _ (by rw [loaded harg7])
    isplitl [H10]
    · iexists _; isplitr; swap; · iexact H10
      ipureintro; exact stored _ _ _ _ _ (by rw [loaded harg8])
    iexists _; isplitr; swap; · iexact H11
    ipureintro; exact stored _ _ _ _ _ (by rw [loaded harg9])
  isplitl [HS0]
  · iexists _; isplitr; swap; · iexact HS0
    ipureintro; exact put_stored harg14 _ _ _ _ (by rw [loaded harg2, loaded harg3, loaded harg5, loaded harg4])
  iexists _; isplitr; swap; · iexact HS1
  ipureintro; exact harg15.read_unread _

set_option maxHeartbeats 4000000 in
/-- A step at an odd tile: its row buffer takes a quarter; the even tiles' buffer is multiplied. -/
theorem run_odd (hc0 : ¬ k0_cond1 i = 1#1) (hc1 : ¬ k0_cond2 i = 1#1) (hc2 : k0_cond3 i = 1#1) (E : Set ℕ) (K : PUnit → Held F) :
    iprop(operands c arg2 arg3 arg4 arg5 arg6 arg7 arg8 arg9 x0 x1 x2 x3 x4 x5 x6 x7 ∗ blanks c arg10 arg11 arg12 arg13 ∗ owns (c : Thread nD τ) arg14 fullShare a ∗ owns (c : Thread nD τ) arg15 fullShare b
        ∗ (iprop(operands c arg2 arg3 arg4 arg5 arg6 arg7 arg8 arg9 x0 x1 x2 x3 x4 x5 x6 x7 ∗ products c arg10 arg11 arg12 arg13 (k0_pay9 a x4) (k0_pay15 x5) (k0_pay7 x6) (k0_pay8 x7)
              ∗ owns (c : Thread nD τ) arg14 fullShare a ∗ owns (c : Thread nD τ) arg15 fullShare (VecWindow.put b (k0_off3 i) S256x2048.size (k0_pay14 x0 x1 x3 x2))) -∗ K ⟨⟩))
      ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_in_projection_eq_skeleton]; unfold cc0_in_projection_skel
  simp only [k0_part3_eq_skeleton]
  unfold operands blanks products owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨⟨%d8, %f8, -, H8⟩, ⟨%d9, %f9, -, H9⟩, ⟨%d10, %f10, -, H10⟩, ⟨%d11, %f11, -, H11⟩⟩, ⟨%fs0, %hs0, HS0⟩, ⟨%fs1, %hs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  obtain rfl := harg14.eq_unread hs0; obtain rfl := harg15.eq_unread hs1
  sl_exec (disch := first | sl_exact hc0 | sl_exact hc1 | sl_exact hc2)
  sl_step
  iapply Hk
  isplitl [H0 H1 H2 H3 H4 H5 H6 H7]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; isplitr; · ipureintro; exact harg9.read_unread _
    iexact H7
  isplitl [H8 H9 H10 H11]
  · isplitl [H8]
    · iexists _; isplitr; swap; · iexact H8
      ipureintro; exact stored _ _ _ _ _ (by rw [loaded harg14, loaded harg6])
    isplitl [H9]
    · iexists _; isplitr; swap; · iexact H9
      ipureintro; exact stored _ _ _ _ _ (by rw [loaded harg7])
    isplitl [H10]
    · iexists _; isplitr; swap; · iexact H10
      ipureintro; exact stored _ _ _ _ _ (by rw [loaded harg8])
    iexists _; isplitr; swap; · iexact H11
    ipureintro; exact stored _ _ _ _ _ (by rw [loaded harg9])
  isplitl [HS0]
  · iexists _; isplitr; swap; · iexact HS0
    ipureintro; exact harg14.read_unread _
  iexists _; isplitr; swap; · iexact HS1
  ipureintro; exact put_stored harg15 _ _ _ _ (by rw [loaded harg2, loaded harg3, loaded harg5, loaded harg4])

end Cert.InProjIdeal.Rows

end
-- ==== Proof.InProjFrame.lean ====
module

public import proofs.«01_k».proof.Proof.InProjRun
public import Idealize.ShloMosaic.Lib.Claim
public import Idealize.ShloMosaic.Lib.Pipeline.ValueKit

@[expose] public section

set_option maxRecDepth 16384

/-! The run of the input projection. The invariant between steps says what the two row buffers hold: before step `n`,
in tile `n / 4`, the buffer of that tile's parity has its first `n % 4` quarters filled with the tile's normed rows, and the
other buffer has all rows of the tile before, if there is one. What else the buffers hold is not named. -/

noncomputable section

namespace Cert.InProjIdeal.Rows

open Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg) (c : Dev nD)

/-! ## Where the steps are -/

theorem cond1_iff : ∀ t : Fin cfg0.N, k0_cond1 (grid0.coords t) = 1#1 ↔ t.val < 4 :=
  (by decide +kernel : ∀ t : Fin grid0.N, k0_cond1 (grid0.coords t) = 1#1 ↔ t.val < 4)
theorem cond2_iff : ∀ t : Fin cfg0.N, k0_cond2 (grid0.coords t) = 1#1 ↔ 4 ≤ t.val ∧ t.val / 4 % 2 = 0 :=
  (by decide +kernel : ∀ t : Fin grid0.N, k0_cond2 (grid0.coords t) = 1#1 ↔ 4 ≤ t.val ∧ t.val / 4 % 2 = 0)
theorem cond3_iff : ∀ t : Fin cfg0.N, k0_cond3 (grid0.coords t) = 1#1 ↔ t.val / 4 % 2 = 1 :=
  (by decide +kernel : ∀ t : Fin grid0.N, k0_cond3 (grid0.coords t) = 1#1 ↔ t.val / 4 % 2 = 1)

/-- The first row step `n` fills in its buffer, and column 0. -/
abbrev quarter (n : ℕ) : Fin 2 → ℕ := ![256 * (n % 4), 0]

theorem off1_eq (t : Fin cfg0.N) : k0_off1 (grid0.coords t) = quarter t.val :=
  funext ((by decide +kernel : ∀ t : Fin grid0.N, ∀ k, k0_off1 (grid0.coords t) k = quarter t.val k) t)
theorem off2_eq (t : Fin cfg0.N) : k0_off2 (grid0.coords t) = quarter t.val :=
  funext ((by decide +kernel : ∀ t : Fin grid0.N, ∀ k, k0_off2 (grid0.coords t) k = quarter t.val k) t)
theorem off3_eq (t : Fin cfg0.N) : k0_off3 (grid0.coords t) = quarter t.val :=
  funext ((by decide +kernel : ∀ t : Fin grid0.N, ∀ k, k0_off3 (grid0.coords t) k = quarter t.val k) t)

/-! ## What the row buffers hold -/

/-- Step `n` of the grid. -/
def point (n : ℕ) : Fin cfg0.N := ⟨n % 132, (Nat.mod_lt n (by decide)).trans_eq N_0.symm⟩

theorem point_val (t : Fin cfg0.N) : point t.val = t :=
  Fin.ext (Nat.mod_eq_of_lt (t.isLt.trans_eq N_0))

/-- The quarter of normed, scaled, shifted and rounded rows step `t` makes. -/
def rowsAt (t : Fin cfg0.N) : Vec F S256x2048 .bf16 :=
  k0_pay10 (iblk m c 0 t) (iblk m c 1 t) (iblk m c 3 t) (iblk m c 2 t)

/-- A row of a tile, within its quarter. -/
abbrev inQuarter (y : S1024x2048.Idx) : S256x2048.Idx :=
  ix2 ⟨(y (0 : Fin 2)).val % 256, Nat.mod_lt _ (by decide)⟩ ⟨(y (1 : Fin 2)).val, (y (1 : Fin 2)).isLt⟩

/-- All the rows of tile `k`. -/
def tile (k : ℕ) : Vec F S1024x2048 .bf16 :=
  fun y => rowsAt m c (point (4 * k + (y (0 : Fin 2)).val / 256)) (inQuarter y)

/-- Before step `n`: `p` has the quarters of its tile made so far, `q` the whole tile before. -/
def Half (n : ℕ) (p q : Vec F S1024x2048 .bf16) : Prop :=
  (∀ y : S1024x2048.Idx, (y (0 : Fin 2)).val < 256 * (n % 4) → p y = tile m c (n / 4) y) ∧ (0 < n / 4 → q = tile m c (n / 4 - 1))

/-- Before step `n`, of the even tiles' buffer and the odd tiles'. -/
def Good (n : ℕ) (a b : Vec F S1024x2048 .bf16) : Prop :=
  if n / 4 % 2 = 0 then Half m c n a b else Half m c n b a

theorem good_even {n : ℕ} (h : n / 4 % 2 = 0) (a b : Vec F S1024x2048 .bf16) : Good m c n a b ↔ Half m c n a b := by
  unfold Good; rw [if_pos h]
theorem good_odd {n : ℕ} (h : n / 4 % 2 = 1) (a b : Vec F S1024x2048 .bf16) : Good m c n a b ↔ Half m c n b a := by
  unfold Good; rw [if_neg (by omega)]

theorem good_zero (a b : Vec F S1024x2048 .bf16) : Good m c 0 a b :=
  (good_even m c rfl a b).mpr ⟨fun y h => absurd h (Nat.not_lt_zero _), fun h => absurd h (Nat.lt_irrefl 0)⟩

/-- The buffer after a step has one quarter more. -/
theorem filled {t : Fin cfg0.N} {p q : Vec F S1024x2048 .bf16} (h : Half m c t.val p q) (y : S1024x2048.Idx)
    (hy : (y (0 : Fin 2)).val < 256 * (t.val % 4 + 1)) :
    VecWindow.put p (quarter t.val) S256x2048.size (rowsAt m c t) y = tile m c (t.val / 4) y := by
  have hy1 : (y (1 : Fin 2)).val < 2048 := (y (1 : Fin 2)).isLt
  unfold VecWindow.put
  by_cases hr : 256 * (t.val % 4) ≤ (y (0 : Fin 2)).val
  · rw [dif_pos (Fin.forall_fin_two.mpr ⟨⟨hr, by show _ < 256 * (t.val % 4) + 256; omega⟩, ⟨Nat.zero_le _, by show _ < 0 + 2048; omega⟩⟩)]
    unfold tile
    rw [show point (4 * (t.val / 4) + (y (0 : Fin 2)).val / 256) = t from by
      rw [show 4 * (t.val / 4) + (y (0 : Fin 2)).val / 256 = t.val from by omega, point_val]]
    refine congrArg (rowsAt m c t) (funext (Fin.forall_fin_two.mpr ⟨Fin.ext ?_, Fin.ext ?_⟩))
    · show (y (0 : Fin 2)).val - 256 * (t.val % 4) = (y (0 : Fin 2)).val % 256
      omega
    · show (y (1 : Fin 2)).val - 0 = (y (1 : Fin 2)).val
      omega
  · rw [dif_neg (fun hf => hr (hf 0).1)]
    exact h.1 y (by omega)

/-- One step: the buffers before the next. -/
theorem half_step {t : Fin cfg0.N} {p q : Vec F S1024x2048 .bf16} (h : Half m c t.val p q) :
    (t.val % 4 < 3 → Half m c (t.val + 1) (VecWindow.put p (quarter t.val) S256x2048.size (rowsAt m c t)) q)
      ∧ (t.val % 4 = 3 → Half m c (t.val + 1) q (VecWindow.put p (quarter t.val) S256x2048.size (rowsAt m c t))) := by
  refine ⟨fun h3 => ⟨fun y hy => ?_, fun hk => ?_⟩, fun h3 => ⟨fun y hy => ?_, fun _ => funext fun y => ?_⟩⟩
  · rw [show (t.val + 1) / 4 = t.val / 4 from by omega]
    exact filled m c h y (by omega)
  · rw [show (t.val + 1) / 4 = t.val / 4 from by omega] at hk ⊢
    exact h.2 hk
  · exact absurd hy (by omega)
  · rw [show (t.val + 1) / 4 - 1 = t.val / 4 from by omega]
    have := (y (0 : Fin 2)).isLt
    exact filled m c h y (by have : (y (0 : Fin 2)).val < 1024 := this; omega)

theorem good_step_even {t : Fin cfg0.N} (he : t.val / 4 % 2 = 0) {a b : Vec F S1024x2048 .bf16} (h : Good m c t.val a b) :
    Good m c (t.val + 1) (VecWindow.put a (quarter t.val) S256x2048.size (rowsAt m c t)) b := by
  have hs := half_step m c ((good_even m c he a b).mp h)
  by_cases h3 : t.val % 4 < 3
  · exact (good_even m c (by omega) _ _).mpr (hs.1 h3)
  · exact (good_odd m c (by omega) _ _).mpr (hs.2 (by omega))

theorem good_step_odd {t : Fin cfg0.N} (he : t.val / 4 % 2 = 1) {a b : Vec F S1024x2048 .bf16} (h : Good m c t.val a b) :
    Good m c (t.val + 1) a (VecWindow.put b (quarter t.val) S256x2048.size (rowsAt m c t)) := by
  have hs := half_step m c ((good_odd m c he a b).mp h)
  by_cases h3 : t.val % 4 < 3
  · exact (good_odd m c (by omega) _ _).mpr (hs.1 h3)
  · exact (good_even m c (by omega) _ _).mpr (hs.2 (by omega))

/-! ## The run's data -/

/-- The block of the product step `t` leaves: zeros at the first tile, then the tile before times the weight's columns. -/
def outAt (t : Fin cfg0.N) : Vec F S1024x2048 .f32 :=
  if t.val < 4 then k0_pay3 else k0_pay6 (tile m c (t.val / 4 - 1)) (iblk m c 4 t)

/-- The two row buffers. -/
abbrev evens : Memref sig .tc .vmem S1024x2048 .bf16 := Memref.whole cc0_scratch0
abbrev odds : Memref sig .tc .vmem S1024x2048 .bf16 := Memref.whole cc0_scratch1

/-- Before step `n`: the row buffers at contents as `Good` says, and the generator at any state. -/
def Between (n : ℕ) : Held F :=
  iprop((∃ a b, ⌜Good m c n a b⌝ ∗ owns (c : Thread nD τ) evens fullShare a ∗ owns (c : Thread nD τ) odds fullShare b) ∗ (∃ r, prngReg c r))

/-- What the region's rest is: the row buffers at anything, the generator at anything. -/
theorem rest_eq :
    (Pipeline.ΦA spec0 c : Held F)
      = iprop(iprop((∃ d, owns (c : Thread nD τ) evens fullShare d) ∗ (∃ d, owns (c : Thread nD τ) odds fullShare d)) ∗ (∃ r, prngReg c r)) := by
  unfold Pipeline.ΦA; rw [scopedRest0_eq]; simp only [evens, odds, owns_whole]; try rfl

/-- The data of the run: the operands' blocks stay; the results' blocks are as computed; `Between` holds between the steps. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
    | ⟨9, _⟩ => k0_pay11 (iblk m c 5 t)
    | ⟨10, _⟩ => k0_pay1 (iblk m c 6 t)
    | ⟨11, _⟩ => k0_pay2 (iblk m c 7 t)
  Φ t := Between m c t.val
  q _ := fullShare
  owed _ := 0

theorem A_eq (w : Fin cfg0.W) : (dats m 0 c).A w = V m c (Pipeline.arrRef spec0 w) := by
  dsimp only [dats]

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = iblk m c 6 t := by dsimp only [dats]
theorem after0_7 (t : Fin cfg0.N) : (dats m 0 c).after 7 t = iblk m c 7 t := by dsimp only [dats]
theorem after0_8 (t : Fin cfg0.N) : (dats m 0 c).after 8 t = outAt m c t := by dsimp only [dats]
theorem after0_9 (t : Fin cfg0.N) : (dats m 0 c).after 9 t = k0_pay11 (iblk m c 5 t) := by dsimp only [dats]
theorem after0_10 (t : Fin cfg0.N) : (dats m 0 c).after 10 t = k0_pay1 (iblk m c 6 t) := by dsimp only [dats]
theorem after0_11 (t : Fin cfg0.N) : (dats m 0 c).after 11 t = k0_pay2 (iblk m c 7 t) := by dsimp only [dats]
theorem before0_0 (t : Fin cfg0.N) (d) : (dats m 0 c).before 0 t d = iblk m c 0 t :=
  before0_0_of m (dats m 0 c) (A_eq m c 0) (after0_0 m c) t d
theorem before0_1 (t : Fin cfg0.N) (d) : (dats m 0 c).before 1 t d = iblk m c 1 t :=
  before0_1_of m (dats m 0 c) (A_eq m c 1) (after0_1 m c) t d
theorem before0_2 (t : Fin cfg0.N) (d) : (dats m 0 c).before 2 t d = iblk m c 2 t :=
  before0_2_of m (dats m 0 c) (A_eq m c 2) (after0_2 m c) t d
theorem before0_3 (t : Fin cfg0.N) (d) : (dats m 0 c).before 3 t d = iblk m c 3 t :=
  before0_3_of m (dats m 0 c) (A_eq m c 3) (after0_3 m c) t d
theorem before0_4 (t : Fin cfg0.N) (d) : (dats m 0 c).before 4 t d = iblk m c 4 t :=
  before0_4_of m (dats m 0 c) (A_eq m c 4) (after0_4 m c) t d
theorem before0_5 (t : Fin cfg0.N) (d) : (dats m 0 c).before 5 t d = iblk m c 5 t :=
  before0_5_of m (dats m 0 c) (A_eq m c 5) (after0_5 m c) t d
theorem before0_6 (t : Fin cfg0.N) (d) : (dats m 0 c).before 6 t d = iblk m c 6 t :=
  before0_6_of m (dats m 0 c) (A_eq m c 6) (after0_6 m c) t d
theorem before0_7 (t : Fin cfg0.N) (d) : (dats m 0 c).before 7 t d = iblk m c 7 t :=
  before0_7_of m (dats m 0 c) (A_eq m c 7) (after0_7 m c) t d

abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x8192 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S16x2048 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x8192 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x2048 .bf16 := win0_11.stage (cfg0.slots t 11)
abbrev hs0_11 (t : Fin cfg0.N) : (ms0_11 t).IsWhole := hstage0_11 ((cfg0.slots t 11).cast nbuf0_11)

theorem leaves_0 (t : Fin cfg0.N) : (dats m 0 c).leavesExact 0 t = owns (c : Thread nD τ) (ms0_0 t) fullShare ((dats m 0 c).after 0 t) := by
  unfold Dat.leavesExact; rw [show cfg0.idle 0 (grid0.coords t) = false from rfl]
theorem leaves_1 (t : Fin cfg0.N) : (dats m 0 c).leavesExact 1 t = owns (c : Thread nD τ) (ms0_1 t) fullShare ((dats m 0 c).after 1 t) := by
  unfold Dat.leavesExact; rw [show cfg0.idle 1 (grid0.coords t) = false from rfl]
theorem leaves_2 (t : Fin cfg0.N) : (dats m 0 c).leavesExact 2 t = owns (c : Thread nD τ) (ms0_2 t) fullShare ((dats m 0 c).after 2 t) := by
  unfold Dat.leavesExact; rw [show cfg0.idle 2 (grid0.coords t) = false from rfl]
theorem leaves_3 (t : Fin cfg0.N) : (dats m 0 c).leavesExact 3 t = owns (c : Thread nD τ) (ms0_3 t) fullShare ((dats m 0 c).after 3 t) := by
  unfold Dat.leavesExact; rw [show cfg0.idle 3 (grid0.coords t) = false from rfl]
theorem leaves_4 (t : Fin cfg0.N) : (dats m 0 c).leavesExact 4 t = owns (c : Thread nD τ) (ms0_4 t) fullShare ((dats m 0 c).after 4 t) := by
  unfold Dat.leavesExact; rw [show cfg0.idle 4 (grid0.coords t) = false from rfl]
theorem leaves_5 (t : Fin cfg0.N) : (dats m 0 c).leavesExact 5 t = owns (c : Thread nD τ) (ms0_5 t) fullShare ((dats m 0 c).after 5 t) := by
  unfold Dat.leavesExact; rw [show cfg0.idle 5 (grid0.coords t) = false from rfl]
theorem leaves_6 (t : Fin cfg0.N) : (dats m 0 c).leavesExact 6 t = owns (c : Thread nD τ) (ms0_6 t) fullShare ((dats m 0 c).after 6 t) := by
  unfold Dat.leavesExact; rw [show cfg0.idle 6 (grid0.coords t) = false from rfl]
theorem leaves_7 (t : Fin cfg0.N) : (dats m 0 c).leavesExact 7 t = owns (c : Thread nD τ) (ms0_7 t) fullShare ((dats m 0 c).after 7 t) := by
  unfold Dat.leavesExact; rw [show cfg0.idle 7 (grid0.coords t) = false from rfl]
theorem leaves_8 (t : Fin cfg0.N) : (dats m 0 c).leavesExact 8 t = owns (c : Thread nD τ) (ms0_8 t) fullShare ((dats m 0 c).after 8 t) := by
  unfold Dat.leavesExact; rw [show cfg0.idle 8 (grid0.coords t) = false from (by decide +kernel : ∀ t : Fin cfg0.N, cfg0.idle 8 (grid0.coords t) = false) t]
theorem leaves_9 (t : Fin cfg0.N) : (dats m 0 c).leavesExact 9 t = owns (c : Thread nD τ) (ms0_9 t) fullShare ((dats m 0 c).after 9 t) := by
  unfold Dat.leavesExact; rw [show cfg0.idle 9 (grid0.coords t) = false from (by decide +kernel : ∀ t : Fin cfg0.N, cfg0.idle 9 (grid0.coords t) = false) t]
theorem leaves_10 (t : Fin cfg0.N) : (dats m 0 c).leavesExact 10 t = owns (c : Thread nD τ) (ms0_10 t) fullShare ((dats m 0 c).after 10 t) := by
  unfold Dat.leavesExact; rw [show cfg0.idle 10 (grid0.coords t) = false from (by decide +kernel : ∀ t : Fin cfg0.N, cfg0.idle 10 (grid0.coords t) = false) t]
theorem leaves_11 (t : Fin cfg0.N) : (dats m 0 c).leavesExact 11 t = owns (c : Thread nD τ) (ms0_11 t) fullShare ((dats m 0 c).after 11 t) := by
  unfold Dat.leavesExact; rw [show cfg0.idle 11 (grid0.coords t) = false from (by decide +kernel : ∀ t : Fin cfg0.N, cfg0.idle 11 (grid0.coords t) = false) t]

/-- One step, whichever of the three it is, from buffers as `Good` says to buffers as `Good` says of the next. -/
theorem step (t : Fin cfg0.N) (a b : Vec F S1024x2048 .bf16) (hg : Good m c t.val a b) (K : PUnit → Held F) :
    iprop(operands c (ms0_0 t) (ms0_1 t) (ms0_2 t) (ms0_3 t) (ms0_4 t) (ms0_5 t) (ms0_6 t) (ms0_7 t) (iblk m c 0 t) (iblk m c 1 t) (iblk m c 2 t) (iblk m c 3 t) (iblk m c 4 t) (iblk m c 5 t) (iblk m c 6 t) (iblk m c 7 t) ∗ blanks c (ms0_8 t) (ms0_9 t) (ms0_10 t) (ms0_11 t) ∗ owns (c : Thread nD τ) evens fullShare a ∗ owns (c : Thread nD τ) odds fullShare b
        ∗ (iprop(operands c (ms0_0 t) (ms0_1 t) (ms0_2 t) (ms0_3 t) (ms0_4 t) (ms0_5 t) (ms0_6 t) (ms0_7 t) (iblk m c 0 t) (iblk m c 1 t) (iblk m c 2 t) (iblk m c 3 t) (iblk m c 4 t) (iblk m c 5 t) (iblk m c 6 t) (iblk m c 7 t) ∗ products c (ms0_8 t) (ms0_9 t) (ms0_10 t) (ms0_11 t) (outAt m c t) (k0_pay11 (iblk m c 5 t)) (k0_pay1 (iblk m c 6 t)) (k0_pay2 (iblk m c 7 t))
              ∗ (∃ a b, ⌜Good m c (t.val + 1) a b⌝ ∗ owns (c : Thread nD τ) evens fullShare a ∗ owns (c : Thread nD τ) odds fullShare b)) -∗ K ⟨⟩))
      ⊢ wp frame (wpE (defs₀ (F := F)) Variants.none c none) Set.univ (bodyAt0 t) K := by
  unfold bodyAt0
  by_cases h1 : t.val < 4
  · have he : t.val / 4 % 2 = 0 := by omega
    have hs := good_step_even m c he hg
    rw [← off1_eq] at hs
    iintro ⟨Ho, Hb, Ha, Hd, Hk⟩
    iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) evens (Memref.isWhole_whole _) odds (Memref.isWhole_whole _) (iblk m c 0 t) (iblk m c 1 t) (iblk m c 2 t) (iblk m c 3 t) (iblk m c 4 t) (iblk m c 5 t) (iblk m c 6 t) (iblk m c 7 t) a b ((cond1_iff t).mpr h1) (fun h => by have := (cond2_iff t).mp h; omega) (fun h => by have := (cond3_iff t).mp h; omega) Set.univ K)
    isplitl [Ho]; · iexact Ho
    isplitl [Hb]; · iexact Hb
    isplitl [Ha]; · iexact Ha
    isplitl [Hd]; · iexact Hd
    iintro ⟨Ho, Hp, Ha, Hd⟩
    iapply Hk
    isplitl [Ho]; · iexact Ho
    isplitl [Hp]
    · rw [show outAt m c t = _ from if_pos h1]
      iexact Hp
    iexists _, _
    isplitr
    · ipureintro; exact hs
    isplitl [Ha]; · iexact Ha
    iexact Hd
  · by_cases h2 : t.val / 4 % 2 = 0
    · have hs := good_step_even m c h2 hg
      rw [← off2_eq] at hs
      have hq : b = tile m c (t.val / 4 - 1) := ((good_even m c h2 a b).mp hg).2 (by omega)
      iintro ⟨Ho, Hb, Ha, Hd, Hk⟩
      iapply (run_even c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) evens (Memref.isWhole_whole _) odds (Memref.isWhole_whole _) (iblk m c 0 t) (iblk m c 1 t) (iblk m c 2 t) (iblk m c 3 t) (iblk m c 4 t) (iblk m c 5 t) (iblk m c 6 t) (iblk m c 7 t) a b (fun h => h1 ((cond1_iff t).mp h)) ((cond2_iff t).mpr ⟨by omega, h2⟩) (fun h => by have := (cond3_iff t).mp h; omega) Set.univ K)
      isplitl [Ho]; · iexact Ho
      isplitl [Hb]; · iexact Hb
      isplitl [Ha]; · iexact Ha
      isplitl [Hd]; · iexact Hd
      iintro ⟨Ho, Hp, Ha, Hd⟩
      iapply Hk
      isplitl [Ho]; · iexact Ho
      isplitl [Hp]
      · rw [show outAt m c t = _ from (if_neg h1).trans (by rw [← hq])]
        iexact Hp
      iexists _, _
      isplitr
      · ipureintro; exact hs
      isplitl [Ha]; · iexact Ha
      iexact Hd
    · have h3 : t.val / 4 % 2 = 1 := by omega
      have hs := good_step_odd m c h3 hg
      rw [← off3_eq] at hs
      have hq : a = tile m c (t.val / 4 - 1) := ((good_odd m c h3 a b).mp hg).2 (by omega)
      iintro ⟨Ho, Hb, Ha, Hd, Hk⟩
      iapply (run_odd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) evens (Memref.isWhole_whole _) odds (Memref.isWhole_whole _) (iblk m c 0 t) (iblk m c 1 t) (iblk m c 2 t) (iblk m c 3 t) (iblk m c 4 t) (iblk m c 5 t) (iblk m c 6 t) (iblk m c 7 t) a b (fun h => h1 ((cond1_iff t).mp h)) (fun h => by have := (cond2_iff t).mp h; omega) ((cond3_iff t).mpr h3) Set.univ K)
      isplitl [Ho]; · iexact Ho
      isplitl [Hb]; · iexact Hb
      isplitl [Ha]; · iexact Ha
      isplitl [Hd]; · iexact Hd
      iintro ⟨Ho, Hp, Ha, Hd⟩
      iapply Hk
      isplitl [Ho]; · iexact Ho
      isplitl [Hp]
      · rw [show outAt m c t = _ from (if_neg h1).trans (by rw [← hq])]
        iexact Hp
      iexists _, _
      isplitr
      · ipureintro; exact hs
      isplitl [Ha]; · iexact Ha
      iexact Hd

/-- What a step is called with, window by window, -/
def bodyPre (t : Fin cfg0.N) : Held F :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (t : Fin cfg0.N) : Held F :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 3600000 in
theorem sound_body (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7]
  rw [show (dats m 0 c).owesAt () t.succ = (dats m 0 c).owesAt () t.castSucc from rfl,
    show (dats m 0 c).Φ t.castSucc = Between m c t.val from rfl, show (dats m 0 c).Φ t.succ = Between m c (t.val + 1) from rfl]
  rw [leaves_0, leaves_1, leaves_2, leaves_3, leaves_4, leaves_5, leaves_6, leaves_7, leaves_8, leaves_9, leaves_10, leaves_11]
  rw [after0_0, after0_1, after0_2, after0_3, after0_4, after0_5, after0_6, after0_7, after0_8, after0_9, after0_10, after0_11]
  unfold Between
  iintro ⟨⟨⟨%a, %b, %hg, Ha, Hb⟩, Hr⟩, Hw, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (step m c t a b hg _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8 H9 H10 H11]
  · isplitl [H8]; · iexists _; iexact H8
    isplitl [H9]; · iexists _; iexact H9
    isplitl [H10]; · iexists _; iexact H10
    iexists _; iexact H11
  isplitl [Ha]; · iexact Ha
  isplitl [Hb]; · iexact Hb
  iintro ⟨⟨H0, H1, H2, H3, H4, H5, H6, H7⟩, ⟨H8, H9, H10, H11⟩, Hs⟩
  isplitl [Hs Hr]
  · isplitl [Hs]; · iexact Hs
    iexact Hr
  isplitl [Hw]; · iexact Hw
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-- The row buffers are at anything before the first step, -/
theorem hin : Pipeline.ΦA spec0 c ⊢ (dats m 0 c).Φ 0 := by
  rw [show (dats m 0 c).Φ 0 = Between m c 0 from rfl, rest_eq]
  unfold Between
  iintro ⟨⟨⟨%a, Ha⟩, ⟨%b, Hb⟩⟩, Hr⟩
  isplitl [Ha Hb]
  · iexists a, b
    isplitr
    · ipureintro; exact good_zero m c a b
    isplitl [Ha]; · iexact Ha
    iexact Hb
  iexact Hr

/-- and what they hold after the last is forgotten. -/
theorem hout : (dats m 0 c).Φ (Fin.last cfg0.N) ⊢ Pipeline.ΦA spec0 c := by
  rw [show (dats m 0 c).Φ (Fin.last cfg0.N) = Between m c cfg0.N from rfl, rest_eq]
  unfold Between
  iintro ⟨⟨%a, %b, -, Ha, Hb⟩, Hr⟩
  isplitl [Ha Hb]
  · isplitl [Ha]
    · iexists _; iexact Ha
    iexists _; iexact Hb
  iexact Hr

set_option backward.isDefEq.respectTransparency.types false in
/-- The run: it ends, every array of the pipeline is what the steps leave, every counter is zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end as they were and every counter is zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiescent m ρ))

end Cert.InProjIdeal.Rows

end
-- ==== Proof.InProjSame.lean ====
/-
  The input projection as traced and its idealised form are one program: nothing in it is rewritten. So what is shown of
  the one's run, at any values, is shown of the other's.
-/
module

public import proofs.«01_k».proof.Proof.InProjFrame
public import proofs.«01_k».proof.Proof.Gen.InProj.Frame

@[expose] public section

namespace Cert.InProjSame

open Idealize.ShloMosaic Idealize.SL.Sem

variable {F : FTy → Type} [FloatOps F]

theorem main_eq (c : Dev Cert.InProj.nD) : Cert.InProj.main (F := F) c = Cert.InProjIdeal.main (F := F) c := by rfl

set_option maxHeartbeats 4000000 in
theorem body_eq : @Cert.InProj.cc0_in_projection F _ _ = @Cert.InProjIdeal.cc0_in_projection F _ _ := by rfl

set_option maxHeartbeats 4000000 in
theorem defs₀_eq : Cert.InProj.defs₀ (F := F) = Cert.InProjIdeal.defs₀ (F := F) := by
  unfold Cert.InProj.defs₀ Cert.InProjIdeal.defs₀
  refine congrArg Defs.onTc ?_
  funext l a
  match l, a with
  | 0, (t, s) =>
    dsimp only
    rw [body_eq]
    rfl
  | ⟨_ + 1, h⟩, _ => exact absurd h (Nat.not_lt.2 (Nat.le_add_left _ _))

theorem defs_eq : Cert.InProj.defs (F := F) = Cert.InProjIdeal.defs (F := F) := by
  unfold Cert.InProj.defs Cert.InProjIdeal.defs
  exact congrArg (Pipeline.defs Cert.InProjIdeal.pcfgs) defs₀_eq

theorem prog_eq : onTc (τ := Cert.InProj.τ) (Cert.InProj.main (F := F)) = onTc (τ := Cert.InProjIdeal.τ) (Cert.InProjIdeal.main (F := F)) :=
  congrArg (onTc (τ := Cert.InProjIdeal.τ)) (funext main_eq)

/-- The traced program's run: the arguments end as they were and every counter is zero. -/
theorem frame (m : (ℓ : Loc Cert.InProj.nD Cert.InProj.τ Cert.InProj.sig) → Buf (Elt F) ℓ) (ρ : Dev Cert.InProj.nD → PrngReg) :
    θ_run (Cert.InProj.defs (F := F)) (onTc (τ := Cert.InProj.τ) (Cert.InProj.main (F := F))) ⟨m, fun _ => 0, ρ⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0) := by
  rw [defs_eq, prog_eq]
  exact Cert.InProjIdeal.Rows.frame (F := F) m ρ

end Cert.InProjSame
-- ==== Proof.InProjValue.lean ====
/-
  The latents' input projection, element by element: the product array and the three cast weights.
-/
module

public import proofs.«01_k».proof.Proof.NormRow
public import proofs.«01_k».proof.Proof.InProjFrame
public import Idealize.ShloMosaic.Lib.Pipeline.ReadBack
public import Idealize.ShloMosaic.Lib.Pointwise

@[expose] public section

set_option maxRecDepth 16384

noncomputable section

namespace Cert.InProjIdeal.Rows

open Cert.InProjIdeal Cert.InProjIdeal.Gen Idealize.ShloMosaic Idealize.ShloMosaic.TcCoe Idealize.ShloMosaic.Tactic Idealize.SL.Sem
open Cert.Rows (rmsFactor normRow normRow_congr)

theorem rows_apply (X : Vec Ideal S256x2048 .f32) (g : Vec Ideal S1x2048 .f32) (sc sh : Vec Ideal S1x1x2048 .f32) (r : Fin 256) (k : Fin 2048) :
    k0_pay10 X g sc sh (ix2 r k) = normRow (fun d => X (ix2 r d)) (fun d => g (ix2 0 d)) (fun d => sh (ix3 0 0 d)) (fun d => sc (ix3 0 0 d)) k := by
  pointwise! [k0_pay10, normRow, rmsFactor]

theorem product_apply (u : Vec Ideal S1024x2048 .bf16) (w : Vec Ideal S2048x2048 .bf16) (r : Fin 1024) (d : Fin 2048) :
    k0_pay6 u w (ix2 r d) = ∑ k : Fin 2048, (u (ix2 r k) * w (ix2 k d) : EReal) := by
  pointwise! [k0_pay6]

theorem cast9_apply (x : Vec Ideal S16x2048 .f32) (r : Fin 16) (k : Fin 2048) : k0_pay11 x (ix2 r k) = x (ix2 r k) := by
  pointwise! [k0_pay11]
theorem cast10_apply (x : Vec Ideal S16x8192 .f32) (r : Fin 16) (k : Fin 8192) : k0_pay1 x (ix2 r k) = x (ix2 r k) := by
  pointwise! [k0_pay1]
theorem cast11_apply (x : Vec Ideal S64x2048 .f32) (r : Fin 64) (k : Fin 2048) : k0_pay2 x (ix2 r k) = x (ix2 r k) := by
  pointwise! [k0_pay2]

variable (m : (ℓ : Loc nD τ sig) → Buf (Elt Ideal) ℓ) (ρ : Dev nD → PrngReg) (c : Dev nD)

theorem idx_all : ∀ t : Fin cfg0.N,
    win0_0.index t = ![4 * min (t.val / 4) 31 + t.val % 4, 0] ∧ win0_1.index t = ![0, 0] ∧ win0_2.index t = ![min (t.val / 4) 31 / 2, 0, 0]
    ∧ win0_3.index t = ![min (t.val / 4) 31 / 2, 0, 0] ∧ win0_4.index t = ![0, t.val % 4] ∧ win0_5.index t = ![min t.val 127, 0]
    ∧ win0_6.index t = ![min t.val 127, 0] ∧ win0_7.index t = ![min t.val 127, 0] ∧ win0_9.index t = ![min t.val 127, 0]
    ∧ win0_10.index t = ![min t.val 127, 0] ∧ win0_11.index t = ![min t.val 127, 0] :=
  (by decide +kernel : ∀ t : Fin grid0.N, _)

/-- The product's block is written back from the second tile on, into the tile before. -/
theorem idx8 : ∀ t : Fin cfg0.N, 4 ≤ t.val → win0_8.index t = ![t.val / 4 - 1, t.val % 4] :=
  (by decide +kernel : ∀ t : Fin grid0.N, 4 ≤ t.val → win0_8.index t = ![t.val / 4 - 1, t.val % 4])
theorem flush8 : ∀ t : Fin cfg0.N, (cfg0.win 8).flush t = true → 4 ≤ t.val :=
  (by decide +kernel : ∀ t : Fin grid0.N, win0_8.flush t = true → 4 ≤ t.val)

theorem lt_N (t : Fin cfg0.N) : t.val < 132 := lt_of_lt_of_eq t.isLt (show cfg0.N = 132 from N_0)

theorem read_x (t : Fin cfg0.N) (ht : t.val < 128) (r : Fin 256) (d : Fin 2048) :
    iblk m c 0 t (ix2 r d) = m ((c : Thread nD τ).loc main_arg0) (ix3 ⟨t.val / 8, by omega⟩ ⟨256 * (t.val % 8) + r.val, by omega⟩ d) := by
  blk_ext! [iblk, V, idx_all t]

theorem read_g (t : Fin cfg0.N) (z : Fin 1) (d : Fin 2048) :
    iblk m c 1 t (ix2 z d) = m ((c : Thread nD τ).loc main_arg1) (ix2 0 d) := by
  blk_ext! [iblk, V, idx_all t]

theorem read_sh (t : Fin cfg0.N) (ht : t.val < 128) (z z' : Fin 1) (d : Fin 2048) :
    iblk m c 2 t (ix3 z z' d) = m ((c : Thread nD τ).loc main_arg2) (ix2 ⟨t.val / 8, by omega⟩ d) := by
  blk_ext! [iblk, V, idx_all t]

theorem read_sc (t : Fin cfg0.N) (ht : t.val < 128) (z z' : Fin 1) (d : Fin 2048) :
    iblk m c 3 t (ix3 z z' d) = m ((c : Thread nD τ).loc main_arg3) (ix2 ⟨t.val / 8, by omega⟩ d) := by
  blk_ext! [iblk, V, idx_all t]

theorem read_w (t : Fin cfg0.N) (k : Fin 2048) (j : Fin 2048) :
    iblk m c 4 t (ix2 k j) = m ((c : Thread nD τ).loc main_arg4) (ix3 0 k ⟨2048 * (t.val % 4) + j.val, by omega⟩) := by
  blk_ext! [iblk, V, idx_all t]

theorem read_5 (t : Fin cfg0.N) (r : Fin 16) (j : Fin 2048) :
    iblk m c 5 t (ix2 r j) = m ((c : Thread nD τ).loc main_arg5) (ix3 0 ⟨16 * min t.val 127 + r.val, by omega⟩ j) := by
  blk_ext! [iblk, V, idx_all t]
theorem read_6 (t : Fin cfg0.N) (r : Fin 16) (j : Fin 8192) :
    iblk m c 6 t (ix2 r j) = m ((c : Thread nD τ).loc main_arg6) (ix3 0 ⟨16 * min t.val 127 + r.val, by omega⟩ j) := by
  blk_ext! [iblk, V, idx_all t]
theorem read_7 (t : Fin cfg0.N) (r : Fin 64) (j : Fin 2048) :
    iblk m c 7 t (ix2 r j) = m ((c : Thread nD τ).loc main_arg7) (ix3 0 ⟨64 * min t.val 127 + r.val, by omega⟩ j) := by
  blk_ext! [iblk, V, idx_all t]

/-- A normed row of the latents: row `s` of batch element `b`. -/
def latRow (b : Fin 16) (s : Fin 2048) : Fin 2048 → EReal :=
  normRow (fun d => m ((c : Thread nD τ).loc main_arg0) (ix3 b s d)) (fun d => m ((c : Thread nD τ).loc main_arg1) (ix2 0 d))
    (fun d => m ((c : Thread nD τ).loc main_arg2) (ix2 b d)) (fun d => m ((c : Thread nD τ).loc main_arg3) (ix2 b d))

/-- The rows step `t` makes. -/
theorem rowsAt_apply (t : Fin cfg0.N) (ht : t.val < 128) (r : Fin 256) (k : Fin 2048) :
    rowsAt m c t (ix2 r k) = latRow m c ⟨t.val / 8, by omega⟩ ⟨256 * (t.val % 8) + r.val, by omega⟩ k := by
  unfold rowsAt latRow
  refine (rows_apply _ _ _ _ r k).trans (normRow_congr (fun d => ?_) (fun d => ?_) (fun d => ?_) (fun d => ?_) k)
  · exact read_x m c t ht r d
  · exact read_g m c t 0 d
  · exact read_sh m c t ht 0 0 d
  · exact read_sc m c t ht 0 0 d

/-- Tile `n`'s row `r` is row `1024 n + r` of the latents, counted through the batch. -/
theorem tile_apply (n : ℕ) (hn : n < 32) (r : Fin 1024) (k : Fin 2048) (b : Fin 16) (s : Fin 2048) (h : 1024 * n + r.val = 2048 * b.val + s.val) :
    tile m c n (ix2 r k) = latRow m c b s k := by
  have hp : (point (4 * n + r.val / 256)).val = 4 * n + r.val / 256 := Nat.mod_eq_of_lt (by omega)
  have hl : (point (4 * n + r.val / 256)).val < 128 := by omega
  unfold tile
  refine (rowsAt_apply m c (point (4 * n + r.val / 256)) hl ⟨r.val % 256, by omega⟩ k).trans ?_
  congr 1
  · apply Fin.ext; show (point (4 * n + r.val / 256)).val / 8 = b.val; omega
  · apply Fin.ext; show 256 * ((point (4 * n + r.val / 256)).val % 8) + r.val % 256 = s.val; omega

/-- The product array: row `i 0` is row `i 0 % 2048` of batch element `i 0 / 2048`. -/
def product (i : S32768x8192.Idx) : EReal :=
  have h0 : (i 0).val < 32768 := (i 0).isLt
  ∑ k : Fin 2048, latRow m c ⟨(i 0).val / 2048, by omega⟩ ⟨(i 0).val % 2048, by omega⟩ k * m ((c : Thread nD τ).loc main_arg4) (ix3 0 k (i 1))

/-- The three cast weights. -/
def weight9 (i : S2048x2048.Idx) : EReal := m ((c : Thread nD τ).loc main_arg5) (ix3 0 (i 0) (i 1))
def weight10 (i : S2048x8192.Idx) : EReal := m ((c : Thread nD τ).loc main_arg6) (ix3 0 (i 0) (i 1))
def weight11 (i : S8192x2048.Idx) : EReal := m ((c : Thread nD τ).loc main_arg7) (ix3 0 (i 0) (i 1))

theorem block_apply (t : Fin cfg0.N) (h4 : 4 ≤ t.val) (r : Fin 1024) (j : Fin 2048) (i : S32768x8192.Idx)
    (h0 : (i 0).val = 1024 * (t.val / 4 - 1) + r.val) (h1 : (i 1).val = 2048 * (t.val % 4) + j.val) :
    outAt m c t (ix2 r j) = product m c i := by
  have ht := lt_N t
  have hi : (i 0).val < 32768 := (i 0).isLt
  rw [show outAt m c t = _ from if_neg (by omega)]
  refine (product_apply _ _ r j).trans ?_
  unfold product
  refine Finset.sum_congr rfl fun k _ => congr (congrArg (fun a b : EReal => a * b) ?_) ?_
  · exact tile_apply m c (t.val / 4 - 1) (by omega) r k _ _ (by show _ = 2048 * ((i 0).val / 2048) + (i 0).val % 2048; omega)
  · exact (read_w m c t k j).trans (congrArg _ (congrArg (ix3 0 k) (Fin.ext h1.symm)))

theorem arr8 : (dats m 0 c).arrAt 8 cfg0.N = product m c := by
  refine (dats m 0 c).arrAt_eq_of_covers 8 _ (by decide +kernel) fun t hf y => ?_
  have h4 := flush8 t hf
  blk_simp
  rw [after0_8]
  refine (congrArg _ (eq_ix2 y)).trans (block_apply m c t h4 (y 0) (y 1) _ ?_ ?_) <;> blk_simp [idx8 t h4] <;> try omega

theorem arr9 : (dats m 0 c).arrAt 9 cfg0.N = weight9 m c := by
  refine (dats m 0 c).arrAt_eq_of_covers 9 _ (by decide +kernel) fun t hf y => ?_
  blk_simp
  rw [after0_9]
  refine (congrArg _ (eq_ix2 y)).trans ((cast9_apply _ (y 0) (y 1)).trans ((read_5 m c t (y 0) (y 1)).trans ?_))
  unfold weight9
  congr 2
  · apply Fin.ext; show 16 * min t.val 127 + (y 0).val = _; blk_simp [idx_all t] <;> omega
  · apply Fin.ext; show (y 1).val = _; blk_simp [idx_all t] <;> omega

theorem arr10 : (dats m 0 c).arrAt 10 cfg0.N = weight10 m c := by
  refine (dats m 0 c).arrAt_eq_of_covers 10 _ (by decide +kernel) fun t hf y => ?_
  blk_simp
  rw [after0_10]
  refine (congrArg _ (eq_ix2 y)).trans ((cast10_apply _ (y 0) (y 1)).trans ((read_6 m c t (y 0) (y 1)).trans ?_))
  unfold weight10
  congr 2
  · apply Fin.ext; show 16 * min t.val 127 + (y 0).val = _; blk_simp [idx_all t] <;> omega
  · apply Fin.ext; show (y 1).val = _; blk_simp [idx_all t] <;> omega

theorem arr11 : (dats m 0 c).arrAt 11 cfg0.N = weight11 m c := by
  refine (dats m 0 c).arrAt_eq_of_covers 11 _ (by decide +kernel) fun t hf y => ?_
  blk_simp
  rw [after0_11]
  refine (congrArg _ (eq_ix2 y)).trans ((cast11_apply _ (y 0) (y 1)).trans ((read_7 m c t (y 0) (y 1)).trans ?_))
  unfold weight11
  congr 2
  · apply Fin.ext; show 64 * min t.val 127 + (y 0).val = _; blk_simp [idx_all t] <;> omega
  · apply Fin.ext; show (y 1).val = _; blk_simp [idx_all t] <;> omega

/-- The run with its four results. -/
theorem run : θ_run defs (onTc (τ := τ) (main (F := Ideal))) ⟨m, fun _ => 0, ρ⟩ (fun r => ∀ c : Dev nD,
      r.2.mem ((c.tc : Thread nD τ).loc main_v10_0) = product m c
      ∧ r.2.mem ((c.tc : Thread nD τ).loc main_v10_1) = weight9 m c
      ∧ r.2.mem ((c.tc : Thread nD τ).loc main_v10_2) = weight10 m c
      ∧ r.2.mem ((c.tc : Thread nD τ).loc main_v10_3) = weight11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 8).trans (arr8 m c), ((h.1 c).1 9).trans (arr9 m c), ((h.1 c).1 10).trans (arr10 m c),
      ((h.1 c).1 11).trans (arr11 m c), h.2 c⟩)
    (θ_run_and (run_main m ρ) (frame_of m ρ (dats m) (A_eq m) (run_main m ρ)))

end Cert.InProjIdeal.Rows

end
-- ==== Proof.InProjRefRow.lean ====
/-
  The latents' input projection's reference, element by element, as the same functions of the argument arrays.
-/
module

public import proofs.«01_k».proof.Proof.InProjValue
public import proofs.«01_k».proof.Proof.Gen.InProjRefIdeal.Read

@[expose] public section

set_option maxRecDepth 16384

noncomputable section

namespace Cert.InProjRefIdeal.Rows

open Cert.InProjRefIdeal Cert.InProjRefIdeal.Gen Cert.InProjRefIdeal.Read Idealize.ShloMosaic Idealize.ShloMosaic.TcCoe
open Cert.InProjIdeal.Rows (product weight9 weight10 weight11)
open Cert.Rows (normRow rmsFactor)

section
variable (x0 : Vec Ideal S16x2048x2048 .f32) (x1 : Vec Ideal S1x2048 .f32) (x2 x3 : Vec Ideal S16x2048 .f32) (x4 : Vec Ideal S1x2048x8192 .f32)

theorem norm_apply (b : Fin 16) (s : Fin 2048) (k : Fin 2048) :
    val_main_v21 (F := Ideal) x0 x1 x2 x3 (ix3 b s k) =
      normRow (fun d => x0 (ix3 b s d)) (fun d => x1 (ix2 0 d)) (fun d => x2 (ix2 b d)) (fun d => x3 (ix2 b d)) k := by
  pointwise! [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, normRow, rmsFactor]

theorem product_apply (b : Fin 16) (s : Fin 2048) (j : Fin 8192) :
    val_main_v23 (F := Ideal) x0 x1 x2 x3 x4 (ix3 b s j) =
      ∑ k : Fin 2048, val_main_v21 (F := Ideal) x0 x1 x2 x3 (ix3 b s k) * x4 (ix3 0 k j) := by
  unfold val_main_v23 val_main_v22
  generalize val_main_v21 (F := Ideal) x0 x1 x2 x3 = u
  pointwise!

/-- The result's row is the row of its batch element. -/
theorem reshape_apply (i : S32768x8192.Idx) (b : Fin 16) (s : Fin 2048) (h : (i 0).val = 2048 * b.val + s.val) :
    val_main_v24 (F := Ideal) x0 x1 x2 x3 x4 i = val_main_v23 (F := Ideal) x0 x1 x2 x3 x4 (ix3 b s (i 1)) := by
  have h1 : (i 1).val < 8192 := (i 1).isLt
  rw [val_main_v24_apply]
  refine congrArg _ (funext fun a => Fin.ext ?_)
  match a with
  | ⟨0, _⟩ => show ((i 0).val * 8192 + (i 1).val) / 16777216 = b.val; omega
  | ⟨1, _⟩ => show ((i 0).val * 8192 + (i 1).val) / 8192 % 2048 = s.val; omega
  | ⟨2, _⟩ => show ((i 0).val * 8192 + (i 1).val) % 8192 = (i 1).val; omega
end

variable (m : (ℓ : Loc Cert.InProjIdeal.nD Cert.InProjIdeal.τ Cert.InProjIdeal.sig) → Buf (Elt Ideal) ℓ) (c : Dev Cert.InProjIdeal.nD)

/-- The two products are one function of the arguments, -/
theorem product_eq :
    val_main_v24 (F := Ideal) (m ((c.tc : Thread Cert.InProjIdeal.nD Cert.InProjIdeal.τ).loc Cert.InProjIdeal.main_arg0))
      (m ((c.tc : Thread Cert.InProjIdeal.nD Cert.InProjIdeal.τ).loc Cert.InProjIdeal.main_arg1))
      (m ((c.tc : Thread Cert.InProjIdeal.nD Cert.InProjIdeal.τ).loc Cert.InProjIdeal.main_arg2))
      (m ((c.tc : Thread Cert.InProjIdeal.nD Cert.InProjIdeal.τ).loc Cert.InProjIdeal.main_arg3))
      (m ((c.tc : Thread Cert.InProjIdeal.nD Cert.InProjIdeal.τ).loc Cert.InProjIdeal.main_arg4)) = product m c := by
  funext i
  have h0 : (i 0).val < 32768 := (i 0).isLt
  refine (reshape_apply _ _ _ _ _ i ⟨(i 0).val / 2048, by omega⟩ ⟨(i 0).val % 2048, by omega⟩
    (by show (i 0).val = 2048 * ((i 0).val / 2048) + (i 0).val % 2048; omega)).trans ?_
  refine (product_apply _ _ _ _ _ _ _ _).trans ?_
  simp only [norm_apply]
  rfl

/-- and so are the three cast weights. -/
theorem weight9_eq : val_main_v26 (F := Ideal) (m ((c.tc : Thread Cert.InProjIdeal.nD Cert.InProjIdeal.τ).loc Cert.InProjIdeal.main_arg5)) = weight9 m c := by
  funext i
  refine (congrArg _ (eq_ix2 i)).trans ?_
  unfold weight9
  generalize (m ((c.tc : Thread Cert.InProjIdeal.nD Cert.InProjIdeal.τ).loc Cert.InProjIdeal.main_arg5)) = w
  pointwise! [val_main_v26, val_main_v25]

theorem weight10_eq : val_main_v28 (F := Ideal) (m ((c.tc : Thread Cert.InProjIdeal.nD Cert.InProjIdeal.τ).loc Cert.InProjIdeal.main_arg6)) = weight10 m c := by
  funext i
  refine (congrArg _ (eq_ix2 i)).trans ?_
  unfold weight10
  generalize (m ((c.tc : Thread Cert.InProjIdeal.nD Cert.InProjIdeal.τ).loc Cert.InProjIdeal.main_arg6)) = w
  pointwise! [val_main_v28, val_main_v27]

theorem weight11_eq : val_main_v30 (F := Ideal) (m ((c.tc : Thread Cert.InProjIdeal.nD Cert.InProjIdeal.τ).loc Cert.InProjIdeal.main_arg7)) = weight11 m c := by
  funext i
  refine (congrArg _ (eq_ix2 i)).trans ?_
  unfold weight11
  generalize (m ((c.tc : Thread Cert.InProjIdeal.nD Cert.InProjIdeal.τ).loc Cert.InProjIdeal.main_arg7)) = w
  pointwise! [val_main_v30, val_main_v29]

end Cert.InProjRefIdeal.Rows

end
-- ==== Proof.WoutValue.lean ====
/-
  The output projection's result array, element by element, as a function of the argument arrays. Point `t` writes rows
  `512 t` to `512 t + 511`: the joined rows times the weights, scaled by the gate and added to the residual stream.
-/
module

public import proofs.«01_k».proof.Proof.Gen.WoutIdeal.Value
public import Idealize.ShloMosaic.Lib.Pipeline.ValueKit
public import Idealize.ShloMosaic.Lib.Pointwise
public import Idealize.ShloMosaic.Lib.Claim

@[expose] public section

set_option maxRecDepth 16384

noncomputable section

namespace Cert.WoutIdeal.Terms

open Cert.WoutIdeal Cert.WoutIdeal.Gen Idealize.ShloMosaic Idealize.ShloMosaic.TcCoe

/-- The three mixers' lanes side by side. -/
def joined (a b : Fin 512 → EReal) (y : Fin 1024 → EReal) (k : Fin 2048) : EReal :=
  if h : k.val < 512 then a ⟨k.val, h⟩ else if h' : k.val < 1024 then b ⟨k.val - 512, by omega⟩ else y ⟨k.val - 1024, by omega⟩

/-- One row of the output projection with its gate and residual. -/
def projRow (a b : Fin 512 → EReal) (y : Fin 1024 → EReal) (x g : Fin 2048 → EReal) (w : Fin 2048 → Fin 2048 → EReal) (d : Fin 2048) : EReal :=
  x d + g d * ∑ k, joined a b y k * w k d

theorem cat_apply (a b : Vec Ideal S512x512 .bf16) (y : Vec Ideal S512x1024 .bf16) (r : Fin 512) (k : Fin 2048) :
    concatenate S512x2048 1 [⟨S512x512, a⟩, ⟨S512x512, b⟩, ⟨S512x1024, y⟩] concatenates_S512x512_S512x512_S512x1024_S512x2048_d1 (ix2 r k) =
      joined (fun j => a (ix2 r j)) (fun j => b (ix2 r j)) (fun j => y (ix2 r j)) k := by
  unfold joined
  pointwise
  by_cases h : k.val < 512
  · rw [dif_pos h, dif_pos h]
  · rw [dif_neg h, dif_neg h]
    by_cases h' : k.val < 1024
    · rw [dif_pos h', dif_pos (by omega)]
    · rw [dif_neg h', dif_neg (by omega)]
      exact congrArg (fun q : Fin 1024 => y (ix2 r q)) (Fin.ext (by show k.val - 512 - 512 = k.val - 1024; omega))

theorem pay_apply (a b : Vec Ideal S512x512 .bf16) (y : Vec Ideal S512x1024 .bf16) (x : Vec Ideal S512x2048 .f32) (g : Vec Ideal S1x1x2048 .f32)
    (w : Vec Ideal S2048x2048 .bf16) (r : Fin 512) (d : Fin 2048) :
    k0_pay1 (F := Ideal) a b y x g w (ix2 r d) = projRow (fun j => a (ix2 r j)) (fun j => b (ix2 r j)) (fun j => y (ix2 r j)) (fun d => x (ix2 r d))
      (fun d => g (ix3 0 0 d)) (fun k d => w (ix2 k d)) d := by
  unfold projRow
  simp only [← cat_apply]
  pointwise! [k0_pay1]

variable (m : (ℓ : Loc nD τ sig) → Buf (Elt Ideal) ℓ) (c : Dev nD)

theorem idx_all : ∀ t : Fin cfg0.N,
    win0_0.index t = ![t.val, 0] ∧ win0_1.index t = ![t.val, 0] ∧ win0_2.index t = ![t.val, 0] ∧ win0_3.index t = ![t.val, 0]
    ∧ win0_4.index t = ![t.val / 4, 0, 0] ∧ win0_5.index t = ![0, 0] ∧ win0_6.index t = ![t.val, 0] :=
  (by decide +kernel : ∀ t : Fin grid0.N, _)

theorem lt_N (t : Fin cfg0.N) : t.val < 64 := lt_of_lt_of_eq t.isLt (show cfg0.N = 64 from N_0)

theorem read_a (t : Fin cfg0.N) (r : Fin 512) (j : Fin 512) :
    iblk m c 0 t (ix2 r j) = m ((c : Thread nD τ).loc main_arg0)
      (ix3 ⟨t.val / 4, by have := lt_N t; omega⟩ ⟨512 * (t.val % 4) + r.val, by omega⟩ j) := by
  have := lt_N t
  blk_ext! [iblk, V, idx_all t]

theorem read_b (t : Fin cfg0.N) (r : Fin 512) (j : Fin 512) :
    iblk m c 1 t (ix2 r j) = m ((c : Thread nD τ).loc main_arg1)
      (ix3 ⟨t.val / 4, by have := lt_N t; omega⟩ ⟨512 * (t.val % 4) + r.val, by omega⟩ j) := by
  have := lt_N t
  blk_ext! [iblk, V, idx_all t]

theorem read_y (t : Fin cfg0.N) (r : Fin 512) (j : Fin 1024) :
    iblk m c 2 t (ix2 r j) = m ((c : Thread nD τ).loc main_arg2)
      (ix3 ⟨t.val / 4, by have := lt_N t; omega⟩ ⟨512 * (t.val % 4) + r.val, by omega⟩ j) := by
  have := lt_N t
  blk_ext! [iblk, V, idx_all t]

theorem read_x (t : Fin cfg0.N) (r : Fin 512) (j : Fin 2048) :
    iblk m c 3 t (ix2 r j) = m ((c : Thread nD τ).loc main_arg3)
      (ix3 ⟨t.val / 4, by have := lt_N t; omega⟩ ⟨512 * (t.val % 4) + r.val, by omega⟩ j) := by
  have := lt_N t
  blk_ext! [iblk, V, idx_all t]

theorem read_g (t : Fin cfg0.N) (z z' : Fin 1) (d : Fin 2048) :
    iblk m c 4 t (ix3 z z' d) = m ((c : Thread nD τ).loc main_arg4) (ix2 ⟨t.val / 4, by have := lt_N t; omega⟩ d) := by
  have := lt_N t
  blk_ext! [iblk, V, idx_all t]

theorem read_w (t : Fin cfg0.N) (k d : Fin 2048) :
    iblk m c 5 t (ix2 k d) = m ((c : Thread nD τ).loc main_arg5) (ix3 0 k d) := by
  blk_ext! [iblk, V, idx_all t]

/-- The result array: row `i 0` is row `i 0 % 2048` of batch element `i 0 / 2048`. -/
def result (i : S32768x2048.Idx) : EReal :=
  have h0 : (i 0).val < 32768 := (i 0).isLt
  let b : Fin 16 := ⟨(i 0).val / 2048, by omega⟩
  let s : Fin 2048 := ⟨(i 0).val % 2048, by omega⟩
  projRow (fun j => m ((c : Thread nD τ).loc main_arg0) (ix3 b s j)) (fun j => m ((c : Thread nD τ).loc main_arg1) (ix3 b s j))
    (fun j => m ((c : Thread nD τ).loc main_arg2) (ix3 b s j)) (fun d => m ((c : Thread nD τ).loc main_arg3) (ix3 b s d))
    (fun d => m ((c : Thread nD τ).loc main_arg4) (ix2 b d)) (fun k d => m ((c : Thread nD τ).loc main_arg5) (ix3 0 k d)) (i 1)

/-- The block's value with its pieces read back. -/
theorem out_eq (x0 x1 : Vec Ideal S512x512 .bf16) (x2 : Vec Ideal S512x1024 .bf16) (x3 : Vec Ideal S512x2048 .f32) (x4 : Vec Ideal S1x1x2048 .f32)
    (x5 : Vec Ideal S2048x2048 .bf16) : out0_6 (F := Ideal) x0 x1 x2 x3 x4 x5 = k0_pay1 (F := Ideal) x0 x1 x2 x3 x4 x5 := by
  unfold out0_6
  frame_out

theorem projRow_congr {a a' b b' : Fin 512 → EReal} {y y' : Fin 1024 → EReal} {x x' g g' : Fin 2048 → EReal} {w w' : Fin 2048 → Fin 2048 → EReal}
    (ha : ∀ j, a j = a' j) (hb : ∀ j, b j = b' j) (hy : ∀ j, y j = y' j) (hx : ∀ d, x d = x' d) (hg : ∀ d, g d = g' d)
    (hw : ∀ k d, w k d = w' k d) (d : Fin 2048) : projRow a b y x g w d = projRow a' b' y' x' g' w' d := by
  rw [funext ha, funext hb, funext hy, funext hx, funext hg, funext fun k => funext (hw k)]

/-- Point `t`'s block at its row `r` is the result's row `512 t + r`. -/
theorem block_apply (t : Fin cfg0.N) (r : Fin 512) (d : Fin 2048) (i : S32768x2048.Idx) (h0 : (i 0).val = 512 * t.val + r.val) (h1 : (i 1).val = d.val) :
    k0_pay1 (F := Ideal) (iblk m c 0 t) (iblk m c 1 t) (iblk m c 2 t) (iblk m c 3 t) (iblk m c 4 t) (iblk m c 5 t) (ix2 r d) = result m c i := by
  have := lt_N t
  have h2 : (i 0).val < 32768 := (i 0).isLt
  have eb : (⟨t.val / 4, by omega⟩ : Fin 16) = ⟨(i 0).val / 2048, by omega⟩ := Fin.ext (by show t.val / 4 = (i 0).val / 2048; omega)
  have es : (⟨512 * (t.val % 4) + r.val, by omega⟩ : Fin 2048) = ⟨(i 0).val % 2048, by omega⟩ :=
    Fin.ext (by show 512 * (t.val % 4) + r.val = (i 0).val % 2048; omega)
  have ed : d = i 1 := Fin.ext h1.symm
  refine (pay_apply _ _ _ _ _ _ r d).trans ?_
  rw [ed]
  unfold result
  refine projRow_congr (fun j => ?_) (fun j => ?_) (fun j => ?_) (fun j => ?_) (fun j => ?_) (fun k j => ?_) (i 1)
  · exact (read_a m c t r j).trans (by rw [eb, es])
  · exact (read_b m c t r j).trans (by rw [eb, es])
  · exact (read_y m c t r j).trans (by rw [eb, es])
  · exact (read_x m c t r j).trans (by rw [eb, es])
  · exact (read_g m c t 0 0 j).trans (by rw [eb])
  · exact read_w m c t k j

theorem arr_eq : (dats m 0 c).arrAt 6 cfg0.N = result m c := by
  refine (dats m 0 c).arrAt_eq_of_covers 6 _ (by decide +kernel) fun t hf y => ?_
  blk_simp
  rw [after0_6, out_eq]
  refine (congrArg _ (eq_ix2 y)).trans (block_apply m c t (y 0) (y 1) _ ?_ ?_) <;> blk_simp [idx_all t] <;> try omega

end Cert.WoutIdeal.Terms

end
-- ==== Proof.WoutRefRow.lean ====
/-
  The output projection's reference, element by element, as the same function of the argument arrays.
-/
module

public import proofs.«01_k».proof.Proof.WoutValue
public import proofs.«01_k».proof.Proof.Gen.WoutRefIdeal.Read

@[expose] public section

set_option maxRecDepth 16384

noncomputable section

namespace Cert.WoutRefIdeal.Rows

open Cert.WoutRefIdeal Cert.WoutRefIdeal.Gen Cert.WoutRefIdeal.Read Idealize.ShloMosaic Idealize.ShloMosaic.TcCoe
open Cert.WoutIdeal.Terms (joined projRow result)

variable (x0 x1 : Vec Ideal S16x2048x512 .bf16) (x2 : Vec Ideal S16x2048x1024 .bf16) (x3 : Vec Ideal S16x2048x2048 .f32)
  (x4 : Vec Ideal S16x2048 .f32) (x5 : Vec Ideal S1x2048x2048 .f32)

theorem mix_apply (b : Fin 16) (s : Fin 2048) (k : Fin 2048) :
    val_main_v2 (F := Ideal) x0 x1 x2 (ix3 b s k) = joined (fun j => x0 (ix3 b s j)) (fun j => x1 (ix3 b s j)) (fun j => x2 (ix3 b s j)) k := by
  unfold val_main_v2 val_main_v1 val_main_v0 joined
  pointwise
  by_cases h : k.val < 512
  · rw [dif_pos h, dif_pos (by omega), dif_pos h]
  · by_cases h' : k.val < 1024
    · rw [dif_neg h, dif_pos h', dif_pos h', dif_neg h]
    · rw [dif_neg h, dif_neg h', dif_neg h']

theorem row_apply (b : Fin 16) (s : Fin 2048) (d : Fin 2048) :
    val_main_v8 (F := Ideal) x0 x1 x2 x3 x4 x5 (ix3 b s d) = projRow (fun j => x0 (ix3 b s j)) (fun j => x1 (ix3 b s j)) (fun j => x2 (ix3 b s j))
      (fun d => x3 (ix3 b s d)) (fun d => x4 (ix2 b d)) (fun k d => x5 (ix3 0 k d)) d := by
  unfold projRow
  simp only [← mix_apply]
  unfold val_main_v8 val_main_v7 val_main_v6 val_main_v5 val_main_v4 val_main_v3
  generalize val_main_v2 (F := Ideal) x0 x1 x2 = u
  pointwise!

/-- The two results are one function of the arguments. -/
theorem result_eq (m : (ℓ : Loc Cert.WoutIdeal.nD Cert.WoutIdeal.τ Cert.WoutIdeal.sig) → Buf (Elt Ideal) ℓ) (c : Dev Cert.WoutIdeal.nD) :
    val_main_v9 (F := Ideal) (m ((c.tc : Thread Cert.WoutIdeal.nD Cert.WoutIdeal.τ).loc Cert.WoutIdeal.main_arg0))
      (m ((c.tc : Thread Cert.WoutIdeal.nD Cert.WoutIdeal.τ).loc Cert.WoutIdeal.main_arg1))
      (m ((c.tc : Thread Cert.WoutIdeal.nD Cert.WoutIdeal.τ).loc Cert.WoutIdeal.main_arg2))
      (m ((c.tc : Thread Cert.WoutIdeal.nD Cert.WoutIdeal.τ).loc Cert.WoutIdeal.main_arg3))
      (m ((c.tc : Thread Cert.WoutIdeal.nD Cert.WoutIdeal.τ).loc Cert.WoutIdeal.main_arg4))
      (m ((c.tc : Thread Cert.WoutIdeal.nD Cert.WoutIdeal.τ).loc Cert.WoutIdeal.main_arg5)) = result m c := by
  funext i
  have h0 : (i 0).val < 32768 := (i 0).isLt
  have h1 : (i 1).val < 2048 := (i 1).isLt
  rw [val_main_v9_apply]
  have e : idx_main_v9 i = ix3 (⟨(i 0).val / 2048, by omega⟩ : Fin 16) (⟨(i 0).val % 2048, by omega⟩ : Fin 2048) (i 1) := by
    funext a; apply Fin.ext
    match a with
    | ⟨0, _⟩ => show ((i 0).val * 2048 + (i 1).val) / 4194304 = (i 0).val / 2048; omega
    | ⟨1, _⟩ => show ((i 0).val * 2048 + (i 1).val) / 2048 % 2048 = (i 0).val % 2048; omega
    | ⟨2, _⟩ => show ((i 0).val * 2048 + (i 1).val) % 2048 = (i 1).val; omega
  rw [e]
  exact row_apply _ _ _ _ _ _ _ _ _

end Cert.WoutRefIdeal.Rows

end
-- ==== Proof.InCtxValue.lean ====
/-
  The context's input projection: what a grid point leaves in the carried scratch (the normalised, modulated rows) and in
  the output block, and the result array element by element. Point `t` works on row block `t / 3` (1024 rows) and on
  column block `t % 3` (1024 columns); the rows are normed at the first of the three points and held for the others.
-/
module

public import proofs.«01_k».proof.Proof.NormRow
public import proofs.«01_k».proof.Proof.Gen.InCtxIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.InCtxIdeal.Terms

open Cert.InCtxIdeal Cert.InCtxIdeal.Gen Idealize.ShloMosaic Idealize.ShloMosaic.TcCoe Idealize.ShloMosaic.Tactic
open Cert.Rows (rmsFactor normRow normRow_congr)

theorem pay1_apply (X : Vec Ideal S1024x2048 .f32) (g : Vec Ideal S1x2048 .f32) (sc sh : Vec Ideal S1x1x2048 .f32) (r : Fin 1024) (k : Fin 2048) :
    k0_pay1 X g sc sh (ix2 r k) = normRow (fun d => X (ix2 r d)) (fun d => g (ix2 0 d)) (fun d => sh (ix3 0 0 d)) (fun d => sc (ix3 0 0 d)) k := by
  pointwise! [k0_pay1, normRow, rmsFactor]

theorem pay2_apply (u : Vec Ideal S1024x2048 .bf16) (w : Vec Ideal S2048x1024 .bf16) (r : Fin 1024) (d : Fin 1024) :
    k0_pay2 u w (ix2 r d) = ∑ k : Fin 2048, (u (ix2 r k) * w (ix2 k d) : EReal) := by
  pointwise! [k0_pay2]

/-- The first point of a row block leaves the normalised rows in the scratch … -/
theorem u_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x2048 .bf16) (harg8 : arg8.IsWhole) (hc0 : cond0_0 i) (x0 : Vec Ideal S1024x2048 .f32) (x1 : Vec Ideal S1x2048 .f32) (x2 : Vec Ideal S1x1x2048 .f32) (x3 : Vec Ideal S1x1x2048 .f32) (x4 : Vec Ideal S2048x1024 .bf16) :
    sout0_A_0 c i arg2 harg2 arg3 harg3 arg4 harg4 arg5 harg5 arg6 harg6 arg7 harg7 arg8 harg8 hc0 x0 x1 x2 x3 x4 = k0_pay1 x0 x1 x3 x2 := by
  unfold sout0_A_0
  frame_out

/-- … and their product with the first column block in the output. -/
theorem out_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x2048 .bf16) (harg8 : arg8.IsWhole) (hc0 : cond0_0 i) (x0 : Vec Ideal S1024x2048 .f32) (x1 : Vec Ideal S1x2048 .f32) (x2 : Vec Ideal S1x1x2048 .f32) (x3 : Vec Ideal S1x1x2048 .f32) (x4 : Vec Ideal S2048x1024 .bf16) :
    out0_A_5 c i arg2 harg2 arg3 harg3 arg4 harg4 arg5 harg5 arg6 harg6 arg7 harg7 arg8 harg8 hc0 x0 x1 x2 x3 x4 = k0_pay2 (k0_pay1 x0 x1 x3 x2) x4 := by
  unfold out0_A_5
  frame_out
  try rw [View.readCov_cons_toLoadRect]

/-- A later point multiplies the held rows. -/
theorem out_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x2048 .bf16) (harg8 : arg8.IsWhole) (hc0 : ¬cond0_0 i) (x0 : Vec Ideal S1024x2048 .f32) (x1 : Vec Ideal S1x2048 .f32) (x2 : Vec Ideal S1x1x2048 .f32) (x3 : Vec Ideal S1x1x2048 .f32) (x4 : Vec Ideal S2048x1024 .bf16) (xs0 : Vec Ideal S1024x2048 .bf16) :
    out0_B_5 c i arg2 harg2 arg3 harg3 arg4 harg4 arg5 harg5 arg6 harg6 arg7 harg7 arg8 harg8 hc0 x0 x1 x2 x3 x4 xs0 = k0_pay2 xs0 x4 := by
  unfold out0_B_5
  frame_out

variable (m : (ℓ : Loc nD τ sig) → Buf (Elt Ideal) ℓ) (c : Dev nD)

theorem idx_all : ∀ t : Fin cfg0.N,
    win0_0.index t = ![t.val / 3, 0] ∧ win0_1.index t = ![0, 0] ∧ win0_2.index t = ![0, 0, 0] ∧ win0_3.index t = ![0, 0, 0]
    ∧ win0_4.index t = ![0, t.val % 3] ∧ win0_5.index t = ![t.val / 3, t.val % 3] :=
  (by decide +kernel : ∀ t : Fin grid0.N, _)

theorem lt_N (t : Fin cfg0.N) : t.val < 12 := lt_of_lt_of_eq t.isLt (show cfg0.N = 12 from N_0)

theorem read_x (t : Fin cfg0.N) (r : Fin 1024) (d : Fin 2048) :
    iblk m c 0 t (ix2 r d) = m ((c : Thread nD τ).loc main_arg0)
      (ix3 ⟨4 * (t.val / 3) + r.val / 256, by have := lt_N t; omega⟩ ⟨r.val % 256, by omega⟩ d) := by
  have := lt_N t
  blk_ext! [iblk, V, idx_all t]

theorem read_g (t : Fin cfg0.N) (z : Fin 1) (d : Fin 2048) :
    iblk m c 1 t (ix2 z d) = m ((c : Thread nD τ).loc main_arg1) (ix2 0 d) := by
  blk_ext! [iblk, V, idx_all t]

theorem read_sh (t : Fin cfg0.N) (z z' : Fin 1) (d : Fin 2048) :
    iblk m c 2 t (ix3 z z' d) = m ((c : Thread nD τ).loc main_arg2) (ix2 0 d) := by
  blk_ext! [iblk, V, idx_all t]

theorem read_sc (t : Fin cfg0.N) (z z' : Fin 1) (d : Fin 2048) :
    iblk m c 3 t (ix3 z z' d) = m ((c : Thread nD τ).loc main_arg3) (ix2 0 d) := by
  blk_ext! [iblk, V, idx_all t]

theorem read_w (t : Fin cfg0.N) (k : Fin 2048) (j : Fin 1024) :
    iblk m c 4 t (ix2 k j) = m ((c : Thread nD τ).loc main_arg4) (ix3 0 k ⟨1024 + (1024 * (t.val % 3) + j.val), by omega⟩) := by
  blk_ext! [iblk, V, idx_all t]

/-- The normalised rows of the row block point `t` works on. -/
def uBlock (t : Fin cfg0.N) : Vec Ideal S1024x2048 .bf16 :=
  k0_pay1 (F := Ideal) (iblk m c 0 t) (iblk m c 1 t) (iblk m c 3 t) (iblk m c 2 t)

/-- They are the argument's rows normed. -/
theorem uBlock_apply (t : Fin cfg0.N) (r : Fin 1024) (b : Fin 16) (s : Fin 256) (h : 1024 * (t.val / 3) + r.val = 256 * b.val + s.val) (k : Fin 2048) :
    uBlock m c t (ix2 r k) = normRow (fun d => m ((c : Thread nD τ).loc main_arg0) (ix3 b s d)) (fun d => m ((c : Thread nD τ).loc main_arg1) (ix2 0 d))
      (fun d => m ((c : Thread nD τ).loc main_arg2) (ix2 0 d)) (fun d => m ((c : Thread nD τ).loc main_arg3) (ix2 0 d)) k := by
  have := lt_N t
  have eb : (⟨4 * (t.val / 3) + r.val / 256, by omega⟩ : Fin 16) = b := Fin.ext (by show 4 * (t.val / 3) + r.val / 256 = b.val; omega)
  have es : (⟨r.val % 256, by omega⟩ : Fin 256) = s := Fin.ext (by show r.val % 256 = s.val; omega)
  unfold uBlock
  refine (pay1_apply _ _ _ _ r k).trans ?_
  refine normRow_congr (fun d => ?_) (fun d => ?_) (fun d => ?_) (fun d => ?_) k
  · exact (read_x m c t r d).trans (by rw [eb, es])
  · exact read_g m c t 0 d
  · exact read_sh m c t 0 0 d
  · exact read_sc m c t 0 0 d

theorem uBlock_row_congr (t t' : Fin cfg0.N) (h : t.val / 3 = t'.val / 3) (r : Fin 1024) (k : Fin 2048) : uBlock m c t (ix2 r k) = uBlock m c t' (ix2 r k) := by
  have := lt_N t
  exact (uBlock_apply m c t r ⟨(1024 * (t.val / 3) + r.val) / 256, by omega⟩ ⟨(1024 * (t.val / 3) + r.val) % 256, by omega⟩
      (by show 1024 * (t.val / 3) + r.val = 256 * ((1024 * (t.val / 3) + r.val) / 256) + (1024 * (t.val / 3) + r.val) % 256; omega) k).trans
    (uBlock_apply m c t' r ⟨(1024 * (t.val / 3) + r.val) / 256, by omega⟩ ⟨(1024 * (t.val / 3) + r.val) % 256, by omega⟩
      (by show 1024 * (t'.val / 3) + r.val = 256 * ((1024 * (t.val / 3) + r.val) / 256) + (1024 * (t.val / 3) + r.val) % 256; omega) k).symm

/-- They depend on the row block alone. -/
theorem uBlock_congr (t t' : Fin cfg0.N) (h : t.val / 3 = t'.val / 3) : uBlock m c t = uBlock m c t' :=
  funext fun y => (congrArg _ (eq_ix2 y)).trans ((uBlock_row_congr m c t t' h (y 0) (y 1)).trans (congrArg _ (eq_ix2 y)).symm)

/-- The scratch holds the row block's normalised rows at every point. -/
theorem u_held (t : Fin cfg0.N) : (outsAt0 m c t.val t.isLt).2 = uBlock m c t := by
  have := lt_N t
  refine (Pipeline.eq_of_write_hold (fun n h => (outsAt0 m c n h).2) 3 (uBlock m c) (fun t h0 => ?_) (fun t h0 => ?_) t).trans
    (uBlock_congr m c _ _ (by show 3 * (t.val / 3) / 3 = _; omega))
  · rw [outsAt0_A m c t h0]
    dsimp only
    rw [u_A]; unfold uBlock; rfl
  · rw [outsAt0_B m c t h0]; dsimp only; unfold sout0_B_0; rfl

/-- What every point writes. -/
theorem out_point (t : Fin cfg0.N) : (outsAt0 m c t.val t.isLt).1 = k0_pay2 (F := Ideal) (uBlock m c t) (iblk m c 4 t) := by
  by_cases h0 : t.val % 3 = 0
  · rw [outsAt0_A m c t h0]
    dsimp only
    rw [out_A]; unfold uBlock; rfl
  · rw [outsAt0_B m c t h0]
    dsimp only
    rw [out_B, show (outsAt0 m c (t.val - 1) (Nat.lt_of_le_of_lt (Nat.sub_le _ _) t.isLt)).2 = uBlock m c t from
      (u_held m c ⟨t.val - 1, Nat.lt_of_le_of_lt (Nat.sub_le _ _) t.isLt⟩).trans (uBlock_congr m c _ _ (by show (t.val - 1) / 3 = _; omega))]

/-- The result array: row `i 0` is row `i 0 % 256` of batch element `i 0 / 256`, and column `i 1` is the weights' column `1024 + i 1`. -/
def result (i : S4096x3072.Idx) : EReal :=
  have h0 : (i 0).val < 4096 := (i 0).isLt
  have h1 : (i 1).val < 3072 := (i 1).isLt
  let b : Fin 16 := ⟨(i 0).val / 256, by omega⟩
  let s : Fin 256 := ⟨(i 0).val % 256, by omega⟩
  ∑ k : Fin 2048, normRow (fun d => m ((c : Thread nD τ).loc main_arg0) (ix3 b s d)) (fun d => m ((c : Thread nD τ).loc main_arg1) (ix2 0 d))
      (fun d => m ((c : Thread nD τ).loc main_arg2) (ix2 0 d)) (fun d => m ((c : Thread nD τ).loc main_arg3) (ix2 0 d)) k
    * m ((c : Thread nD τ).loc main_arg4) (ix3 0 k ⟨1024 + (i 1).val, by omega⟩)

/-- Point `t`'s block at its row `r` and column `j` is the result's row `1024 (t / 3) + r` and column `1024 (t % 3) + j`. -/
theorem block_apply (t : Fin cfg0.N) (r : Fin 1024) (j : Fin 1024) (i : S4096x3072.Idx) (h0 : (i 0).val = 1024 * (t.val / 3) + r.val)
    (h1 : (i 1).val = 1024 * (t.val % 3) + j.val) : (outsAt0 m c t.val t.isLt).1 (ix2 r j) = result m c i := by
  have := lt_N t
  have h2 : (i 0).val < 4096 := (i 0).isLt
  rw [out_point]
  refine (pay2_apply _ _ r j).trans ?_
  unfold result
  refine Finset.sum_congr rfl fun k _ => congr (congrArg (fun a b : EReal => a * b) ?_) ?_
  · exact uBlock_apply m c t r ⟨(i 0).val / 256, by omega⟩ ⟨(i 0).val % 256, by omega⟩
      (by show 1024 * (t.val / 3) + r.val = 256 * ((i 0).val / 256) + (i 0).val % 256; omega) k
  · exact (read_w m c t k j).trans (by simp only [h1])

theorem arr_eq : (dats m 0 c).arrAt 5 cfg0.N = result m c := by
  refine (dats m 0 c).arrAt_eq_of_covers 5 _ (by decide +kernel) fun t hf y => ?_
  blk_simp
  rw [after0_5]
  refine (congrArg _ (eq_ix2 y)).trans (block_apply m c t (y 0) (y 1) _ ?_ ?_) <;> blk_simp [idx_all t] <;> try omega

end Cert.InCtxIdeal.Terms

end
-- ==== Proof.InCtxRefRow.lean ====
/-
  The context projection's reference, element by element, as the same function of the argument arrays.
-/
module

public import proofs.«01_k».proof.Proof.InCtxValue
public import proofs.«01_k».proof.Proof.Gen.InCtxRefIdeal.Read

@[expose] public section

set_option maxRecDepth 16384

noncomputable section

namespace Cert.InCtxRefIdeal.Rows

open Cert.InCtxRefIdeal Cert.InCtxRefIdeal.Gen Cert.InCtxRefIdeal.Read Idealize.ShloMosaic Idealize.ShloMosaic.TcCoe
open Cert.InCtxIdeal.Terms (result)
open Cert.Rows (normRow rmsFactor)

variable (x0 : Vec Ideal S16x256x2048 .f32) (x1 x2 x3 : Vec Ideal S1x2048 .f32) (x4 : Vec Ideal S1x2048x8192 .f32)

theorem norm_apply (b : Fin 16) (s : Fin 256) (k : Fin 2048) :
    val_main_v23 (F := Ideal) x0 x1 x2 x3 (ix3 b s k) =
      normRow (fun d => x0 (ix3 b s d)) (fun d => x1 (ix2 0 d)) (fun d => x2 (ix2 0 d)) (fun d => x3 (ix2 0 d)) k := by
  pointwise! [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, normRow, rmsFactor]

theorem product_apply (b : Fin 16) (s : Fin 256) (j : Fin 3072) :
    val_main_v26 (F := Ideal) x0 x1 x2 x3 x4 (ix3 b s j) =
      ∑ k : Fin 2048, val_main_v23 (F := Ideal) x0 x1 x2 x3 (ix3 b s k) * x4 (ix3 0 k ⟨1024 + j.val, by omega⟩) := by
  unfold val_main_v26 val_main_v25 val_main_v24
  generalize val_main_v23 (F := Ideal) x0 x1 x2 x3 = u
  pointwise!

/-- The result's row and column are the row of its batch element and the column of the weights. -/
theorem reshape_apply (i : S4096x3072.Idx) (b : Fin 16) (s : Fin 256) (h : (i 0).val = 256 * b.val + s.val) :
    val_main_v27 (F := Ideal) x0 x1 x2 x3 x4 i = val_main_v26 (F := Ideal) x0 x1 x2 x3 x4 (ix3 b s (i 1)) := by
  have h1 : (i 1).val < 3072 := (i 1).isLt
  rw [val_main_v27_apply]
  refine congrArg _ (funext fun a => Fin.ext ?_)
  match a with
  | ⟨0, _⟩ => show ((i 0).val * 3072 + (i 1).val) / 786432 = b.val; omega
  | ⟨1, _⟩ => show ((i 0).val * 3072 + (i 1).val) / 3072 % 256 = s.val; omega
  | ⟨2, _⟩ => show ((i 0).val * 3072 + (i 1).val) % 3072 = (i 1).val; omega

/-- The two results are one function of the arguments. -/
theorem result_eq (m : (ℓ : Loc Cert.InCtxIdeal.nD Cert.InCtxIdeal.τ Cert.InCtxIdeal.sig) → Buf (Elt Ideal) ℓ) (c : Dev Cert.InCtxIdeal.nD) :
    val_main_v27 (F := Ideal) (m ((c.tc : Thread Cert.InCtxIdeal.nD Cert.InCtxIdeal.τ).loc Cert.InCtxIdeal.main_arg0))
      (m ((c.tc : Thread Cert.InCtxIdeal.nD Cert.InCtxIdeal.τ).loc Cert.InCtxIdeal.main_arg1))
      (m ((c.tc : Thread Cert.InCtxIdeal.nD Cert.InCtxIdeal.τ).loc Cert.InCtxIdeal.main_arg2))
      (m ((c.tc : Thread Cert.InCtxIdeal.nD Cert.InCtxIdeal.τ).loc Cert.InCtxIdeal.main_arg3))
      (m ((c.tc : Thread Cert.InCtxIdeal.nD Cert.InCtxIdeal.τ).loc Cert.InCtxIdeal.main_arg4)) = result m c := by
  funext i
  have h0 : (i 0).val < 4096 := (i 0).isLt
  refine (reshape_apply _ _ _ _ _ i ⟨(i 0).val / 256, by omega⟩ ⟨(i 0).val % 256, by omega⟩
    (by show (i 0).val = 256 * ((i 0).val / 256) + (i 0).val % 256; omega)).trans ?_
  refine (product_apply _ _ _ _ _ _ _ _).trans ?_
  simp only [norm_apply]
  rfl

end Cert.InCtxRefIdeal.Rows

end
-- ==== Proof.AdaFinite.lean ====
/-
  What a finite factor gives: the products of split factors add up to the plain product, because the low part of a finite
  entry is zero.
-/
module

public import Idealize.ShloMosaic.PureOps.Ideal
public import Idealize.ShloMosaic.Lib.Pointwise

@[expose] public section

noncomputable section

namespace Cert.Finite

open Idealize.ShloMosaic

/-- An entry that is neither infinity. -/
def Finite (x : EReal) : Prop := x ≠ ⊤ ∧ x ≠ ⊥

theorem sub_self_of {x : EReal} (h : Finite x) : x - x = 0 := by
  lift x to ℝ using h
  norm_cast
  exact sub_self x

/-- The gated entry of a row: the entry times its logistic. -/
def gate (x : EReal) : EReal := x * Ideal.logistic x

theorem gate_of {x : EReal} (h : Finite x) : Finite (gate x) := by
  lift x to ℝ using h
  unfold gate
  rw [Ideal.logistic_coe, ← EReal.coe_mul]
  exact ⟨EReal.coe_ne_top _, EReal.coe_ne_bot _⟩

theorem gate_zero : gate 0 = 0 := by simp [gate]

/-- The products of split factors are the plain product. -/
theorem split_sum {n : Nat} (s w : Fin n → EReal) (hs : ∀ k, Finite (s k)) (hw : ∀ k, Finite (w k)) :
    ∑ k, s k * w k + ∑ k, s k * (w k - w k) + ∑ k, (s k - s k) * w k = ∑ k, s k * w k := by
  simp only [sub_self_of (hs _), sub_self_of (hw _), mul_zero, zero_mul, Finset.sum_const_zero, add_zero]

/-- At most the largest 32-bit float in size is finite. -/
theorem of_le {x : EReal} (h : max x (-x) ≤ Ideal.ofBits .f32 0x7F7FFFFF#32) : Finite x := by
  have e : ∃ r : ℝ, Ideal.ofBits .f32 0x7F7FFFFF#32 = (r : EReal) := ⟨_, by simp [Ideal.ofBits, Ideal.ieee, -EReal.coe_mul]; rfl⟩
  obtain ⟨r, e⟩ := e
  rw [e] at h
  constructor
  · rintro rfl
    exact absurd (le_trans (le_max_left _ _) h) (by simp)
  · rintro rfl
    exact absurd (le_trans (le_max_right _ _) h) (by simp)

theorem of_cmp {x : Ideal .f32} (h : FloatOps.cmpf .ole (FloatOps.absf x) (Ideal.ofBits .f32 0x7F7FFFFF#32) = 1#1) : Finite x := by
  refine of_le ?_
  have h' : Ideal.cmp .ole (max (x : EReal) (-x)) (Ideal.ofBits .f32 0x7F7FFFFF#32) = 1#1 := h
  by_contra hn
  simp only [Ideal.cmp, hn, decide_false] at h'
  exact absurd h' (by decide)

end Cert.Finite

end
-- ==== Proof.AdaValue.lean ====
/-
  The modulation projection: the stacked conditioning rows, what a grid point writes, and the result array element by
  element. Rows 0 to 15 are the batch's conditioning vectors, row 16 is the context's, and rows 17 to 23 are zero padding;
  point `t` works on columns `512 t` to `512 t + 511`.
-/
module

public import proofs.«01_k».proof.Proof.AdaFinite
public import proofs.«01_k».proof.Proof.Gen.AdaIdeal.Value
public import Idealize.ShloMosaic.Lib.Pipeline.ValueKit
public import Idealize.ShloMosaic.Lib.Pipeline.ReadBack
public import Idealize.ShloMosaic.Lib.Pointwise
public import proofs.«01_k».proof.Proof.Gen.Pre_finite_modulation
public import Idealize.ShloMosaic.Lib.ReduceAll
public import Idealize.ShloMosaic.Lib.Claim
public import Idealize.ShloMosaic.Lib.StableHlo.RunClose

@[expose] public section

set_option maxRecDepth 16384

noncomputable section

namespace Cert.AdaIdeal.Terms

open Cert.AdaIdeal Cert.AdaIdeal.Gen Idealize.ShloMosaic Idealize.ShloMosaic.TcCoe Idealize.ShloMosaic.Tactic
open Cert.Finite (gate gate_of split_sum of_cmp)

theorem pay1_apply (x : Vec Ideal S24x2048 .f32) (w : Vec Ideal S2048x512 .f32) (b : Vec Ideal S1x512 .f32) (r : Fin 24) (j : Fin 512) :
    k0_pay1 x w b (ix2 r j) =
      (∑ k : Fin 2048, gate (x (ix2 r k)) * w (ix2 k j) + ∑ k : Fin 2048, gate (x (ix2 r k)) * (w (ix2 k j) - w (ix2 k j) : EReal)
        + ∑ k : Fin 2048, (gate (x (ix2 r k)) - gate (x (ix2 r k)) : EReal) * w (ix2 k j) : EReal) + b (ix2 0 j) := by
  pointwise! [k0_pay1, gate]

variable (m : (ℓ : Loc nD τ sig) → Buf (Elt Ideal) ℓ) (c : Dev nD)

theorem idx_all : ∀ t : Fin cfg0.N,
    win0_0.index t = ![0, 0] ∧ win0_1.index t = ![0, t.val] ∧ win0_2.index t = ![0, t.val] ∧ win0_3.index t = ![0, t.val] :=
  (by decide +kernel : ∀ t : Fin grid0.N, _)

theorem lt_N (t : Fin cfg0.N) : t.val < 24 := lt_of_lt_of_eq t.isLt (show cfg0.N = 24 from N_0)

/-- A row of the stacked conditioning vectors. -/
def stackedRow (r : Fin 24) (k : Fin 2048) : EReal :=
  if h : r.val < 16 then m ((c : Thread nD τ).loc main_arg0) (ix2 ⟨r.val, h⟩ k)
  else if r.val = 16 then m ((c : Thread nD τ).loc main_arg1) (ix1 k) else 0

/-- The stacked array as the host lines leave it. -/
theorem stacked_eq : V m c main_v2 = concatenate S24x2048 0
    [⟨S16x2048, (m ((c : Thread nD τ).loc main_arg0) : Vec Ideal S16x2048 .f32)⟩,
     ⟨S1x2048, (broadcastInDim S1x2048 ![1] bcast_S2048_S1x2048_1 (m ((c : Thread nD τ).loc main_arg1)) : Vec Ideal S1x2048 .f32)⟩,
     ⟨S7x2048, (broadcastInDim S7x2048 ![] bcast_S_S7x2048 (constant (F := Ideal) S_ .f32 0x00000000#32) : Vec Ideal S7x2048 .f32)⟩]
    concatenates_S16x2048_S1x2048_S7x2048_S24x2048_d0 := by
  unfold V
  after_results_simp_entrywise
  have e : ∀ {s0 s1 s2 : Shape} {a a' : s0.Idx → EReal} {b b' : s1.Idx → EReal} {d d' : s2.Idx → EReal}, a = a' → b = b' → d = d' →
      ([⟨s0, a⟩, ⟨s1, b⟩, ⟨s2, d⟩] : List ((s : Shape) × (s.Idx → EReal))) = [⟨s0, a'⟩, ⟨s1, b'⟩, ⟨s2, d'⟩] := by
    rintro _ _ _ _ _ _ _ _ _ rfl rfl rfl
    rfl
  refine StableHlo.concatenate_congr _ _ (e ?_ ?_ ?_) _ _
  · show HloOp.result _ _ (Proc.devRef .tc main_arg0) = _
    rw [StableHlo.unary_result_ne (h := by decide), StableHlo.nullary_result_ne (h := by decide), StableHlo.unary_result_ne (h := by decide)]
  · show HloOp.result _ _ (Proc.devRef .tc main_v0) = _
    rw [StableHlo.unary_result_ne (h := by decide), StableHlo.nullary_result_ne (h := by decide), StableHlo.unary_result]
  · show HloOp.result _ _ (Proc.devRef .tc main_v1) = _
    rw [StableHlo.unary_result, StableHlo.nullary_result]

theorem stacked_apply (r : Fin 24) (k : Fin 2048) : V m c main_v2 (ix2 r k) = stackedRow m c r k := by
  rw [stacked_eq]
  unfold stackedRow
  split_ifs with h h'
  · pointwise!
    rw [dif_pos h]
  · pointwise!
    rw [dif_neg h, dif_pos (by omega)]
  · pointwise!
    rw [dif_neg h, dif_neg (by omega)]

theorem read_x (t : Fin cfg0.N) (r : Fin 24) (k : Fin 2048) : iblk m c 0 t (ix2 r k) = V m c main_v2 (ix2 r k) := by
  blk_ext! [iblk, idx_all t]

theorem read_w (t : Fin cfg0.N) (k : Fin 2048) (j : Fin 512) :
    iblk m c 1 t (ix2 k j) = m ((c : Thread nD τ).loc main_arg2) (ix3 0 k ⟨512 * t.val + j.val, by have := lt_N t; omega⟩) := by
  have := lt_N t
  blk_ext! [iblk, V, idx_all t]

theorem read_b (t : Fin cfg0.N) (z : Fin 1) (j : Fin 512) :
    iblk m c 2 t (ix2 z j) = m ((c : Thread nD τ).loc main_arg3) (ix2 0 ⟨512 * t.val + j.val, by have := lt_N t; omega⟩) := by
  have := lt_N t
  blk_ext! [iblk, V, idx_all t]

/-- The result array: the gated row times the weights' column, plus the bias. -/
def result (i : S24x12288.Idx) : EReal :=
  ∑ k : Fin 2048, gate (stackedRow m c (i 0) k) * m ((c : Thread nD τ).loc main_arg2) (ix3 0 k (i 1))
    + m ((c : Thread nD τ).loc main_arg3) (ix2 0 (i 1))

/-- The conditioning vectors and the weights are finite. -/
structure Ok : Prop where
  x : ∀ (b : Fin 16) (k : Fin 2048), Cert.Finite.Finite (m ((c : Thread nD τ).loc main_arg0) (ix2 b k))
  y : ∀ k : Fin 2048, Cert.Finite.Finite (m ((c : Thread nD τ).loc main_arg1) (ix1 k))
  w : ∀ (k : Fin 2048) (j : Fin 12288), Cert.Finite.Finite (m ((c : Thread nD τ).loc main_arg2) (ix3 0 k j))

variable {m c}

theorem Ok.row (h : Ok m c) (r : Fin 24) (k : Fin 2048) : Cert.Finite.Finite (stackedRow m c r k) := by
  unfold stackedRow
  split_ifs
  · exact h.x _ _
  · exact h.y _
  · exact ⟨EReal.zero_ne_top, EReal.zero_ne_bot⟩

/-- Point `t`'s block at row `r` and column `j` is the result's row `r` and column `512 t + j`. -/
theorem block_apply (ok : Ok m c) (t : Fin cfg0.N) (r : Fin 24) (j : Fin 512) (i : S24x12288.Idx) (h0 : (i 0).val = r.val)
    (h1 : (i 1).val = 512 * t.val + j.val) :
    k0_pay1 (F := Ideal) (iblk m c 0 t) (iblk m c 1 t) (iblk m c 2 t) (ix2 r j) = result m c i := by
  have e0 : i 0 = r := Fin.ext h0
  have e1 : (⟨512 * t.val + j.val, by have := lt_N t; omega⟩ : Fin 12288) = i 1 := Fin.ext h1.symm
  refine (pay1_apply _ _ _ r j).trans ?_
  simp only [show ∀ k, iblk m c 0 t (ix2 r k) = stackedRow m c r k from fun k => (read_x m c t r k).trans (stacked_apply m c r k),
    show ∀ k, iblk m c 1 t (ix2 k j) = m ((c : Thread nD τ).loc main_arg2) (ix3 0 k (i 1)) from fun k => (read_w m c t k j).trans (by rw [e1]),
    show iblk m c 2 t (ix2 0 j) = m ((c : Thread nD τ).loc main_arg3) (ix2 0 (i 1)) from (read_b m c t 0 j).trans (by rw [e1])]
  rw [split_sum (fun k => gate (stackedRow m c r k)) (fun k => m ((c : Thread nD τ).loc main_arg2) (ix3 0 k (i 1)))
    (fun k => gate_of (ok.row r k)) (fun k => ok.w k _)]
  unfold result
  rw [e0]

theorem arr_eq (ok : Ok m c) : (dats m 0 c).arrAt 3 cfg0.N = result m c := by
  refine (dats m 0 c).arrAt_eq_of_covers 3 _ (by decide +kernel) fun t hf y => ?_
  blk_simp
  rw [after0_3]
  refine (congrArg _ (eq_ix2 y)).trans ?_
  unfold out0_3
  refine Eq.trans ?_ (block_apply ok t (y 0) (y 1) _ ?_ ?_)
  · frame_out
  all_goals (blk_simp [idx_all t] <;> try omega)

/-- What the precondition says of the arrays. -/
theorem ok_of (h : Cert.Pre_finite_modulation.fn (F := Ideal) (m ((c : Thread nD τ).loc main_arg0)) (m ((c : Thread nD τ).loc main_arg1))
    (m ((c : Thread nD τ).loc main_arg2)) (m ((c : Thread nD τ).loc main_arg3)) = fun _ => 1#1) : Ok m c := by
  have e := congrFun h (fun a => a.elim0)
  haveI : Subsingleton Cert.Pre_finite_modulation.S_.Idx := ⟨fun a b => funext fun k => k.elim0⟩
  obtain ⟨e, e3⟩ := IntOp.andi_eq_one.1 e
  obtain ⟨e1, e2⟩ := IntOp.andi_eq_one.1 e
  exact ⟨fun b k => of_cmp (Host.reduce_andi_all _ _ _ _ _ e1 (ix2 b k)), fun k => of_cmp (Host.reduce_andi_all _ _ _ _ _ e2 (ix1 k)),
    fun k j => of_cmp (Host.reduce_andi_all _ _ _ _ _ e3 (ix3 0 k j))⟩

end Cert.AdaIdeal.Terms

end
-- ==== Proof.AdaRefRow.lean ====
/-
  The modulation's reference, element by element, as the same function of the argument arrays.
-/
module

public import proofs.«01_k».proof.Proof.AdaValue
public import proofs.«01_k».proof.Proof.Gen.AdaRefIdeal.Read

@[expose] public section

set_option maxRecDepth 16384

noncomputable section

namespace Cert.AdaRefIdeal.Rows

open Cert.AdaRefIdeal Cert.AdaRefIdeal.Gen Cert.AdaRefIdeal.Read Idealize.ShloMosaic Idealize.ShloMosaic.TcCoe
open Cert.AdaIdeal.Terms (result stackedRow)
open Cert.Finite (gate gate_zero)

variable (x0 : Vec Ideal S16x2048 .f32) (x1 : Vec Ideal S2048 .f32) (x2 : Vec Ideal S1x2048x12288 .f32) (x3 : Vec Ideal S1x12288 .f32)

theorem gate0_apply (b : Fin 16) (k : Fin 2048) : val_main_v0 (F := Ideal) x0 (ix2 b k) = gate (x0 (ix2 b k)) := by
  pointwise! [val_main_v0, val_main_call0_v5, val_main_call0_v4, val_main_call0_cst_0, val_main_call0_v3, val_main_call0_v2, val_main_call0_cst, val_main_call0_v1, val_main_call0_v0, gate, Ideal.logistic]

theorem gate1_apply (k : Fin 2048) : val_main_v7 (F := Ideal) x1 (ix1 k) = gate (x1 (ix1 k)) := by
  pointwise! [val_main_v7, val_main_call1_v5, val_main_call1_v4, val_main_call1_cst_0, val_main_call1_v3, val_main_call1_v2, val_main_call1_cst, val_main_call1_v1, val_main_call1_v0, gate, Ideal.logistic]

theorem rows0_apply (b : Fin 16) (j : Fin 12288) :
    val_main_v6 (F := Ideal) x0 x2 x3 (ix2 b j) = ∑ k : Fin 2048, gate (x0 (ix2 b k)) * x2 (ix3 0 k j) + x3 (ix2 0 j) := by
  simp only [← gate0_apply]
  unfold val_main_v6 val_main_v5 val_main_v4 val_main_v3 val_main_v2 val_main_v1
  generalize val_main_v0 (F := Ideal) x0 = u
  pointwise!

theorem row1_apply (z : Fin 1) (j : Fin 12288) :
    val_main_v14 (F := Ideal) x1 x2 x3 (ix2 z j) = ∑ k : Fin 2048, gate (x1 (ix1 k)) * x2 (ix3 0 k j) + x3 (ix2 0 j) := by
  simp only [← gate1_apply]
  unfold val_main_v14 val_main_v11 val_main_v10 val_main_v9 val_main_v8
  generalize val_main_v7 (F := Ideal) x1 = u
  pointwise!

theorem rows2_apply (z : Fin 7) (j : Fin 12288) : val_main_v13 (F := Ideal) x3 (ix2 z j) = x3 (ix2 0 j) := by
  pointwise! [val_main_v13, val_main_v12]

/-- The two results are one function of the arguments. -/
theorem result_eq (m : (ℓ : Loc Cert.AdaIdeal.nD Cert.AdaIdeal.τ Cert.AdaIdeal.sig) → Buf (Elt Ideal) ℓ) (c : Dev Cert.AdaIdeal.nD) :
    val_main_v15 (F := Ideal) (m ((c.tc : Thread Cert.AdaIdeal.nD Cert.AdaIdeal.τ).loc Cert.AdaIdeal.main_arg0))
      (m ((c.tc : Thread Cert.AdaIdeal.nD Cert.AdaIdeal.τ).loc Cert.AdaIdeal.main_arg1))
      (m ((c.tc : Thread Cert.AdaIdeal.nD Cert.AdaIdeal.τ).loc Cert.AdaIdeal.main_arg2))
      (m ((c.tc : Thread Cert.AdaIdeal.nD Cert.AdaIdeal.τ).loc Cert.AdaIdeal.main_arg3)) = result m c := by
  funext i
  refine (congrArg _ (eq_ix2 i)).trans (Eq.trans ?_ (congrArg _ (eq_ix2 i)).symm)
  generalize i 0 = r
  generalize i 1 = j
  change Fin 24 at r
  change Fin 12288 at j
  unfold val_main_v15
  simp only [result, stackedRow]
  by_cases h : r.val < 16
  · pointwise!
    rw [dif_pos h]
    refine (rows0_apply _ _ _ ⟨r.val, h⟩ j).trans ?_
    simp only [dif_pos h]
  · by_cases h' : r.val = 16
    · pointwise!
      rw [dif_neg h, dif_pos (by omega)]
      refine (row1_apply _ _ _ _ j).trans ?_
      simp [h']
    · pointwise!
      rw [dif_neg h, dif_neg (by omega)]
      refine (rows2_apply _ _ j).trans ?_
      simp [gate_zero, h, h']

end Cert.AdaRefIdeal.Rows

end
-- ==== Proof.KsBlock.lean ====
/-
  One entry of each array a grid point of the filter's spectrum call computes, from the blocks it reads.
-/
module

public import proofs.«01_k».proof.Proof.AdaFinite
public import proofs.«01_k».proof.Proof.HyRows
public import proofs.«01_k».proof.Proof.Gen.KspecIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.KspecIdeal.Terms

open Cert.KspecIdeal Cert.KspecIdeal.Gen Idealize.ShloMosaic Idealize.ShloMosaic.TcCoe Idealize.ShloMosaic.Tactic
open Cert.Hyena (select_eq)

/-- The three products of split factors: high with high, high with low, low with high. -/
def split3 {n : Nat} (s w : Fin n → EReal) : EReal :=
  ∑ k, s k * w k + ∑ k, s k * (w k - w k) + ∑ k, (s k - s k) * w k

/-- One unit of a layer: the sine of the frequency times the sum with the bias. -/
def unit {n : Nat} (fr b : EReal) (s w : Fin n → EReal) : EReal := Ideal.sin (fr * (split3 s w + b))

theorem pay3_apply (fr : Vec Ideal S1x64 .f32) (z : Vec Ideal S2048x128 .f32) (w1 : Vec Ideal S128x64 .f32) (b1 : Vec Ideal S1x64 .f32)
    (w2 : Vec Ideal S64x64 .f32) (s : Fin 2048) (j : Fin 64) :
    k0_pay3 fr z w1 b1 w2 (ix2 s j) =
      split3 (fun k : Fin 64 => unit (fr (ix2 0 k)) (b1 (ix2 0 k)) (fun l => z (ix2 s l)) (fun l => w1 (ix2 l k))) (fun k => w2 (ix2 k j)) := by
  pointwise! [k0_pay3, k0_pay2, split3, unit]

theorem pay4_apply (fr : Vec Ideal S1x64 .f32) (a : Vec Ideal S2048x64 .f32) (b : Vec Ideal S1x64 .f32) (s : Fin 2048) (j : Fin 64) :
    k0_pay4 (k0_pay2 fr) a b (ix2 s j) = Ideal.sin (fr (ix2 0 j) * (a (ix2 s j) + b (ix2 0 j)) : EReal) := by
  pointwise! [k0_pay4, k0_pay2]

/-- The window at time `s` with decay `x`. -/
def window (s : ℕ) (x : EReal) : EReal :=
  Ideal.exp (-(Ideal.div (FloatOps.sitofp (F := Ideal) .f32 (BitVec.ofNat 32 s) : EReal) (Ideal.ofBits .f32 0x44FFE000#32)) * x) + Ideal.ofBits .f32 0x3D4CCCCD#32

theorem pay5_apply (dl : Vec Ideal S1x256 .f32) (s : Fin 2048) (d : Fin 256) : k0_pay5 dl (ix2 s d) = window s.val (dl (ix2 0 d)) := by
  pointwise! [k0_pay5, window]
  rw [sub_eq_add_neg, zero_add]

theorem pay6_apply (h : Vec Ideal S2048x64 .f32) (dl : Vec Ideal S1x256 .f32) (w : Vec Ideal S64x256 .f32) (s : Fin 2048) (d : Fin 256) :
    k0_pay6 h dl w (ix2 s d) = (split3 (fun k => h (ix2 s k)) (fun k => w (ix2 k d)) * window s.val (dl (ix2 0 d)) : EReal) := by
  rw [← pay5_apply]
  pointwise! [k0_pay6, split3]

theorem pay11_apply (h : Vec Ideal S2048x64 .f32) (dl : Vec Ideal S1x256 .f32) (w : Vec Ideal S64x256 .f32) (s : Fin 2048) (d : Fin 256) :
    k0_pay11 (k0_pay5 dl) k0_pay7 (k0_pay8 w) (k0_pay9 h) (k0_pay10 h) (ix2 s d) =
      (if s.val = 0 then 0 else split3 (fun k => h (ix2 s k)) (fun k => w (ix2 k d)) * window s.val (dl (ix2 0 d)) : EReal) := by
  rw [← pay5_apply]
  pointwise! [k0_pay11, k0_pay7, k0_pay8, k0_pay9, k0_pay10, split3]
  simp only [select_eq (show s.val < 2 ^ 32 by omega) (show 0 < 2 ^ 32 by omega)]

/-- The inverse norm of a column, and the column's scaled sum and difference against a row of the table. -/
def invNorm (f b : Fin 2048 → EReal) : EReal := Ideal.rsqrt (∑ s, f s * f s + ∑ s, b s * b s)

theorem pay12_apply (hf : Vec Ideal S2048x256 .f32) (x : FVec Ideal S2048x256 .f32) (q : IVec S2048x256 1) (u : FVec Ideal S64x256 .f32)
    (p r : FVec Ideal S2048x64 .bf16) (z : Fin 1) (d : Fin 256) :
    k0_pay12 x hf q u p r (ix2 z d) = invNorm (fun s => hf (ix2 s d)) (fun s => k0_pay11 x q u p r (ix2 s d)) := by
  unfold k0_pay12
  generalize k0_pay11 x q u p r = hb
  pointwise! [invNorm]

theorem pay14_apply (hf : Vec Ideal S2048x256 .f32) (x : FVec Ideal S2048x256 .f32) (q : IVec S2048x256 1) (u : FVec Ideal S64x256 .f32)
    (p r : FVec Ideal S2048x64 .bf16) (f : Vec Ideal S2048x2048 .bf16) (j : Fin 2048) (d : Fin 256) :
    k0_pay14 x hf q u p r f (ix2 j d) = ∑ s : Fin 2048, f (ix2 j s) * ((hf (ix2 s d) + k0_pay11 x q u p r (ix2 s d))
      * invNorm (fun s => hf (ix2 s d)) (fun s => k0_pay11 x q u p r (ix2 s d)) : EReal) := by
  rw [← pay12_apply hf x q u p r 0 d]
  unfold k0_pay14 k0_pay13
  generalize k0_pay11 x q u p r = hb
  generalize k0_pay12 x hf q u p r = n
  pointwise!

theorem pay15_apply (hf : Vec Ideal S2048x256 .f32) (x : FVec Ideal S2048x256 .f32) (q : IVec S2048x256 1) (u : FVec Ideal S64x256 .f32)
    (p r : FVec Ideal S2048x64 .bf16) (f : Vec Ideal S2048x2048 .bf16) (j : Fin 2048) (d : Fin 256) :
    k0_pay15 x hf q u p r f (ix2 j d) = ∑ s : Fin 2048, f (ix2 j s) * ((hf (ix2 s d) - k0_pay11 x q u p r (ix2 s d))
      * invNorm (fun s => hf (ix2 s d)) (fun s => k0_pay11 x q u p r (ix2 s d)) : EReal) := by
  rw [← pay12_apply hf x q u p r 0 d]
  unfold k0_pay15
  generalize k0_pay11 x q u p r = hb
  generalize k0_pay12 x hf q u p r = n
  pointwise!

theorem pay16_apply (hf : Vec Ideal S2048x256 .f32) (x : FVec Ideal S2048x256 .f32) (q : IVec S2048x256 1) (u : FVec Ideal S64x256 .f32)
    (p r : FVec Ideal S2048x64 .bf16) (f : Vec Ideal S8x2048 .bf16) (j : Fin 8) (d : Fin 256) :
    k0_pay16 x hf q u p r f (ix2 j d) = ∑ s : Fin 2048, f (ix2 j s) * ((hf (ix2 s d) + k0_pay11 x q u p r (ix2 s d))
      * invNorm (fun s => hf (ix2 s d)) (fun s => k0_pay11 x q u p r (ix2 s d)) : EReal) := by
  rw [← pay12_apply hf x q u p r 0 d]
  unfold k0_pay16 k0_pay13
  generalize k0_pay11 x q u p r = hb
  generalize k0_pay12 x hf q u p r = n
  pointwise!

theorem pay1_apply (a b : Vec Ideal S8x256 .f32) (j : Fin 8) (d : Fin 256) :
    k0_pay1 a (iota .tc S8x256 32 [0] iota_S8x256_d0_w32) k0_pay17 b (ix2 j d) = (if j.val = 0 then a (ix2 j d) else b (ix2 j d) : EReal) := by
  pointwise! [k0_pay1, k0_pay17]
  simp only [select_eq (show j.val < 2 ^ 32 by omega) (show 0 < 2 ^ 32 by omega)]

end Cert.KspecIdeal.Terms

end
-- ==== Proof.KsStore.lean ====
/-
  What a grid point of the filter's spectrum call stores: three stores of rows, the last of which replaces one row of eight
  read back from the store before it. Row 2048 of the table belongs to the sums and not to the differences.
-/
module

public import proofs.«01_k».proof.Proof.KsBlock

@[expose] public section

set_option maxRecDepth 16384

noncomputable section

namespace Cert.KspecIdeal.Terms

open Cert.KspecIdeal Cert.KspecIdeal.Gen Idealize.ShloMosaic Idealize.ShloMosaic.TcCoe Idealize.ShloMosaic.Tactic

/-- A load of rows from row `o` of a block of rows, at an index. -/
theorem ld_part {R C K : ℕ} {e : EltTy} (X : Vec Ideal ⟨2, ![R, C]⟩ e) (o : ℕ) (ho : o + K ≤ R) (inb) (r : Fin K) (d : Fin C) :
    (View.ld X (Rect.unit (s := ⟨2, ![R, C]⟩) ![o, 0] ![K, C] inb) : Vec Ideal ⟨2, ![K, C]⟩ e) (ix2 r d) = X (ix2 ⟨o + r.val, by omega⟩ d) := by
  rw [View.ld_apply]
  refine congrArg X (funext fun a => Fin.ext ?_)
  fin_cases a
  · show o + 1 * r.val = o + r.val; omega
  · show 0 + 1 * d.val = d.val; omega

/-- Where the last store of rows holds the row, the array is its payload; -/
theorem canon_hit {K : ℕ} (o : ℕ) (inb) (w : Vec Ideal ⟨2, ![K, 256]⟩ .f32) (L : List (View.Piece (Elt Ideal) S4096x256 .f32))
    (r : Fin 4096) (d : Fin 256) (k : Fin K) (h : r.val = o + k.val) :
    View.canon (Val := Elt Ideal) (⟨Rect.unit (s := S4096x256) ![o, 0] ![K, 256] inb, w⟩ :: L) (ix2 r d) = w (ix2 k d) := by
  have e : (ix2 r d : S4096x256.Idx) = (Rect.unit (s := S4096x256) ![o, 0] ![K, 256] inb).emb (ix2 k d) := by
    refine funext fun a => Fin.ext ?_
    fin_cases a
    · show r.val = o + 1 * k.val; omega
    · show d.val = 0 + 1 * d.val; omega
  rw [e]
  exact View.canon_cons_emb (Rect.unit (s := S4096x256) ![o, 0] ![K, 256] inb) w L _

/-- elsewhere it is what the earlier stores left. -/
theorem canon_miss {K : ℕ} (o : ℕ) (inb) (w : Vec Ideal ⟨2, ![K, 256]⟩ .f32) (L : List (View.Piece (Elt Ideal) S4096x256 .f32))
    (r : Fin 4096) (d : Fin 256) (h : r.val < o ∨ o + K ≤ r.val) :
    View.canon (Val := Elt Ideal) (⟨Rect.unit (s := S4096x256) ![o, 0] ![K, 256] inb, w⟩ :: L) (ix2 r d) = View.canon (Val := Elt Ideal) L (ix2 r d) := by
  refine View.canon_cons_of_not_mem _ L fun hm => ?_
  obtain ⟨x, hx⟩ := (Rect.unit (s := S4096x256) ![o, 0] ![K, 256] inb).exists_idx_of_mem hm
  have e : o + 1 * (x 0).val = r.val := congrArg (fun y : S4096x256.Idx => (y 0).val) hx
  have l : (x 0).val < K := (x 0).isLt
  omega

/-- A load of rows that the last store holds reads its payload. -/
theorem readback {sg : RefSig} {κ : Kind} {sp : Space} (v : View sg κ sp S4096x256 .f32) {K N : ℕ} (o : ℕ) (inb) (inb')
    (w : Vec Ideal ⟨2, ![K, 256]⟩ .f32) (L : List (View.Piece (Elt Ideal) S4096x256 .f32)) (j : Fin N) (d : Fin 256) (h : N ≤ K) :
    (v.readCov (⟨Rect.unit (s := S4096x256) ![o, 0] ![K, 256] inb, w⟩ :: L) (Rect.unit (s := S4096x256) ![o, 0] ![N, 256] inb').toLoadRect : Vec Ideal ⟨2, ![N, 256]⟩ .f32) (ix2 j d)
      = w (ix2 ⟨j.val, by omega⟩ d) := by
  rw [View.readCov_eq_canon']
  have hi : o + N ≤ 4096 := inb' 0
  refine Eq.trans (congrArg (View.canon (Val := Elt Ideal) _) (?_ : _ = (ix2 ⟨o + j.val, by omega⟩ d : S4096x256.Idx))) (canon_hit o inb w L _ d ⟨j.val, by omega⟩ rfl)
  refine funext fun a => Fin.ext ?_
  fin_cases a
  · show o + 1 * j.val = o + j.val; omega
  · show 0 + 1 * d.val = d.val; omega

/-- The forward and the backward filter at a time. -/
def forward (h : Vec Ideal S2048x64 .f32) (w : Vec Ideal S64x256 .f32) (dl : Vec Ideal S1x256 .f32) (d : Fin 256) (s : Fin 2048) : EReal :=
  split3 (fun k => h (ix2 s k)) (fun k => w (ix2 k d)) * window s.val (dl (ix2 0 d))
def backward (h : Vec Ideal S2048x64 .f32) (w : Vec Ideal S64x256 .f32) (dl : Vec Ideal S1x256 .f32) (d : Fin 256) (s : Fin 2048) : EReal :=
  if s.val = 0 then 0 else forward h w dl d s

/-- One row of the spectrum of a pair of filters against a row of the table. -/
def specRow (f b : Fin 2048 → EReal) (r : ℕ) (table : Fin 2048 → EReal) : EReal :=
  if r < 2049 then ∑ s, table s * ((f s + b s) * invNorm f b) else ∑ s, table s * ((f s - b s) * invNorm f b)

/-- The block a point stores. -/
def block (h : Vec Ideal S2048x64 .f32) (wf wb : Vec Ideal S64x256 .f32) (dl : Vec Ideal S1x256 .f32) (f : Vec Ideal S4096x2048 .bf16) : Vec Ideal S4096x256 .f32 :=
  fun y => specRow (forward h wf dl (y 1)) (backward h wb dl (y 1)) (y 0).val (fun s => f (ix2 (y 0) s))

variable {sg : RefSig} {κ : Kind} {sp : Space} (v : View sg κ sp S4096x256 .f32) (h : Vec Ideal S2048x64 .f32) (wf wb : Vec Ideal S64x256 .f32) (dl : Vec Ideal S1x256 .f32) (f : Vec Ideal S4096x2048 .bf16)

theorem stored : View.canon (Val := Elt Ideal) [⟨Rect.unit (s := S4096x256) ![2048,0] ![8,256] inb_S4096x256_S8x256_2048_0, k0_pay1 (k0_pay16 (k0_pay5 dl) (k0_pay6 h dl wf) k0_pay7 (k0_pay8 wb) (k0_pay9 h) (k0_pay10 h) (View.ld f (Rect.unit (s := S4096x2048) ![2048,0] ![8,2048] inb_S4096x2048_S8x2048_2048_0))) (iota Kind.tc S8x256 32 [0] iota_S8x256_d0_w32) k0_pay17 (v.readCov [⟨Rect.unit (s := S4096x256) ![2048,0] ![2048,256] inb_S4096x256_S2048x256_2048_0, k0_pay15 (k0_pay5 dl) (k0_pay6 h dl wf) k0_pay7 (k0_pay8 wb) (k0_pay9 h) (k0_pay10 h) (View.ld f (Rect.unit (s := S4096x2048) ![2048,0] ![2048,2048] inb_S4096x2048_S2048x2048_2048_0))⟩, ⟨Rect.unit (s := S4096x256) ![0,0] ![2048,256] inb_S4096x256_S2048x256_0_0, k0_pay14 (k0_pay5 dl) (k0_pay6 h dl wf) k0_pay7 (k0_pay8 wb) (k0_pay9 h) (k0_pay10 h) (View.ld f (Rect.unit (s := S4096x2048) ![0,0] ![2048,2048] inb_S4096x2048_S2048x2048_0_0))⟩] (Rect.unit (s := S4096x256) ![2048,0] ![8,256] inb_S4096x256_S8x256_2048_0).toLoadRect)⟩, ⟨Rect.unit (s := S4096x256) ![2048,0] ![2048,256] inb_S4096x256_S2048x256_2048_0, k0_pay15 (k0_pay5 dl) (k0_pay6 h dl wf) k0_pay7 (k0_pay8 wb) (k0_pay9 h) (k0_pay10 h) (View.ld f (Rect.unit (s := S4096x2048) ![2048,0] ![2048,2048] inb_S4096x2048_S2048x2048_2048_0))⟩, ⟨Rect.unit (s := S4096x256) ![0,0] ![2048,256] inb_S4096x256_S2048x256_0_0, k0_pay14 (k0_pay5 dl) (k0_pay6 h dl wf) k0_pay7 (k0_pay8 wb) (k0_pay9 h) (k0_pay10 h) (View.ld f (Rect.unit (s := S4096x2048) ![0,0] ![2048,2048] inb_S4096x2048_S2048x2048_0_0))⟩] = block h wf wb dl f := by
  funext y
  obtain ⟨r, d, rfl⟩ : ∃ (r : Fin 4096) (d : Fin 256), y = ix2 r d := ⟨y 0, y 1, eq_ix2 y⟩
  have hr : r.val < 4096 := r.isLt
  show _ = specRow (forward h wf dl d) (backward h wb dl d) r.val (fun s => f (ix2 r s))
  unfold specRow
  by_cases h8 : r.val < 2048
  · rw [canon_miss 2048 _ _ _ r d (by omega), canon_miss 2048 _ _ _ r d (by omega), canon_hit 0 _ _ _ r d ⟨r.val, h8⟩ (by show r.val = 0 + r.val; omega),
      pay14_apply, if_pos (by omega)]
    simp only [pay6_apply, pay11_apply]
    refine Finset.sum_congr rfl fun s _ => ?_
    rw [ld_part (K := 2048) f 0 (by omega)]
    simp only [Nat.zero_add]
    rfl
  · have high : ∀ k : Fin 2048, r.val = 2048 + k.val → ¬ r.val < 2049 →
        k0_pay15 (k0_pay5 dl) (k0_pay6 h dl wf) k0_pay7 (k0_pay8 wb) (k0_pay9 h) (k0_pay10 h) (View.ld f (Rect.unit (s := S4096x2048) ![2048,0] ![2048,2048] inb_S4096x2048_S2048x2048_2048_0)) (ix2 k d)
          = if r.val < 2049 then ∑ s, f (ix2 r s) * ((forward h wf dl d s + backward h wb dl d s) * invNorm (forward h wf dl d) (backward h wb dl d))
            else ∑ s, f (ix2 r s) * ((forward h wf dl d s - backward h wb dl d s) * invNorm (forward h wf dl d) (backward h wb dl d)) := by
      intro k hk hn
      rw [pay15_apply, if_neg hn]
      simp only [pay6_apply, pay11_apply]
      refine Finset.sum_congr rfl fun s _ => ?_
      rw [ld_part (K := 2048) f 2048 (by omega)]
      simp only [show (⟨2048 + k.val, by omega⟩ : Fin 4096) = r from Fin.ext hk.symm]
      rfl
    by_cases h9 : r.val < 2056
    · rw [canon_hit 2048 _ _ _ r d (⟨r.val - 2048, by omega⟩ : Fin 8) (by show r.val = 2048 + (r.val - 2048); omega), pay1_apply]
      by_cases h0 : r.val = 2048
      · rw [if_pos (by show r.val - 2048 = 0; omega), pay16_apply, if_pos (by omega)]
        simp only [pay6_apply, pay11_apply]
        refine Finset.sum_congr rfl fun s _ => ?_
        rw [ld_part (K := 8) f 2048 (by omega)]
        simp only [show (⟨2048 + (r.val - 2048), by omega⟩ : Fin 4096) = r from Fin.ext (by show 2048 + (r.val - 2048) = r.val; omega)]
        rfl
      · rw [if_neg (by show ¬ r.val - 2048 = 0; omega), readback v 2048 _ _ _ _ _ d (by omega)]
        exact high _ (by show r.val = 2048 + (r.val - 2048); omega) (by omega)
    · rw [canon_miss 2048 _ _ _ r d (by omega), canon_hit 2048 _ _ _ r d (⟨r.val - 2048, by omega⟩ : Fin 2048) (by show r.val = 2048 + (r.val - 2048); omega)]
      exact high _ (by show r.val = 2048 + (r.val - 2048); omega) (by omega)

/-- The hidden units that the first point computes and keeps. -/
def hidden (x0 : Vec Ideal S2048x128 .f32) (x1 : Vec Ideal S128x64 .f32) (x2 x3 : Vec Ideal S1x64 .f32) (x4 : Vec Ideal S64x64 .f32) (x5 : Vec Ideal S1x64 .f32) : Vec Ideal S2048x64 .f32 :=
  k0_pay4 (k0_pay2 x3) (k0_pay3 x3 x0 x1 x2 x4) x5

theorem kept_A (c : Dev nD) (i : grid0.Coords) (arg1 : Memref sig .tc .vmem S2048x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x256 .f32) (harg7 : arg7.IsWhole) (arg8 : Memref sig .tc .vmem S64x256 .f32) (harg8 : arg8.IsWhole) (arg9 : Memref sig .tc .vmem S1x256 .f32) (harg9 : arg9.IsWhole) (arg10 : Memref sig .tc .vmem S4096x2048 .bf16) (harg10 : arg10.IsWhole) (arg11 : Memref sig .tc .vmem S4096x256 .f32) (harg11 : arg11.IsWhole) (arg12 : Memref sig .tc .vmem S2048x64 .f32) (harg12 : arg12.IsWhole) (hc0 : cond0_0 i) (x0 : Vec Ideal S2048x128 .f32) (x1 : Vec Ideal S128x64 .f32) (x2 : Vec Ideal S1x64 .f32) (x3 : Vec Ideal S1x64 .f32) (x4 : Vec Ideal S64x64 .f32) (x5 : Vec Ideal S1x64 .f32) (x6 : Vec Ideal S64x256 .f32) (x7 : Vec Ideal S64x256 .f32) (x8 : Vec Ideal S1x256 .f32) (x9 : Vec Ideal S4096x2048 .bf16) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 = hidden x0 x1 x2 x3 x4 x5 := by
  unfold sout0_A_0
  frame_out
  rfl

theorem stored_A (c : Dev nD) (i : grid0.Coords) (arg1 : Memref sig .tc .vmem S2048x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x256 .f32) (harg7 : arg7.IsWhole) (arg8 : Memref sig .tc .vmem S64x256 .f32) (harg8 : arg8.IsWhole) (arg9 : Memref sig .tc .vmem S1x256 .f32) (harg9 : arg9.IsWhole) (arg10 : Memref sig .tc .vmem S4096x2048 .bf16) (harg10 : arg10.IsWhole) (arg11 : Memref sig .tc .vmem S4096x256 .f32) (harg11 : arg11.IsWhole) (arg12 : Memref sig .tc .vmem S2048x64 .f32) (harg12 : arg12.IsWhole) (hc0 : cond0_0 i) (x0 : Vec Ideal S2048x128 .f32) (x1 : Vec Ideal S128x64 .f32) (x2 : Vec Ideal S1x64 .f32) (x3 : Vec Ideal S1x64 .f32) (x4 : Vec Ideal S64x64 .f32) (x5 : Vec Ideal S1x64 .f32) (x6 : Vec Ideal S64x256 .f32) (x7 : Vec Ideal S64x256 .f32) (x8 : Vec Ideal S1x256 .f32) (x9 : Vec Ideal S4096x2048 .bf16) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 = block (hidden x0 x1 x2 x3 x4 x5) x6 x7 x8 x9 := by
  unfold out0_A_10
  frame_out
  exact stored _ _ _ _ _ _

theorem stored_B (c : Dev nD) (i : grid0.Coords) (arg1 : Memref sig .tc .vmem S2048x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x256 .f32) (harg7 : arg7.IsWhole) (arg8 : Memref sig .tc .vmem S64x256 .f32) (harg8 : arg8.IsWhole) (arg9 : Memref sig .tc .vmem S1x256 .f32) (harg9 : arg9.IsWhole) (arg10 : Memref sig .tc .vmem S4096x2048 .bf16) (harg10 : arg10.IsWhole) (arg11 : Memref sig .tc .vmem S4096x256 .f32) (harg11 : arg11.IsWhole) (arg12 : Memref sig .tc .vmem S2048x64 .f32) (harg12 : arg12.IsWhole) (hc0 : ¬cond0_0 i) (x0 : Vec Ideal S2048x128 .f32) (x1 : Vec Ideal S128x64 .f32) (x2 : Vec Ideal S1x64 .f32) (x3 : Vec Ideal S1x64 .f32) (x4 : Vec Ideal S64x64 .f32) (x5 : Vec Ideal S1x64 .f32) (x6 : Vec Ideal S64x256 .f32) (x7 : Vec Ideal S64x256 .f32) (x8 : Vec Ideal S1x256 .f32) (x9 : Vec Ideal S4096x2048 .bf16) (xs0 : Vec Ideal S2048x64 .f32) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0 = block xs0 x6 x7 x8 x9 := by
  unfold out0_B_10
  frame_out
  exact stored _ _ _ _ _ _

end Cert.KspecIdeal.Terms

end
-- ==== Proof.KsMath.lean ====
/-
  The filter network on finite entries: a layer of sines, the two filters under the window, and the sums over padded and
  split factors as plain sums.
-/
module

public import proofs.«01_k».proof.Proof.KsStore

@[expose] public section

noncomputable section

namespace Cert.Filter

open Idealize.ShloMosaic
open Cert.Finite (Finite split_sum)
open Cert.KspecIdeal.Terms (split3 unit window specRow)

theorem finite_add {x y : EReal} (hx : Finite x) (hy : Finite y) : Finite (x + y) := by
  lift x to ℝ using hx
  lift y to ℝ using hy
  rw [← EReal.coe_add]
  exact ⟨EReal.coe_ne_top _, EReal.coe_ne_bot _⟩

theorem finite_mul {x y : EReal} (hx : Finite x) (hy : Finite y) : Finite (x * y) := by
  lift x to ℝ using hx
  lift y to ℝ using hy
  rw [← EReal.coe_mul]
  exact ⟨EReal.coe_ne_top _, EReal.coe_ne_bot _⟩

theorem finite_zero : Finite 0 := ⟨EReal.zero_ne_top, EReal.zero_ne_bot⟩

theorem finite_sum {n : ℕ} (f : Fin n → EReal) (h : ∀ k, Finite (f k)) : Finite (∑ k, f k) :=
  Finset.sum_induction f Finite (fun _ _ => finite_add) finite_zero fun k _ => h k

theorem finite_sin {x : EReal} (hx : Finite x) : Finite (Ideal.sin x) := by
  lift x to ℝ using hx
  exact ⟨EReal.coe_ne_top _, EReal.coe_ne_bot _⟩

/-- One unit of a layer: the sine of the frequency times the weighted sum with the bias. -/
def layer {n : ℕ} (fr b : EReal) (s w : Fin n → EReal) : EReal := Ideal.sin (fr * (∑ k, s k * w k + b))

theorem layer_finite {n : ℕ} {fr b : EReal} {s w : Fin n → EReal} (hf : Finite fr) (hb : Finite b) (hs : ∀ k, Finite (s k)) (hw : ∀ k, Finite (w k)) :
    Finite (layer fr b s w) :=
  finite_sin (finite_mul hf (finite_add (finite_sum _ fun k => finite_mul (hs k) (hw k)) hb))

theorem split3_of {n : ℕ} {s w : Fin n → EReal} (hs : ∀ k, Finite (s k)) (hw : ∀ k, Finite (w k)) : split3 s w = ∑ k, s k * w k :=
  split_sum s w hs hw

theorem unit_of {n : ℕ} {fr b : EReal} {s w : Fin n → EReal} (hs : ∀ k, Finite (s k)) (hw : ∀ k, Finite (w k)) : unit fr b s w = layer fr b s w := by
  unfold unit layer
  rw [split3_of hs hw]

/-- Thirty-three entries and zeros. -/
def padded (f : Fin 33 → EReal) (l : Fin 128) : EReal := if h : l.val < 33 then f ⟨l.val, h⟩ else 0

theorem padded_finite {f : Fin 33 → EReal} (h : ∀ l, Finite (f l)) (l : Fin 128) : Finite (padded f l) := by
  unfold padded
  split_ifs
  · exact h _
  · exact finite_zero

theorem padded_sum (f g : Fin 33 → EReal) : ∑ l, padded f l * padded g l = ∑ l, f l * g l := by
  refine (Fin.sum_univ_add (a := 33) (b := 95) fun l : Fin (33 + 95) => padded f l * padded g l).trans ?_
  rw [Finset.sum_eq_zero (s := (Finset.univ : Finset (Fin 95))), add_zero]
  · refine Finset.sum_congr rfl fun l _ => ?_
    unfold padded
    rw [dif_pos (show (Fin.castAdd 95 l).val < 33 from l.isLt), dif_pos (show (Fin.castAdd 95 l).val < 33 from l.isLt)]
    rfl
  · intro l _
    unfold padded
    rw [dif_neg (by show ¬ 33 + l.val < 33; omega), zero_mul]

theorem unit_padded {fr b : EReal} {s w : Fin 33 → EReal} (hs : ∀ k, Finite (s k)) (hw : ∀ k, Finite (w k)) :
    unit fr b (padded s) (padded w) = layer fr b s w := by
  rw [unit_of (padded_finite hs) (padded_finite hw)]
  unfold layer
  rw [padded_sum]

section network

variable (z : Fin 2048 → Fin 33 → EReal) (w1 : Fin 33 → Fin 64 → EReal) (b1 fr : Fin 64 → EReal) (w2 : Fin 64 → Fin 64 → EReal) (b2 : Fin 64 → EReal)
  (w3 : Fin 64 → Fin 2048 → EReal) (dl : Fin 1024 → EReal)

def first (s : Fin 2048) (k : Fin 64) : EReal := layer (fr k) (b1 k) (z s) (fun l => w1 l k)
def second (s : Fin 2048) (j : Fin 64) : EReal := layer (fr j) (b2 j) (first z w1 b1 fr s) (fun k => w2 k j)

/-- The two filters of channel `d`: the forward one from the first half of the last layer, the backward one from the second. -/
def ahead (d : Fin 1024) (s : Fin 2048) : EReal :=
  (∑ k, second z w1 b1 fr w2 b2 s k * w3 k ⟨d.val, by omega⟩) * window s.val (dl d)
def behind (d : Fin 1024) (s : Fin 2048) : EReal :=
  if s.val = 0 then 0 else (∑ k, second z w1 b1 fr w2 b2 s k * w3 k ⟨1024 + d.val, by omega⟩) * window s.val (dl d)

/-- Row `r` of channel `d`'s spectrum. -/
def filterRow (table : Fin 4096 → Fin 2048 → EReal) (r : Fin 4096) (d : Fin 1024) : EReal :=
  specRow (ahead z w1 b1 fr w2 b2 w3 dl d) (behind z w1 b1 fr w2 b2 w3 dl d) r.val (table r)

end network

end Cert.Filter

end
-- ==== Proof.KsHost.lean ====
/-
  The filter's host code: the embedding of the positions and the decays are the reference's, and every entry of the
  embedding is finite.
-/
module

public import proofs.«01_k».proof.Proof.KsMath
public import proofs.«01_k».proof.Proof.Gen.KspecRefIdeal.Read
public import Idealize.ShloMosaic.Lib.StableHlo.RunClose

@[expose] public section

set_option maxRecDepth 16384

noncomputable section

namespace Cert.Filter

open Idealize.ShloMosaic Cert.KspecRefIdeal Cert.KspecRefIdeal.Gen Cert.KspecRefIdeal.Read
open Cert.Finite (Finite)

theorem finite_coe (r : ℝ) : Finite (r : EReal) := ⟨EReal.coe_ne_top _, EReal.coe_ne_bot _⟩

theorem finite_cos {x : EReal} (hx : Finite x) : Finite (Ideal.cos x) := by
  lift x to ℝ using hx
  exact finite_coe _

theorem finite_neg {x : EReal} (hx : Finite x) : Finite (-x) := by
  lift x to ℝ using hx
  rw [← EReal.coe_neg]
  exact finite_coe _

theorem finite_sub {x y : EReal} (hx : Finite x) (hy : Finite y) : Finite (x - y) := by
  rw [sub_eq_add_neg]
  exact finite_add hx (finite_neg hy)

theorem finite_div {x : EReal} {r : ℝ} (hx : Finite x) (hr : r ≠ 0) : Finite (Ideal.div x (r : EReal)) := by
  lift x to ℝ using hx
  rw [Ideal.div_coe hr]
  exact finite_coe _

theorem quotient_finite {x y : EReal} (hx : Finite x) (hy : ∃ r : ℝ, r ≠ 0 ∧ y = (r : EReal)) : Finite (Ideal.div x y) := by
  obtain ⟨r, hr, rfl⟩ := hy
  exact finite_div hx hr

theorem finite_int (b : BitVec 32) : Finite (FloatOps.sitofp (F := Ideal) .f32 b) := finite_coe _

theorem eq_15 : ∃ r : ℝ, r ≠ 0 ∧ Ideal.ofBits .f32 0x41700000#32 = (r : EReal) :=
  ⟨15, by norm_num, by simp [Ideal.ofBits, Ideal.ieee, -EReal.coe_mul]; norm_num⟩

theorem eq_2047 : ∃ r : ℝ, r ≠ 0 ∧ Ideal.ofBits .f32 0x44FFE000#32 = (r : EReal) :=
  ⟨2047, by norm_num, by simp [Ideal.ofBits, Ideal.ieee, -EReal.coe_mul]; norm_num⟩

theorem eq_2048 : ∃ r : ℝ, r ≠ 0 ∧ Ideal.ofBits .f32 0x45000000#32 = (r : EReal) :=
  ⟨2048, by norm_num, by simp [Ideal.ofBits, Ideal.ieee, -EReal.coe_mul]; norm_num⟩

theorem turn_finite : Finite (Ideal.ofBits .f32 0x40C90FDB#32) := by
  have e : ∃ r : ℝ, Ideal.ofBits .f32 0x40C90FDB#32 = (r : EReal) := ⟨_, by simp [Ideal.ofBits, Ideal.ieee, -EReal.coe_mul]; rfl⟩
  obtain ⟨r, e⟩ := e
  rw [e]
  exact finite_coe r

theorem lowest_finite : Finite (Ideal.ofBits .f32 0x38D1B717#32) := by
  have e : ∃ r : ℝ, Ideal.ofBits .f32 0x38D1B717#32 = (r : EReal) := ⟨_, by simp [Ideal.ofBits, Ideal.ieee, -EReal.coe_mul]; rfl⟩
  obtain ⟨r, e⟩ := e
  rw [e]
  exact finite_coe r

theorem finite_one : Finite 1 := finite_coe 1

/-- The bands: fifteen evenly spaced and the last. -/
theorem bands_finite (k : Fin 16) : Finite (val_main_v4 (F := Ideal) (ix1 k)) := by
  have e : val_main_v4 (F := Ideal) (ix1 k) = if h : k.val < 15 then val_main_call0_v15 (F := Ideal) (ix1 ⟨k.val, h⟩) else val_main_call0_v16 (F := Ideal) (ix1 ⟨k.val - 15, by omega⟩) := by
    unfold val_main_v4
    generalize val_main_call0_v15 (F := Ideal) = a
    generalize val_main_call0_v16 (F := Ideal) = b
    pointwise!
  rw [e]
  split_ifs with h
  · have e : val_main_call0_v15 (F := Ideal) (ix1 ⟨k.val, h⟩) = Ideal.ofBits .f32 0x38D1B717#32 *
        (1 - Ideal.div (FloatOps.sitofp (F := Ideal) .f32 (BitVec.ofNat 32 k.val)) (Ideal.ofBits .f32 0x41700000#32)) +
      FloatOps.sitofp (F := Ideal) .f32 15#32 * Ideal.div (FloatOps.sitofp (F := Ideal) .f32 (BitVec.ofNat 32 k.val)) (Ideal.ofBits .f32 0x41700000#32) := by
      pointwise! [val_main_call0_v15, val_main_call0_v14, val_main_call0_v13, val_main_call0_v12, val_main_call0_v11, val_main_call0_v10, val_main_call0_v9, val_main_call0_v8, val_main_call0_v7,
        val_main_call0_v6, val_main_call0_v5, val_main_call0_v4, val_main_call0_v1, val_main_call0_v0, val_main_call0_cst_0, val_main_call0_cst_1, val_main_cst_0, val_main_c]
    rw [e]
    have hq : Finite (Ideal.div (FloatOps.sitofp (F := Ideal) .f32 (BitVec.ofNat 32 k.val)) (Ideal.ofBits .f32 0x41700000#32)) := quotient_finite (finite_int _) eq_15
    exact finite_add (finite_mul lowest_finite (finite_sub finite_one hq)) (finite_mul (finite_int _) hq)
  · have e : val_main_call0_v16 (F := Ideal) (ix1 ⟨k.val - 15, by omega⟩) = FloatOps.sitofp (F := Ideal) .f32 15#32 := by
      pointwise! [val_main_call0_v16, val_main_call0_v1, val_main_c]
    rw [e]
    exact finite_int _

theorem angle_finite (s : Fin 2048) (k : Fin 16) : Finite (val_main_v12 (F := Ideal) (ix2 s k)) := by
  have e : val_main_v12 (F := Ideal) (ix2 s k) = Ideal.div (val_main_v4 (F := Ideal) (ix1 k) * Ideal.ofBits .f32 0x40C90FDB#32 *
      FloatOps.sitofp (F := Ideal) .f32 (BitVec.ofNat 32 s.val)) (Ideal.ofBits .f32 0x45000000#32) := by
    unfold val_main_v12 val_main_v10 val_main_v8 val_main_v7 val_main_v5
    generalize val_main_v4 (F := Ideal) = a
    pointwise! [val_main_v11, val_main_v9, val_main_v6, val_main_v1, val_main_v0, val_main_cst_1, val_main_cst_2]
  rw [e]
  exact quotient_finite (finite_mul (finite_mul (bands_finite k) turn_finite) (finite_int _)) eq_2048

theorem time_finite (s : Fin 2048) (z : Fin 1) : Finite (val_main_v3 (F := Ideal) (ix2 s z)) := by
  have e : val_main_v3 (F := Ideal) (ix2 s z) = Ideal.div (FloatOps.sitofp (F := Ideal) .f32 (BitVec.ofNat 32 s.val)) (Ideal.ofBits .f32 0x44FFE000#32) := by
    pointwise! [val_main_v3, val_main_v2, val_main_v1, val_main_v0, val_main_cst]
  rw [e]
  exact quotient_finite (finite_int _) eq_2047

/-- Every entry of the embedding is finite: a position's fraction, a cosine or a sine. -/
theorem emb_finite (s : Fin 2048) (l : Fin 33) : Finite (val_main_v16 (F := Ideal) (ix2 s l)) := by
  have e : val_main_v16 (F := Ideal) (ix2 s l) = if h : l.val < 1 then val_main_v3 (F := Ideal) (ix2 s ⟨l.val, h⟩)
      else if h : l.val - 1 < 16 then val_main_v13 (F := Ideal) (ix2 s ⟨l.val - 1, h⟩) else val_main_v15 (F := Ideal) (ix2 s ⟨l.val - 1 - 16, by omega⟩) := by
    unfold val_main_v16
    generalize val_main_v3 (F := Ideal) = a
    generalize val_main_v13 (F := Ideal) = b
    generalize val_main_v15 (F := Ideal) = c
    pointwise!
  rw [e]
  split_ifs with h1 h2
  · exact time_finite s _
  · exact finite_cos (angle_finite s _)
  · exact finite_neg (finite_sin (angle_finite s _))

end Cert.Filter

namespace Cert.KspecIdeal.Terms

open Cert.KspecIdeal Cert.KspecIdeal.Gen Idealize.ShloMosaic Idealize.ShloMosaic.TcCoe Idealize.ShloMosaic.Tactic

variable (m : (ℓ : Loc nD τ sig) → Buf (Elt Ideal) ℓ) (c : Dev nD)

theorem V_emb : V m c main_v17 = pad S2048x128 ![0, 0] ![0, 95] ![0, 0] (Cert.KspecRefIdeal.Read.val_main_v16 (F := Ideal)) (sitofp (F := Ideal) .f32 (constantI S_ 32 0#32)) pads_S2048x33_S2048x128_000_0950 h_S_ := by
  unfold V
  simp only [hostOps0_8, StableHlo.TRef.unary, StableHlo.TRef.binary, StableHlo.TRef.nullary, StableHlo.TRef.reshape, List.flatten_cons, List.flatten_nil, List.append_nil, List.cons_append, List.nil_append]
  after_results_simp
  generalize hx : concatenate S2048x33 1 _ _ = x
  have e : x = Cert.KspecRefIdeal.Read.val_main_v16 (F := Ideal) := by
    rw [← hx]
    unfold Cert.KspecRefIdeal.Read.val_main_v16
    rfl
  rw [← e]
  rfl

theorem V_decay : V m c main_v30 = broadcastInDim S1x1024 ![1] bcast_S1024_S1x1024_1 (Cert.KspecRefIdeal.Read.val_main_v40 (F := Ideal)) := by
  unfold V
  simp only [hostOps0_8, StableHlo.TRef.unary, StableHlo.TRef.binary, StableHlo.TRef.nullary, StableHlo.TRef.reshape, List.flatten_cons, List.flatten_nil, List.append_nil, List.cons_append, List.nil_append]
  after_results_simp
  rfl

end Cert.KspecIdeal.Terms

end
-- ==== Proof.KsReads.lean ====
/-
  The arrays that a grid point of the filter's spectrum call reads. The embedding and the first layer's weights are padded
  with zeros from 33 to 128 features; point `t` works on columns `256 t` to `256 t + 255` of each half of the last layer.
-/
module

public import proofs.«01_k».proof.Proof.KsHost

@[expose] public section

set_option maxRecDepth 16384

noncomputable section

namespace Cert.KspecIdeal.Terms

open Cert.KspecIdeal Cert.KspecIdeal.Gen Idealize.ShloMosaic Idealize.ShloMosaic.TcCoe Idealize.ShloMosaic.Tactic

variable (m : (ℓ : Loc nD τ sig) → Buf (Elt Ideal) ℓ) (c : Dev nD)

theorem idx_all : ∀ t : Fin cfg0.N,
    win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, t.val] ∧ win0_7.index t = ![0, 4 + t.val]
    ∧ win0_8.index t = ![0, t.val] ∧ win0_9.index t = ![0, 0] ∧ win0_10.index t = ![0, t.val] :=
  (by decide +kernel : ∀ t : Fin grid0.N, _)

theorem lt_N (t : Fin cfg0.N) : t.val < 4 := lt_of_lt_of_eq t.isLt (show cfg0.N = 4 from N_0)

theorem V_b1 (z : Fin 1) (k : Fin 64) : V m c main_v21 (ix2 z k) = m ((c : Thread nD τ).loc main_arg1) (ix2 0 k) := by
  unfold V
  simp only [hostOps0_8, StableHlo.TRef.unary, StableHlo.TRef.binary, StableHlo.TRef.nullary, StableHlo.TRef.reshape, List.flatten_cons, List.flatten_nil, List.append_nil, List.cons_append, List.nil_append]
  after_results_simp_entrywise
  pointwise!

theorem V_fr (z : Fin 1) (k : Fin 64) : V m c main_v23 (ix2 z k) = m ((c : Thread nD τ).loc main_arg2) (ix2 0 k) := by
  unfold V
  simp only [hostOps0_8, StableHlo.TRef.unary, StableHlo.TRef.binary, StableHlo.TRef.nullary, StableHlo.TRef.reshape, List.flatten_cons, List.flatten_nil, List.append_nil, List.cons_append, List.nil_append]
  after_results_simp_entrywise
  pointwise!

theorem V_w2 (k j : Fin 64) : V m c main_v24 (ix2 k j) = m ((c : Thread nD τ).loc main_arg3) (ix3 0 k j) := by
  unfold V
  simp only [hostOps0_8, StableHlo.TRef.unary, StableHlo.TRef.binary, StableHlo.TRef.nullary, StableHlo.TRef.reshape, List.flatten_cons, List.flatten_nil, List.append_nil, List.cons_append, List.nil_append]
  after_results_simp_entrywise
  pointwise!

theorem V_b2 (z : Fin 1) (k : Fin 64) : V m c main_v26 (ix2 z k) = m ((c : Thread nD τ).loc main_arg4) (ix2 0 k) := by
  unfold V
  simp only [hostOps0_8, StableHlo.TRef.unary, StableHlo.TRef.binary, StableHlo.TRef.nullary, StableHlo.TRef.reshape, List.flatten_cons, List.flatten_nil, List.append_nil, List.cons_append, List.nil_append]
  after_results_simp_entrywise
  pointwise!

theorem V_w3 (k : Fin 64) (j : Fin 2048) : V m c main_v27 (ix2 k j) = m ((c : Thread nD τ).loc main_arg5) (ix3 0 k j) := by
  unfold V
  simp only [hostOps0_8, StableHlo.TRef.unary, StableHlo.TRef.binary, StableHlo.TRef.nullary, StableHlo.TRef.reshape, List.flatten_cons, List.flatten_nil, List.append_nil, List.cons_append, List.nil_append]
  after_results_simp_entrywise
  pointwise!

theorem V_dl (z : Fin 1) (j : Fin 1024) : V m c main_v30 (ix2 z j) = Cert.KspecRefIdeal.Read.val_main_v40 (F := Ideal) (ix1 j) := by
  rw [V_decay]
  generalize Cert.KspecRefIdeal.Read.val_main_v40 (F := Ideal) = a
  pointwise!

theorem read_b1 (t : Fin cfg0.N) (z : Fin 1) (k : Fin 64) : iblk m c 2 t (ix2 z k) = m ((c : Thread nD τ).loc main_arg1) (ix2 0 k) := by
  refine Eq.trans ?_ (V_b1 m c z k)
  blk_ext! [iblk, idx_all t]

theorem read_fr (t : Fin cfg0.N) (z : Fin 1) (k : Fin 64) : iblk m c 3 t (ix2 z k) = m ((c : Thread nD τ).loc main_arg2) (ix2 0 k) := by
  refine Eq.trans ?_ (V_fr m c z k)
  blk_ext! [iblk, idx_all t]

theorem read_w2 (t : Fin cfg0.N) (k j : Fin 64) : iblk m c 4 t (ix2 k j) = m ((c : Thread nD τ).loc main_arg3) (ix3 0 k j) := by
  refine Eq.trans ?_ (V_w2 m c k j)
  blk_ext! [iblk, idx_all t]

theorem read_b2 (t : Fin cfg0.N) (z : Fin 1) (k : Fin 64) : iblk m c 5 t (ix2 z k) = m ((c : Thread nD τ).loc main_arg4) (ix2 0 k) := by
  refine Eq.trans ?_ (V_b2 m c z k)
  blk_ext! [iblk, idx_all t]

theorem read_w3f (t : Fin cfg0.N) (k : Fin 64) (d : Fin 256) : iblk m c 6 t (ix2 k d) = m ((c : Thread nD τ).loc main_arg5) (ix3 0 k ⟨256 * t.val + d.val, by have := lt_N t; omega⟩) := by
  have := lt_N t
  refine Eq.trans ?_ (V_w3 m c k _)
  blk_ext! [iblk, idx_all t]

theorem read_w3b (t : Fin cfg0.N) (k : Fin 64) (d : Fin 256) : iblk m c 7 t (ix2 k d) = m ((c : Thread nD τ).loc main_arg5) (ix3 0 k ⟨1024 + (256 * t.val + d.val), by have := lt_N t; omega⟩) := by
  have := lt_N t
  refine Eq.trans ?_ (V_w3 m c k _)
  blk_ext! [iblk, idx_all t]

theorem read_dl (t : Fin cfg0.N) (z : Fin 1) (d : Fin 256) : iblk m c 8 t (ix2 z d) = Cert.KspecRefIdeal.Read.val_main_v40 (F := Ideal) (ix1 ⟨256 * t.val + d.val, by have := lt_N t; omega⟩) := by
  have := lt_N t
  refine Eq.trans ?_ (V_dl m c z _)
  blk_ext! [iblk, idx_all t]

theorem read_f (t : Fin cfg0.N) (r : Fin 4096) (s : Fin 2048) : iblk m c 9 t (ix2 r s) = m ((c : Thread nD τ).loc main_arg6) (ix2 r s) := by
  blk_ext! [iblk, V, idx_all t]

theorem read_z (t : Fin cfg0.N) (s : Fin 2048) (l : Fin 128) : iblk m c 0 t (ix2 s l) = V m c main_v17 (ix2 s l) := by
  blk_ext! [iblk, idx_all t]

theorem read_w1 (t : Fin cfg0.N) (l : Fin 128) (k : Fin 64) : iblk m c 1 t (ix2 l k) = V m c main_v19 (ix2 l k) := by
  blk_ext! [iblk, idx_all t]

theorem zero_float : (FloatOps.sitofp (F := Ideal) .f32 0#32 : EReal) = 0 := by
  show ((((0#32 : BitVec 32).toInt : ℤ) : ℝ) : EReal) = 0
  simp

/-- Columns of zeros after the 33rd, and rows of zeros. -/
theorem pad_cols (x : Vec Ideal S2048x33 .f32) (s : Fin 2048) (l : Fin 128) :
    (pad S2048x128 ![0, 0] ![0, 95] ![0, 0] x (sitofp (F := Ideal) .f32 (constantI S_ 32 0#32)) pads_S2048x33_S2048x128_000_0950 h_S_ : Vec Ideal S2048x128 .f32) (ix2 s l)
      = if h : l.val < 33 then x (ix2 s ⟨l.val, h⟩) else (0 : EReal) := by
  pointwise!
  rw [zero_float]

theorem pad_rows (x : Vec Ideal S33x64 .f32) (l : Fin 128) (k : Fin 64) :
    (pad S128x64 ![0, 0] ![95, 0] ![0, 0] x (sitofp (F := Ideal) .f32 (constantI S_ 32 0#32)) pads_S33x64_S128x64_0950_000 h_S_ : Vec Ideal S128x64 .f32) (ix2 l k)
      = if h : l.val < 33 then x (ix2 ⟨l.val, h⟩ k) else (0 : EReal) := by
  pointwise!
  rw [zero_float]

theorem one_layer (x : Vec Ideal S1x33x64 .f32) (a : Fin 33) (k : Fin 64) : shapeCast S33x64 x shapeCasts_S1x33x64_S33x64 (ix2 a k) = x (ix3 0 a k) := by
  pointwise!

/-- The padded embedding. -/
theorem emb_apply (s : Fin 2048) (l : Fin 128) :
    V m c main_v17 (ix2 s l) = if h : l.val < 33 then Cert.KspecRefIdeal.Read.val_main_v16 (F := Ideal) (ix2 s ⟨l.val, h⟩) else (0 : EReal) := by
  rw [V_emb]
  exact pad_cols _ s l

/-- The padded weights. -/
theorem w1_apply (l : Fin 128) (k : Fin 64) :
    V m c main_v19 (ix2 l k) = if h : l.val < 33 then m ((c : Thread nD τ).loc main_arg0) (ix3 0 ⟨l.val, h⟩ k) else (0 : EReal) := by
  unfold V
  simp only [hostOps0_8, StableHlo.TRef.unary, StableHlo.TRef.binary, StableHlo.TRef.nullary, StableHlo.TRef.reshape, List.flatten_cons, List.flatten_nil, List.append_nil, List.cons_append, List.nil_append]
  after_results_simp_entrywise
  refine (pad_rows (shapeCast S33x64 (m ((c : Thread nD τ).loc main_arg0)) shapeCasts_S1x33x64_S33x64) l k).trans ?_
  split_ifs with h
  · exact one_layer _ _ _
  · rfl

end Cert.KspecIdeal.Terms

end
-- ==== Proof.KsValue.lean ====
/-
  The filter's spectrum: the network's output kept in the scratch from the first point on, what a grid point writes, and
  the result array element by element, for finite frequencies, weights and biases.
-/
module

public import proofs.«01_k».proof.Proof.KsReads
public import proofs.«01_k».proof.Proof.KsMath
public import proofs.«01_k».proof.Proof.Gen.Pre_finite_filter
public import Idealize.ShloMosaic.Lib.ReduceAll
public import Idealize.ShloMosaic.Lib.Claim
public import Idealize.ShloMosaic.Lib.Pipeline.ValueKit.Held

@[expose] public section

set_option maxRecDepth 16384

noncomputable section

namespace Cert.KspecIdeal.Terms

open Cert.KspecIdeal Cert.KspecIdeal.Gen Idealize.ShloMosaic Idealize.ShloMosaic.TcCoe Idealize.ShloMosaic.Tactic
open Cert.Finite (Finite of_cmp)
open Cert.Filter

variable (m : (ℓ : Loc nD τ sig) → Buf (Elt Ideal) ℓ) (c : Dev nD)

def aZ (s : Fin 2048) (l : Fin 33) : EReal := Cert.KspecRefIdeal.Read.val_main_v16 (F := Ideal) (ix2 s l)
def aW1 (l : Fin 33) (k : Fin 64) : EReal := m ((c : Thread nD τ).loc main_arg0) (ix3 0 l k)
def aB1 (k : Fin 64) : EReal := m ((c : Thread nD τ).loc main_arg1) (ix2 0 k)
def aFr (k : Fin 64) : EReal := m ((c : Thread nD τ).loc main_arg2) (ix2 0 k)
def aW2 (k j : Fin 64) : EReal := m ((c : Thread nD τ).loc main_arg3) (ix3 0 k j)
def aB2 (k : Fin 64) : EReal := m ((c : Thread nD τ).loc main_arg4) (ix2 0 k)
def aW3 (k : Fin 64) (d : Fin 2048) : EReal := m ((c : Thread nD τ).loc main_arg5) (ix3 0 k d)
def aDl (d : Fin 1024) : EReal := Cert.KspecRefIdeal.Read.val_main_v40 (F := Ideal) (ix1 d)
def aT (r : Fin 4096) (s : Fin 2048) : EReal := m ((c : Thread nD τ).loc main_arg6) (ix2 r s)

/-- The result array. -/
def result (i : S4096x1024.Idx) : EReal :=
  filterRow (aZ) (aW1 m c) (aB1 m c) (aFr m c) (aW2 m c) (aB2 m c) (aW3 m c) (aDl) (aT m c) (i 0) (i 1)

/-- The network's output at a position. -/
def net (s : Fin 2048) (k : Fin 64) : EReal := second (aZ) (aW1 m c) (aB1 m c) (aFr m c) (aW2 m c) (aB2 m c) s k

/-- The frequencies, the weights and the biases are finite. -/
structure Ok : Prop where
  w1 : ∀ l k, Finite (aW1 m c l k)
  b1 : ∀ k, Finite (aB1 m c k)
  fr : ∀ k, Finite (aFr m c k)
  w2 : ∀ k j, Finite (aW2 m c k j)
  b2 : ∀ k, Finite (aB2 m c k)
  w3 : ∀ k d, Finite (aW3 m c k d)

/-- The scratch as the first point would leave it, from point `t`'s own blocks. -/
def kept (t : Fin cfg0.N) : Vec Ideal S2048x64 .f32 := hidden (iblk m c 0 t) (iblk m c 1 t) (iblk m c 2 t) (iblk m c 3 t) (iblk m c 4 t) (iblk m c 5 t)

theorem kept_held (t : Fin cfg0.N) : ∃ t', (outsAt0 m c t.val t.isLt).2 = kept m c t' := by
  have := lt_N t
  refine ⟨_, Pipeline.eq_of_write_hold (fun n h => (outsAt0 m c n h).2) 4 (kept m c) (fun t h0 => ?_) (fun t h0 => ?_) t⟩
  · rw [outsAt0_A m c t h0]
    dsimp only
    exact kept_A ..
  · rw [outsAt0_B m c t h0]
    dsimp only
    unfold sout0_B_0
    rfl

theorem out_block (t : Fin cfg0.N) : ∃ t', (outsAt0 m c t.val t.isLt).1 = block (kept m c t') (iblk m c 6 t) (iblk m c 7 t) (iblk m c 8 t) (iblk m c 9 t) := by
  by_cases h0 : t.val % 4 = 0
  · refine ⟨t, ?_⟩
    rw [outsAt0_A m c t h0]
    dsimp only
    exact stored_A ..
  · obtain ⟨t', e⟩ := kept_held m c ⟨t.val - 1, Nat.lt_of_le_of_lt (Nat.sub_le _ _) t.isLt⟩
    refine ⟨t', ?_⟩
    rw [outsAt0_B m c t h0]
    dsimp only
    refine (stored_B ..).trans ?_
    rw [show (outsAt0 m c (t.val - 1) (Nat.lt_of_le_of_lt (Nat.sub_le _ _) t.isLt)).2 = kept m c t' from e]

variable {m c}

theorem aZ_finite (s : Fin 2048) (l : Fin 33) : Finite (aZ s l) := emb_finite s l

theorem Ok.first (ok : Ok m c) (s : Fin 2048) (k : Fin 64) : Finite (first (aZ) (aW1 m c) (aB1 m c) (aFr m c) s k) :=
  layer_finite (ok.fr k) (ok.b1 k) (aZ_finite s) fun l => ok.w1 l k

theorem Ok.net (ok : Ok m c) (s : Fin 2048) (k : Fin 64) : Finite (net m c s k) :=
  layer_finite (ok.fr k) (ok.b2 k) (fun j => ok.first s j) fun j => ok.w2 j k

theorem kept_apply (ok : Ok m c) (t : Fin cfg0.N) (s : Fin 2048) (j : Fin 64) : kept m c t (ix2 s j) = net m c s j := by
  unfold kept hidden
  refine (pay4_apply _ _ _ s j).trans ?_
  rw [pay3_apply]
  have ez : (fun l => iblk m c 0 t (ix2 s l)) = padded (aZ s) := funext fun l => (read_z m c t s l).trans (emb_apply m c s l)
  have ew : ∀ k : Fin 64, (fun l => iblk m c 1 t (ix2 l k)) = padded (fun l => aW1 m c l k) := fun k =>
    funext fun l => (read_w1 m c t l k).trans (w1_apply m c l k)
  have ef : ∀ k : Fin 64, iblk m c 3 t (ix2 0 k) = aFr m c k := fun k => read_fr m c t 0 k
  have eb : ∀ k : Fin 64, iblk m c 2 t (ix2 0 k) = aB1 m c k := fun k => read_b1 m c t 0 k
  have eb2 : ∀ k : Fin 64, iblk m c 5 t (ix2 0 k) = aB2 m c k := fun k => read_b2 m c t 0 k
  have ew2 : ∀ k j : Fin 64, iblk m c 4 t (ix2 k j) = aW2 m c k j := fun k j => read_w2 m c t k j
  simp only [ef, eb, eb2, ew2, ez, ew]
  simp only [unit_padded (aZ_finite s) (fun l => ok.w1 l _)]
  rw [split3_of (s := fun k => layer (aFr m c k) (aB1 m c k) (aZ s) fun l => aW1 m c l k) (fun k => ok.first s k) (fun k => ok.w2 k j)]
  rfl

/-- Point `t`'s block at row `r` and column `d` is the result's row `r` and column `256 t + d`. -/
theorem block_apply (ok : Ok m c) (t t' : Fin cfg0.N) (r : Fin 4096) (d : Fin 256) (i : S4096x1024.Idx) (h0 : (i 0).val = r.val)
    (h1 : (i 1).val = 256 * t.val + d.val) :
    block (kept m c t') (iblk m c 6 t) (iblk m c 7 t) (iblk m c 8 t) (iblk m c 9 t) (ix2 r d) = result m c i := by
  have hN := lt_N t
  have e0 : i 0 = r := Fin.ext h0
  have hd : (i 1).val < 1024 := (i 1).isLt
  have ef : forward (kept m c t') (iblk m c 6 t) (iblk m c 8 t) d = ahead (aZ) (aW1 m c) (aB1 m c) (aFr m c) (aW2 m c) (aB2 m c) (aW3 m c) (aDl) (i 1) := by
    funext s
    unfold forward ahead
    have e1 : (⟨256 * t.val + d.val, by omega⟩ : Fin 1024) = i 1 := Fin.ext h1.symm
    have e2 : ∀ k, iblk m c 6 t (ix2 k d) = aW3 m c k ⟨(i 1).val, by omega⟩ := fun k => (read_w3f m c t k d).trans (by unfold aW3; simp only [h1])
    have e3 : iblk m c 8 t (ix2 0 d) = aDl (i 1) := (read_dl m c t 0 d).trans (by unfold aDl; rw [e1])
    simp only [kept_apply ok, e2, e3]
    rw [split3_of (ok.net s) (fun k => ok.w3 k _)]
    rfl
  have eb : backward (kept m c t') (iblk m c 7 t) (iblk m c 8 t) d = behind (aZ) (aW1 m c) (aB1 m c) (aFr m c) (aW2 m c) (aB2 m c) (aW3 m c) (aDl) (i 1) := by
    funext s
    unfold backward forward behind
    have e1 : (⟨256 * t.val + d.val, by omega⟩ : Fin 1024) = i 1 := Fin.ext h1.symm
    have e2 : ∀ k, iblk m c 7 t (ix2 k d) = aW3 m c k ⟨1024 + (i 1).val, by omega⟩ := fun k => (read_w3b m c t k d).trans (by unfold aW3; simp only [h1])
    have e3 : iblk m c 8 t (ix2 0 d) = aDl (i 1) := (read_dl m c t 0 d).trans (by unfold aDl; rw [e1])
    simp only [kept_apply ok, e2, e3]
    rw [split3_of (ok.net s) (fun k => ok.w3 k _)]
    rfl
  unfold result filterRow
  show specRow (forward (kept m c t') (iblk m c 6 t) (iblk m c 8 t) d) (backward (kept m c t') (iblk m c 7 t) (iblk m c 8 t) d) r.val (fun s => iblk m c 9 t (ix2 r s)) = _
  rw [ef, eb, e0]
  exact congrArg _ (funext fun s => read_f m c t r s)

theorem arr_eq (ok : Ok m c) : (dats m 0 c).arrAt 10 cfg0.N = result m c := by
  refine (dats m 0 c).arrAt_eq_of_covers 10 _ (by decide +kernel) fun t hf y => ?_
  blk_simp
  rw [after0_10]
  obtain ⟨t', e⟩ := out_block m c t
  rw [e]
  refine (congrArg _ (eq_ix2 y)).trans ?_
  refine block_apply ok t t' (y 0) (y 1) _ ?_ ?_
  all_goals (blk_simp [idx_all t] <;> try omega)

/-- What the precondition says of the arrays. -/
theorem ok_of (h : Cert.Pre_finite_filter.fn (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) = fun _ => 1#1) : Ok m c := by
  have e := congrFun h (fun a => a.elim0)
  haveI : Subsingleton Cert.Pre_finite_filter.S_.Idx := ⟨fun a b => funext fun k => k.elim0⟩
  obtain ⟨el, e3⟩ := IntOp.andi_eq_one.1 e
  obtain ⟨el, eb2⟩ := IntOp.andi_eq_one.1 el
  obtain ⟨el, e2⟩ := IntOp.andi_eq_one.1 el
  obtain ⟨el, ef⟩ := IntOp.andi_eq_one.1 el
  obtain ⟨e1, eb1⟩ := IntOp.andi_eq_one.1 el
  exact ⟨fun l k => of_cmp (Host.reduce_andi_all _ _ _ _ _ e1 (ix3 0 l k)),
    fun k => of_cmp (Host.reduce_andi_all _ _ _ _ _ eb1 (ix2 0 k)), fun k => of_cmp (Host.reduce_andi_all _ _ _ _ _ ef (ix2 0 k)),
    fun k j => of_cmp (Host.reduce_andi_all _ _ _ _ _ e2 (ix3 0 k j)), fun k => of_cmp (Host.reduce_andi_all _ _ _ _ _ eb2 (ix2 0 k)),
    fun k d => of_cmp (Host.reduce_andi_all _ _ _ _ _ e3 (ix3 0 k d))⟩

end Cert.KspecIdeal.Terms

end
-- ==== Proof.KsRefRow.lean ====
/-
  The filter's spectrum in the reference, element by element, as the same function of the argument arrays.
-/
module

public import proofs.«01_k».proof.Proof.KsValue
public import proofs.«01_k».proof.Proof.HyRows
public import proofs.«01_k».proof.Proof.Gen.KspecRefIdeal.Read

@[expose] public section

set_option maxRecDepth 16384

noncomputable section

namespace Cert.KspecRefIdeal.Rows

open Cert.KspecRefIdeal Cert.KspecRefIdeal.Gen Cert.KspecRefIdeal.Read Idealize.ShloMosaic Idealize.ShloMosaic.TcCoe
open Cert.KspecIdeal.Terms (window specRow invNorm)
open Cert.Filter
open Cert.Hyena (select_eq)

variable (x0 : Vec Ideal S1x33x64 .f32) (x1 x2 : Vec Ideal S1x64 .f32) (x3 : Vec Ideal S1x64x64 .f32) (x4 : Vec Ideal S1x64 .f32)
  (x5 : Vec Ideal S1x64x2048 .f32) (x6 : Vec Ideal S4096x2048 .bf16)

def refFirst (s : Fin 2048) (k : Fin 64) : EReal :=
  first (fun s l => val_main_v16 (F := Ideal) (ix2 s l)) (fun l k => x0 (ix3 0 l k)) (fun k => x1 (ix2 0 k)) (fun k => x2 (ix2 0 k)) s k
def refSecond (s : Fin 2048) (k : Fin 64) : EReal :=
  second (fun s l => val_main_v16 (F := Ideal) (ix2 s l)) (fun l k => x0 (ix3 0 l k)) (fun k => x1 (ix2 0 k)) (fun k => x2 (ix2 0 k)) (fun k j => x3 (ix3 0 k j)) (fun k => x4 (ix2 0 k)) s k
def refAhead (d : Fin 1024) (s : Fin 2048) : EReal :=
  ahead (fun s l => val_main_v16 (F := Ideal) (ix2 s l)) (fun l k => x0 (ix3 0 l k)) (fun k => x1 (ix2 0 k)) (fun k => x2 (ix2 0 k)) (fun k j => x3 (ix3 0 k j)) (fun k => x4 (ix2 0 k))
    (fun k d => x5 (ix3 0 k d)) (fun d => val_main_v40 (F := Ideal) (ix1 d)) d s
def refBehind (d : Fin 1024) (s : Fin 2048) : EReal :=
  behind (fun s l => val_main_v16 (F := Ideal) (ix2 s l)) (fun l k => x0 (ix3 0 l k)) (fun k => x1 (ix2 0 k)) (fun k => x2 (ix2 0 k)) (fun k j => x3 (ix3 0 k j)) (fun k => x4 (ix2 0 k))
    (fun k d => x5 (ix3 0 k d)) (fun d => val_main_v40 (F := Ideal) (ix1 d)) d s

theorem first_apply (s : Fin 2048) (k : Fin 64) : val_main_v27 (F := Ideal) x0 x1 x2 (ix2 s k) = refFirst x0 x1 x2 s k := by
  unfold val_main_v27 val_main_v26 val_main_v23 val_main_v19 refFirst first
  generalize val_main_v16 (F := Ideal) = u
  pointwise! [val_main_v25, val_main_v24, val_main_v22, val_main_v21, val_main_v20, val_main_v18, val_main_v17, layer]

theorem second_apply (s : Fin 2048) (k : Fin 64) : val_main_v38 (F := Ideal) x0 x1 x2 x3 x4 (ix2 s k) = refSecond x0 x1 x2 x3 x4 s k := by
  have e : refSecond x0 x1 x2 x3 x4 s k = layer (x2 (ix2 0 k)) (x4 (ix2 0 k)) (fun j => val_main_v27 (F := Ideal) x0 x1 x2 (ix2 s j)) (fun j => x3 (ix3 0 j k)) := by
    simp only [first_apply]
    rfl
  rw [e]
  unfold val_main_v38 val_main_v37 val_main_v34 val_main_v30
  generalize val_main_v27 (F := Ideal) x0 x1 x2 = u
  pointwise! [val_main_v36, val_main_v35, val_main_v33, val_main_v32, val_main_v31, val_main_v29, val_main_v28, layer]

theorem window_apply (s : Fin 2048) (d : Fin 1024) : val_main_v48 (F := Ideal) (ix2 s d) = window s.val (val_main_v40 (F := Ideal) (ix1 d)) := by
  unfold val_main_v48 val_main_v46 val_main_v45 val_main_v44 val_main_v42
  generalize val_main_v40 (F := Ideal) = a
  pointwise! [val_main_v47, val_main_cst_5, val_main_v43, val_main_v41, val_main_v3, val_main_cst, val_main_v2, val_main_v1, val_main_v0, window]

theorem ahead_apply (s : Fin 2048) (d : Fin 1024) : val_main_v52 (F := Ideal) x0 x1 x2 x3 x4 x5 (ix2 s d) = refAhead x0 x1 x2 x3 x4 x5 d s := by
  have e : refAhead x0 x1 x2 x3 x4 x5 d s = (∑ k, val_main_v38 (F := Ideal) x0 x1 x2 x3 x4 (ix2 s k) * x5 (ix3 0 k ⟨d.val, by omega⟩)) * val_main_v48 (F := Ideal) (ix2 s d) := by
    simp only [second_apply, window_apply]
    rfl
  rw [e]
  unfold val_main_v52 val_main_v51
  generalize val_main_v38 (F := Ideal) x0 x1 x2 x3 x4 = u
  generalize val_main_v48 (F := Ideal) = w
  pointwise! [val_main_v50, val_main_v49]

theorem behind_apply (s : Fin 2048) (d : Fin 1024) : val_main_v61 (F := Ideal) x0 x1 x2 x3 x4 x5 (ix2 s d) = refBehind x0 x1 x2 x3 x4 x5 d s := by
  have e : refBehind x0 x1 x2 x3 x4 x5 d s = if s.val = 0 then 0 else
      (∑ k, val_main_v38 (F := Ideal) x0 x1 x2 x3 x4 (ix2 s k) * x5 (ix3 0 k ⟨1024 + d.val, by omega⟩)) * val_main_v48 (F := Ideal) (ix2 s d) := by
    simp only [second_apply, window_apply]
    rfl
  rw [e, ← select_eq (n := s.val) (k := 0) (by omega) (by omega)]
  unfold val_main_v61 val_main_v60 val_main_v59
  generalize val_main_v38 (F := Ideal) x0 x1 x2 x3 x4 = u
  generalize val_main_v48 (F := Ideal) = w
  pointwise! [val_main_v58, val_main_v57, val_main_v56, val_main_v55, val_main_c_6, val_main_v54, val_main_v53, val_main_call2_v2, val_main_call2_v1, val_main_call2_v0, val_main_cst_7]
  exact congrArg (fun z : EReal => Scalar.select _ z _) (Ideal.ofBits_zero .f32)

theorem norm_apply (d : Fin 1024) : val_main_v69 (F := Ideal) x0 x1 x2 x3 x4 x5 (ix2 0 d) = invNorm (refAhead x0 x1 x2 x3 x4 x5 d) (refBehind x0 x1 x2 x3 x4 x5 d) := by
  have ea : refAhead x0 x1 x2 x3 x4 x5 d = fun s => val_main_v52 (F := Ideal) x0 x1 x2 x3 x4 x5 (ix2 s d) := funext fun s => (ahead_apply ..).symm
  have eb : refBehind x0 x1 x2 x3 x4 x5 d = fun s => val_main_v61 (F := Ideal) x0 x1 x2 x3 x4 x5 (ix2 s d) := funext fun s => (behind_apply ..).symm
  rw [ea, eb]
  unfold val_main_v69 val_main_v68 val_main_v67 val_main_v66 val_main_v65 val_main_v64 val_main_v63 val_main_v62
  generalize val_main_v52 (F := Ideal) x0 x1 x2 x3 x4 x5 = f
  generalize val_main_v61 (F := Ideal) x0 x1 x2 x3 x4 x5 = b
  pointwise! [val_main_cst_8, val_main_cst_9, invNorm]

theorem even_apply (r : Fin 2049) (d : Fin 1024) : val_main_v75 (F := Ideal) x0 x1 x2 x3 x4 x5 x6 (ix2 r d) =
    ∑ s, x6 (ix2 ⟨r.val, by omega⟩ s) * ((refAhead x0 x1 x2 x3 x4 x5 d s + refBehind x0 x1 x2 x3 x4 x5 d s) * invNorm (refAhead x0 x1 x2 x3 x4 x5 d) (refBehind x0 x1 x2 x3 x4 x5 d)) := by
  simp only [← norm_apply, ← ahead_apply, ← behind_apply]
  unfold val_main_v75 val_main_v74 val_main_v73 val_main_v72
  generalize val_main_v52 (F := Ideal) x0 x1 x2 x3 x4 x5 = f
  generalize val_main_v61 (F := Ideal) x0 x1 x2 x3 x4 x5 = b
  generalize val_main_v69 (F := Ideal) x0 x1 x2 x3 x4 x5 = n
  pointwise! [val_main_v71, val_main_v70]

theorem odd_apply (r : Fin 2047) (d : Fin 1024) : val_main_v80 (F := Ideal) x0 x1 x2 x3 x4 x5 x6 (ix2 r d) =
    ∑ s, x6 (ix2 ⟨2049 + r.val, by omega⟩ s) * ((refAhead x0 x1 x2 x3 x4 x5 d s - refBehind x0 x1 x2 x3 x4 x5 d s) * invNorm (refAhead x0 x1 x2 x3 x4 x5 d) (refBehind x0 x1 x2 x3 x4 x5 d)) := by
  simp only [← norm_apply, ← ahead_apply, ← behind_apply]
  unfold val_main_v80 val_main_v79 val_main_v78 val_main_v77
  generalize val_main_v52 (F := Ideal) x0 x1 x2 x3 x4 x5 = f
  generalize val_main_v61 (F := Ideal) x0 x1 x2 x3 x4 x5 = b
  generalize val_main_v69 (F := Ideal) x0 x1 x2 x3 x4 x5 = n
  pointwise! [val_main_v76, val_main_v70]

theorem rows_apply (r : Fin 4096) (d : Fin 1024) : val_main_v81 (F := Ideal) x0 x1 x2 x3 x4 x5 x6 (ix2 r d) =
    specRow (refAhead x0 x1 x2 x3 x4 x5 d) (refBehind x0 x1 x2 x3 x4 x5 d) r.val (fun s => x6 (ix2 r s)) := by
  unfold val_main_v81 specRow
  by_cases h : r.val < 2049
  · rw [if_pos h]
    refine Eq.trans ?_ (even_apply x0 x1 x2 x3 x4 x5 x6 ⟨r.val, h⟩ d)
    generalize val_main_v75 (F := Ideal) x0 x1 x2 x3 x4 x5 x6 = a
    generalize val_main_v80 (F := Ideal) x0 x1 x2 x3 x4 x5 x6 = b
    pointwise!
    rw [dif_pos h]
  · rw [if_neg h]
    have e : (⟨2049 + (r.val - 2049), by omega⟩ : Fin 4096) = r := Fin.ext (by show 2049 + (r.val - 2049) = r.val; omega)
    have o := odd_apply x0 x1 x2 x3 x4 x5 x6 ⟨r.val - 2049, by omega⟩ d
    simp only [e] at o
    refine Eq.trans ?_ o
    generalize val_main_v75 (F := Ideal) x0 x1 x2 x3 x4 x5 x6 = a
    generalize val_main_v80 (F := Ideal) x0 x1 x2 x3 x4 x5 x6 = b
    pointwise!
    rw [dif_neg h]

/-- The two results are one function of the arguments. -/
theorem result_eq (m : (ℓ : Loc Cert.KspecIdeal.nD Cert.KspecIdeal.τ Cert.KspecIdeal.sig) → Buf (Elt Ideal) ℓ) (c : Dev Cert.KspecIdeal.nD) :
    val_main_v81 (F := Ideal)
      (m ((c.tc : Thread Cert.KspecIdeal.nD Cert.KspecIdeal.τ).loc Cert.KspecIdeal.main_arg0))
      (m ((c.tc : Thread Cert.KspecIdeal.nD Cert.KspecIdeal.τ).loc Cert.KspecIdeal.main_arg1))
      (m ((c.tc : Thread Cert.KspecIdeal.nD Cert.KspecIdeal.τ).loc Cert.KspecIdeal.main_arg2))
      (m ((c.tc : Thread Cert.KspecIdeal.nD Cert.KspecIdeal.τ).loc Cert.KspecIdeal.main_arg3))
      (m ((c.tc : Thread Cert.KspecIdeal.nD Cert.KspecIdeal.τ).loc Cert.KspecIdeal.main_arg4))
      (m ((c.tc : Thread Cert.KspecIdeal.nD Cert.KspecIdeal.τ).loc Cert.KspecIdeal.main_arg5))
      (m ((c.tc : Thread Cert.KspecIdeal.nD Cert.KspecIdeal.τ).loc Cert.KspecIdeal.main_arg6)) = Cert.KspecIdeal.Terms.result m c := by
  funext i
  refine (congrArg _ (eq_ix2 i)).trans ?_
  exact rows_apply _ _ _ _ _ _ _ (i 0) (i 1)

end Cert.KspecRefIdeal.Rows

end
-- ==== Proof.lean ====
/-
  The claims about the calls of the layer, each put together from its value lemma and the row lemmas of its reference.
-/
module

public import proofs.«01_k».proof.Defs
public import proofs.«01_k».proof.Proof.Gen.Hy.Frame
public import proofs.«01_k».proof.Proof.HyRun
public import proofs.«01_k».proof.Proof.Gen.HyRefIdeal.Run
public import proofs.«01_k».proof.Proof.Gen.HyRefIdeal.Read
public import proofs.«01_k».proof.Proof.HyRefRow
public import proofs.«01_k».proof.Proof.Gen.Mlp.Frame
public import proofs.«01_k».proof.Proof.Gen.MlpIdeal.Value
public import proofs.«01_k».proof.Proof.Gen.MlpRefIdeal.Run
public import proofs.«01_k».proof.Proof.Gen.MlpRefIdeal.Read
public import proofs.«01_k».proof.Proof.MlpRefRow
public import proofs.«01_k».proof.Proof.InProjSame
public import proofs.«01_k».proof.Proof.InProjValue
public import proofs.«01_k».proof.Proof.Gen.InProj.Frame
public import proofs.«01_k».proof.Proof.InProjValue
public import proofs.«01_k».proof.Proof.Gen.InProjRefIdeal.Run
public import proofs.«01_k».proof.Proof.Gen.InProjRefIdeal.Read
public import proofs.«01_k».proof.Proof.InProjRefRow
public import proofs.«01_k».proof.Proof.Gen.Wout.Frame
public import proofs.«01_k».proof.Proof.Gen.WoutIdeal.Value
public import proofs.«01_k».proof.Proof.Gen.WoutRefIdeal.Run
public import proofs.«01_k».proof.Proof.Gen.WoutRefIdeal.Read
public import proofs.«01_k».proof.Proof.WoutRefRow
public import proofs.«01_k».proof.Proof.Gen.InCtx.Frame
public import proofs.«01_k».proof.Proof.Gen.InCtxIdeal.Value
public import proofs.«01_k».proof.Proof.Gen.InCtxRefIdeal.Run
public import proofs.«01_k».proof.Proof.Gen.InCtxRefIdeal.Read
public import proofs.«01_k».proof.Proof.InCtxRefRow
public import proofs.«01_k».proof.Proof.Gen.Ada.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.AdaRefRow
public import proofs.«01_k».proof.Proof.Gen.Hgrn.Frame
public import proofs.«01_k».proof.Proof.Gen.HgrnIdeal.Frame
public import proofs.«01_k».proof.Proof.Gen.Kspec.Frame
public import proofs.«01_k».proof.Proof.Gen.KspecIdeal.Value
public import proofs.«01_k».proof.Proof.Gen.KspecRefIdeal.Run
public import proofs.«01_k».proof.Proof.Gen.KspecRefIdeal.Read
public import proofs.«01_k».proof.Proof.KsRefRow
public import Idealize.ShloMosaic.Adequacy
public import Idealize.ShloMosaic.Init
public import Idealize.ShloMosaic.Lib.Quiescent

@[expose] public section

noncomputable section

namespace Cert.Proof

open Idealize.ShloMosaic Idealize.SL.Sem

theorem quiescent_HyRefIdeal : quiescent_HyRefIdeal := fun m ρ _ =>
  (θ_run Cert.HyRefIdeal.defs _ _).mono (fun r h => ⟨fun c => (h c).2, sem_eq_zero_of_no_sems (by decide) r.2⟩)
    (Cert.HyRefIdeal.Value.run (F := Ideal) m ρ)

theorem algebraic_HyIdeal_HyRefIdeal : algebraic_HyIdeal_HyRefIdeal := by
  intro m ρ m' ρ' _ hagree
  refine ⟨_, Cert.HyIdeal.Terms.run m ρ, ?_⟩
  refine (θ_run Cert.HyRefIdeal.defs _ _).mono (fun _ h c => ⟨?_, (h c).2⟩) (Cert.HyRefIdeal.Value.run (F := Ideal) m' ρ')
  rw [(h c).1, Cert.HyRefIdeal.Read.val_main_v85_eq]
  obtain ⟨e0, e1, e2, e3, e4, e5⟩ := hagree c
  rw [e0, e1, e2, e3, e4, e5]
  exact Cert.HyRefIdeal.Rows.result_eq m c

theorem quiescent_MlpRefIdeal : quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

theorem algebraic_MlpIdeal_MlpRefIdeal : algebraic_MlpIdeal_MlpRefIdeal := by
  intro m ρ m' ρ' _ hagree
  refine ⟨_, Cert.MlpIdeal.Value.run (F := Ideal) m ρ, ?_⟩
  refine (θ_run Cert.MlpRefIdeal.defs _ _).mono (fun _ h c => ⟨?_, (h c).2⟩) (Cert.MlpRefIdeal.Value.run (F := Ideal) m' ρ')
  rw [(h c).1, Cert.MlpRefIdeal.Read.val_main_v45_eq]
  obtain ⟨e0, e1, e2, e3, e4, e5, e6, e7⟩ := hagree c
  rw [e0, e1, e2, e3, e4, e5, e6, e7]
  exact Cert.MlpRefIdeal.Rows.result_eq m c

theorem quiescent_InProjRefIdeal : quiescent_InProjRefIdeal := fun m ρ _ =>
  (θ_run Cert.InProjRefIdeal.defs _ _).mono (fun r h => ⟨fun c => (h c).2.2.2.2, sem_eq_zero_of_no_sems (by decide) r.2⟩)
    (Cert.InProjRefIdeal.Value.run (F := Ideal) m ρ)

theorem algebraic_InProjIdeal_InProjRefIdeal : algebraic_InProjIdeal_InProjRefIdeal := by
  intro m ρ m' ρ' _ hagree
  refine ⟨_, _, _, _, Cert.InProjIdeal.Rows.run m ρ, ?_⟩
  refine (θ_run Cert.InProjRefIdeal.defs _ _).mono (fun _ h c => ⟨?_, ?_, ?_, ?_, (h c).2.2.2.2⟩) (Cert.InProjRefIdeal.Value.run (F := Ideal) m' ρ')
  · rw [(h c).1, Cert.InProjRefIdeal.Read.val_main_v24_eq]
    obtain ⟨e0, e1, e2, e3, e4, e5, e6, e7⟩ := hagree c
    rw [e0, e1, e2, e3, e4]
    exact Cert.InProjRefIdeal.Rows.product_eq m c
  · rw [(h c).2.1, Cert.InProjRefIdeal.Read.val_main_v26_eq, (hagree c).2.2.2.2.2.1]
    exact Cert.InProjRefIdeal.Rows.weight9_eq m c
  · rw [(h c).2.2.1, Cert.InProjRefIdeal.Read.val_main_v28_eq, (hagree c).2.2.2.2.2.2.1]
    exact Cert.InProjRefIdeal.Rows.weight10_eq m c
  · rw [(h c).2.2.2.1, Cert.InProjRefIdeal.Read.val_main_v30_eq, (hagree c).2.2.2.2.2.2.2]
    exact Cert.InProjRefIdeal.Rows.weight11_eq m c

theorem quiescent_WoutRefIdeal : quiescent_WoutRefIdeal := fun m ρ _ =>
  (θ_run Cert.WoutRefIdeal.defs _ _).mono (fun r h => ⟨fun c => (h c).2, sem_eq_zero_of_no_sems (by decide) r.2⟩)
    (Cert.WoutRefIdeal.Value.run (F := Ideal) m ρ)

theorem algebraic_WoutIdeal_WoutRefIdeal : algebraic_WoutIdeal_WoutRefIdeal := by
  intro m ρ m' ρ' _ hagree
  refine ⟨_, Cert.WoutIdeal.Value.run_blocks (F := Ideal) m ρ, ?_⟩
  refine (θ_run Cert.WoutRefIdeal.defs _ _).mono (fun _ h c => ⟨?_, (h c).2⟩) (Cert.WoutRefIdeal.Value.run (F := Ideal) m' ρ')
  rw [(h c).1, Cert.WoutRefIdeal.Read.val_main_v9_eq]
  obtain ⟨e0, e1, e2, e3, e4, e5⟩ := hagree c
  rw [e0, e1, e2, e3, e4, e5]
  exact (Cert.WoutRefIdeal.Rows.result_eq m c).trans (Cert.WoutIdeal.Terms.arr_eq m c).symm

theorem quiescent_InCtxRefIdeal : quiescent_InCtxRefIdeal := fun m ρ _ =>
  (θ_run Cert.InCtxRefIdeal.defs _ _).mono (fun r h => ⟨fun c => (h c).2, sem_eq_zero_of_no_sems (by decide) r.2⟩)
    (Cert.InCtxRefIdeal.Value.run (F := Ideal) m ρ)

theorem algebraic_InCtxIdeal_InCtxRefIdeal : algebraic_InCtxIdeal_InCtxRefIdeal := by
  intro m ρ m' ρ' _ hagree
  refine ⟨_, Cert.InCtxIdeal.Value.run_blocks (F := Ideal) m ρ, ?_⟩
  refine (θ_run Cert.InCtxRefIdeal.defs _ _).mono (fun _ h c => ⟨?_, (h c).2⟩) (Cert.InCtxRefIdeal.Value.run (F := Ideal) m' ρ')
  rw [(h c).1, Cert.InCtxRefIdeal.Read.val_main_v27_eq]
  obtain ⟨e0, e1, e2, e3, e4⟩ := hagree c
  rw [e0, e1, e2, e3, e4]
  exact (Cert.InCtxRefIdeal.Rows.result_eq m c).trans (Cert.InCtxIdeal.Terms.arr_eq m c).symm

theorem quiescent_AdaRefIdeal : quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

theorem algebraic_AdaIdeal_AdaRefIdeal : algebraic_AdaIdeal_AdaRefIdeal_pre_finite_modulation := by
  intro m ρ m' ρ' hpre hagree
  refine ⟨_, Cert.AdaIdeal.Value.run_blocks (F := Ideal) m ρ, ?_⟩
  refine (θ_run Cert.AdaRefIdeal.defs _ _).mono (fun _ h c => ⟨?_, (h c).2⟩) (Cert.AdaRefIdeal.Value.run (F := Ideal) m' ρ')
  rw [(h c).1, Cert.AdaRefIdeal.Read.val_main_v15_eq]
  obtain ⟨e0, e1, e2, e3⟩ := hagree c
  rw [e0, e1, e2, e3]
  exact (Cert.AdaRefIdeal.Rows.result_eq m c).trans (Cert.AdaIdeal.Terms.arr_eq (Cert.AdaIdeal.Terms.ok_of (hpre c))).symm

theorem quiescent_KspecRefIdeal : quiescent_KspecRefIdeal := fun m ρ _ =>
  (θ_run Cert.KspecRefIdeal.defs _ _).mono (fun r h => ⟨fun c => (h c).2, sem_eq_zero_of_no_sems (by decide) r.2⟩)
    (Cert.KspecRefIdeal.Value.run (F := Ideal) m ρ)

theorem algebraic_KspecIdeal_KspecRefIdeal : algebraic_KspecIdeal_KspecRefIdeal_pre_finite_filter := by
  intro m ρ m' ρ' hpre hagree
  refine ⟨_, Cert.KspecIdeal.Value.run_blocks (F := Ideal) m ρ, ?_⟩
  refine (θ_run Cert.KspecRefIdeal.defs _ _).mono (fun _ h c => ⟨?_, (h c).2⟩) (Cert.KspecRefIdeal.Value.run (F := Ideal) m' ρ')
  rw [(h c).1, Cert.KspecRefIdeal.Read.val_main_v81_eq]
  obtain ⟨e0, e1, e2, e3, e4, e5, e6⟩ := hagree c
  rw [e0, e1, e2, e3, e4, e5, e6]
  exact (Cert.KspecRefIdeal.Rows.result_eq m c).trans (Cert.KspecIdeal.Terms.arr_eq (Cert.KspecIdeal.Terms.ok_of (hpre c))).symm

theorem claim : Cert.Claim := ⟨Cert.Hy.Gen.facts, Cert.HyIdeal.Gen.facts, Cert.HyRefIdeal.Gen.facts, Cert.Mlp.Gen.facts, Cert.MlpIdeal.Gen.facts, Cert.MlpRefIdeal.Gen.facts, Cert.InProj.Gen.facts, Cert.InProjIdeal.Gen.facts, Cert.InProjRefIdeal.Gen.facts, Cert.Wout.Gen.facts, Cert.WoutIdeal.Gen.facts, Cert.WoutRefIdeal.Gen.facts, Cert.InCtx.Gen.facts, Cert.InCtxIdeal.Gen.facts, Cert.InCtxRefIdeal.Gen.facts, Cert.Ada.Gen.facts, Cert.AdaIdeal.Gen.facts, Cert.AdaRefIdeal.Gen.facts, Cert.Hgrn.Gen.facts, Cert.HgrnIdeal.Gen.facts, Cert.Kspec.Gen.facts, Cert.KspecIdeal.Gen.facts, Cert.KspecRefIdeal.Gen.facts, Cert.Pre_finite_modulation.Gen.facts, Cert.Pre_finite_filter.Gen.facts,
  fun m ρ _ => Cert.Hy.Gen.frame m ρ, fun m ρ _ => Cert.HyIdeal.Gen.frame m ρ, quiescent_HyRefIdeal, fun m ρ _ => Cert.Mlp.Gen.frame m ρ, fun m ρ _ => Cert.MlpIdeal.Gen.frame m ρ, quiescent_MlpRefIdeal, fun m ρ _ => Cert.InProjSame.frame m ρ, fun m ρ _ => Cert.InProjIdeal.Rows.frame m ρ, quiescent_InProjRefIdeal, fun m ρ _ => Cert.Wout.Gen.frame m ρ, fun m ρ _ => Cert.WoutIdeal.Gen.frame m ρ, quiescent_WoutRefIdeal, fun m ρ _ => Cert.InCtx.Gen.frame m ρ, fun m ρ _ => Cert.InCtxIdeal.Gen.frame m ρ, quiescent_InCtxRefIdeal, fun m ρ _ => Cert.Ada.Gen.frame m ρ, fun m ρ _ => Cert.AdaIdeal.Gen.frame m ρ, fun m ρ _ => Cert.AdaIdeal.Gen.frame m ρ, quiescent_AdaRefIdeal, fun m ρ _ => quiescent_AdaRefIdeal m ρ trivial, fun m ρ _ => Cert.Hgrn.Gen.frame m ρ, fun m ρ _ => Cert.HgrnIdeal.Gen.frame m ρ, fun m ρ _ => Cert.Kspec.Gen.frame m ρ, fun m ρ _ => Cert.KspecIdeal.Gen.frame m ρ, fun m ρ _ => Cert.KspecIdeal.Gen.frame m ρ, quiescent_KspecRefIdeal, fun m ρ _ => quiescent_KspecRefIdeal m ρ trivial,
  (trivial : preserves_Hy_HyIdeal), algebraic_HyIdeal_HyRefIdeal, (trivial : preserves_Mlp_MlpIdeal), algebraic_MlpIdeal_MlpRefIdeal, (trivial : preserves_InProj_InProjIdeal), algebraic_InProjIdeal_InProjRefIdeal, (trivial : preserves_Wout_WoutIdeal), algebraic_WoutIdeal_WoutRefIdeal, (trivial : preserves_InCtx_InCtxIdeal), algebraic_InCtxIdeal_InCtxRefIdeal, (trivial : preserves_Ada_AdaIdeal), algebraic_AdaIdeal_AdaRefIdeal, (trivial : preserves_Hgrn_HgrnIdeal), (trivial : preserves_Kspec_KspecIdeal), algebraic_KspecIdeal_KspecRefIdeal⟩

end Cert.Proof

end
